-- ==== Defs.lean ====
def Pre_Kernel [hPre_names_experts : Cert.Pre_names_experts.Facts] (m : (ℓ : Loc Cert.Kernel.nD Cert.Kernel.τ Cert.Kernel.sig) → Buf (Elt Bits) ℓ) : Prop :=
  ∀ c : Dev Cert.Kernel.nD,
    (Cert.Pre_names_experts.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_names_experts : Cert.Pre_names_experts.Facts] (m : (ℓ : Loc Cert.KernelIdeal.nD Cert.KernelIdeal.τ Cert.KernelIdeal.sig) → Buf (Elt Ideal) ℓ) : Prop :=
  ∀ c : Dev Cert.KernelIdeal.nD,
    (Cert.Pre_names_experts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_names_experts : Cert.Pre_names_experts.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_names_experts.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_scores_finite [hPre_scores_finite : Cert.Pre_scores_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_scores_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_scores_finite [hPre_scores_finite : Cert.Pre_scores_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_scores_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_heads_finite [hPre_heads_finite : Cert.Pre_heads_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_heads_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_heads_finite [hPre_heads_finite : Cert.Pre_heads_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_heads_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 [hPre_names_rows : Cert.Pre_names_rows.Facts] (m : (ℓ : Loc Cert.Kernel8.nD Cert.Kernel8.τ Cert.Kernel8.sig) → Buf (Elt Bits) ℓ) : Prop :=
  ∀ c : Dev Cert.Kernel8.nD,
    (Cert.Pre_names_rows.fn (F := Bits) (m ((c.tc : Thread Cert.Kernel8.nD Cert.Kernel8.τ).loc Cert.Kernel8.main_arg0)) (m ((c.tc : Thread Cert.Kernel8.nD Cert.Kernel8.τ).loc Cert.Kernel8.main_arg1)) (m ((c.tc : Thread Cert.Kernel8.nD Cert.Kernel8.τ).loc Cert.Kernel8.main_arg2)) (m ((c.tc : Thread Cert.Kernel8.nD Cert.Kernel8.τ).loc Cert.Kernel8.main_arg3)) (m ((c.tc : Thread Cert.Kernel8.nD Cert.Kernel8.τ).loc Cert.Kernel8.main_arg4))) = (fun _ => 1#1)

def Pre_Kernel8Ideal [hPre_names_rows : Cert.Pre_names_rows.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_names_rows.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))) = (fun _ => 1#1)

def Pre_Reference8Ideal [hPre_names_rows : Cert.Pre_names_rows.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_names_rows.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))) = (fun _ => 1#1)

def quiescent_Kernel [hKernel : Cert.Kernel.Facts] [hPre_names_experts : Cert.Pre_names_experts.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_names_experts : Cert.Pre_names_experts.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] [hPre_names_experts : Cert.Pre_names_experts.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_scores_finite [hKernel2Ideal : Cert.Kernel2Ideal.Facts] [hPre_scores_finite : Cert.Pre_scores_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_scores_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_scores_finite [hReference2Ideal : Cert.Reference2Ideal.Facts] [hPre_scores_finite : Cert.Pre_scores_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_scores_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14)
      ∧ r.2.mem ((c.tc : Thread Cert.Kernel5.nD Cert.Kernel5.τ).loc Cert.Kernel5.main_arg15) = m ((c.tc : Thread Cert.Kernel5.nD Cert.Kernel5.τ).loc Cert.Kernel5.main_arg15)
      ∧ r.2.mem ((c.tc : Thread Cert.Kernel5.nD Cert.Kernel5.τ).loc Cert.Kernel5.main_arg16) = m ((c.tc : Thread Cert.Kernel5.nD Cert.Kernel5.τ).loc Cert.Kernel5.main_arg16)
      ∧ r.2.mem ((c.tc : Thread Cert.Kernel5.nD Cert.Kernel5.τ).loc Cert.Kernel5.main_arg17) = m ((c.tc : Thread Cert.Kernel5.nD Cert.Kernel5.τ).loc Cert.Kernel5.main_arg17)
      ∧ r.2.mem ((c.tc : Thread Cert.Kernel5.nD Cert.Kernel5.τ).loc Cert.Kernel5.main_arg18) = m ((c.tc : Thread Cert.Kernel5.nD Cert.Kernel5.τ).loc Cert.Kernel5.main_arg18)
      ∧ r.2.mem ((c.tc : Thread Cert.Kernel5.nD Cert.Kernel5.τ).loc Cert.Kernel5.main_arg19) = m ((c.tc : Thread Cert.Kernel5.nD Cert.Kernel5.τ).loc Cert.Kernel5.main_arg19))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
      ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16)
      ∧ r.2.mem ((c.tc : Thread Cert.Kernel5Ideal.nD Cert.Kernel5Ideal.τ).loc Cert.Kernel5Ideal.main_arg17) = m ((c.tc : Thread Cert.Kernel5Ideal.nD Cert.Kernel5Ideal.τ).loc Cert.Kernel5Ideal.main_arg17)
      ∧ r.2.mem ((c.tc : Thread Cert.Kernel5Ideal.nD Cert.Kernel5Ideal.τ).loc Cert.Kernel5Ideal.main_arg18) = m ((c.tc : Thread Cert.Kernel5Ideal.nD Cert.Kernel5Ideal.τ).loc Cert.Kernel5Ideal.main_arg18)
      ∧ r.2.mem ((c.tc : Thread Cert.Kernel5Ideal.nD Cert.Kernel5Ideal.τ).loc Cert.Kernel5Ideal.main_arg19) = m ((c.tc : Thread Cert.Kernel5Ideal.nD Cert.Kernel5Ideal.τ).loc Cert.Kernel5Ideal.main_arg19))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15)
      ∧ r.2.mem ((c.tc : Thread Cert.Reference5Ideal.nD Cert.Reference5Ideal.τ).loc Cert.Reference5Ideal.main_arg16) = m ((c.tc : Thread Cert.Reference5Ideal.nD Cert.Reference5Ideal.τ).loc Cert.Reference5Ideal.main_arg16)
      ∧ r.2.mem ((c.tc : Thread Cert.Reference5Ideal.nD Cert.Reference5Ideal.τ).loc Cert.Reference5Ideal.main_arg17) = m ((c.tc : Thread Cert.Reference5Ideal.nD Cert.Reference5Ideal.τ).loc Cert.Reference5Ideal.main_arg17)
      ∧ r.2.mem ((c.tc : Thread Cert.Reference5Ideal.nD Cert.Reference5Ideal.τ).loc Cert.Reference5Ideal.main_arg18) = m ((c.tc : Thread Cert.Reference5Ideal.nD Cert.Reference5Ideal.τ).loc Cert.Reference5Ideal.main_arg18)
      ∧ r.2.mem ((c.tc : Thread Cert.Reference5Ideal.nD Cert.Reference5Ideal.τ).loc Cert.Reference5Ideal.main_arg19) = m ((c.tc : Thread Cert.Reference5Ideal.nD Cert.Reference5Ideal.τ).loc Cert.Reference5Ideal.main_arg19))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Kernel6Ideal_pre_heads_finite [hKernel6Ideal : Cert.Kernel6Ideal.Facts] [hPre_heads_finite : Cert.Pre_heads_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_heads_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Reference6Ideal_pre_heads_finite [hReference6Ideal : Cert.Reference6Ideal.Facts] [hPre_heads_finite : Cert.Pre_heads_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_heads_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] [hPre_names_rows : Cert.Pre_names_rows.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] [hPre_names_rows : Cert.Pre_names_rows.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] [hPre_names_rows : Cert.Pre_names_rows.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_names_experts : Cert.Pre_names_experts.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_scores_finite [hKernel2Ideal : Cert.Kernel2Ideal.Facts] [hReference2Ideal : Cert.Reference2Ideal.Facts] [hPre_scores_finite : Cert.Pre_scores_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_scores_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v12) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v35) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)
      ∧ m' ((c.tc : Thread Cert.Reference5Ideal.nD Cert.Reference5Ideal.τ).loc Cert.Reference5Ideal.main_arg15) = m ((c.tc : Thread Cert.Kernel5Ideal.nD Cert.Kernel5Ideal.τ).loc Cert.Kernel5Ideal.main_arg15)
      ∧ m' ((c.tc : Thread Cert.Reference5Ideal.nD Cert.Reference5Ideal.τ).loc Cert.Reference5Ideal.main_arg16) = m ((c.tc : Thread Cert.Kernel5Ideal.nD Cert.Kernel5Ideal.τ).loc Cert.Kernel5Ideal.main_arg16)
      ∧ m' ((c.tc : Thread Cert.Reference5Ideal.nD Cert.Reference5Ideal.τ).loc Cert.Reference5Ideal.main_arg17) = m ((c.tc : Thread Cert.Kernel5Ideal.nD Cert.Kernel5Ideal.τ).loc Cert.Kernel5Ideal.main_arg17)
      ∧ m' ((c.tc : Thread Cert.Reference5Ideal.nD Cert.Reference5Ideal.τ).loc Cert.Reference5Ideal.main_arg18) = m ((c.tc : Thread Cert.Kernel5Ideal.nD Cert.Kernel5Ideal.τ).loc Cert.Kernel5Ideal.main_arg18)
      ∧ m' ((c.tc : Thread Cert.Reference5Ideal.nD Cert.Reference5Ideal.τ).loc Cert.Reference5Ideal.main_arg19) = m ((c.tc : Thread Cert.Kernel5Ideal.nD Cert.Kernel5Ideal.τ).loc Cert.Kernel5Ideal.main_arg19)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)) (v4 : (c : Dev Cert.Kernel5Ideal.nD) → Buf (Elt Ideal) ((c.tc : Thread Cert.Kernel5Ideal.nD Cert.Kernel5Ideal.τ).loc Cert.Kernel5Ideal.main_v0_4)) (v5 : (c : Dev Cert.Kernel5Ideal.nD) → Buf (Elt Ideal) ((c.tc : Thread Cert.Kernel5Ideal.nD Cert.Kernel5Ideal.τ).loc Cert.Kernel5Ideal.main_v0_5)) (v6 : (c : Dev Cert.Kernel5Ideal.nD) → Buf (Elt Ideal) ((c.tc : Thread Cert.Kernel5Ideal.nD Cert.Kernel5Ideal.τ).loc Cert.Kernel5Ideal.main_v0_6)) (v7 : (c : Dev Cert.Kernel5Ideal.nD) → Buf (Elt Ideal) ((c.tc : Thread Cert.Kernel5Ideal.nD Cert.Kernel5Ideal.τ).loc Cert.Kernel5Ideal.main_v0_7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_v0_4) = v4 c
          ∧ r.2.mem ((c.tc : Thread Cert.Kernel5Ideal.nD Cert.Kernel5Ideal.τ).loc Cert.Kernel5Ideal.main_v0_5) = v5 c
          ∧ r.2.mem ((c.tc : Thread Cert.Kernel5Ideal.nD Cert.Kernel5Ideal.τ).loc Cert.Kernel5Ideal.main_v0_6) = v6 c
          ∧ r.2.mem ((c.tc : Thread Cert.Kernel5Ideal.nD Cert.Kernel5Ideal.τ).loc Cert.Kernel5Ideal.main_v0_7) = v7 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
          ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
          ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
          ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16)
          ∧ r.2.mem ((c.tc : Thread Cert.Kernel5Ideal.nD Cert.Kernel5Ideal.τ).loc Cert.Kernel5Ideal.main_arg17) = m ((c.tc : Thread Cert.Kernel5Ideal.nD Cert.Kernel5Ideal.τ).loc Cert.Kernel5Ideal.main_arg17)
          ∧ r.2.mem ((c.tc : Thread Cert.Kernel5Ideal.nD Cert.Kernel5Ideal.τ).loc Cert.Kernel5Ideal.main_arg18) = m ((c.tc : Thread Cert.Kernel5Ideal.nD Cert.Kernel5Ideal.τ).loc Cert.Kernel5Ideal.main_arg18)
          ∧ r.2.mem ((c.tc : Thread Cert.Kernel5Ideal.nD Cert.Kernel5Ideal.τ).loc Cert.Kernel5Ideal.main_arg19) = m ((c.tc : Thread Cert.Kernel5Ideal.nD Cert.Kernel5Ideal.τ).loc Cert.Kernel5Ideal.main_arg19))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v177) = v0 c
          ∧ r.2.mem ((c.tc : Thread Cert.Reference5Ideal.nD Cert.Reference5Ideal.τ).loc Cert.Reference5Ideal.main_v178) = v1 c
          ∧ r.2.mem ((c.tc : Thread Cert.Reference5Ideal.nD Cert.Reference5Ideal.τ).loc Cert.Reference5Ideal.main_v179) = v2 c
          ∧ r.2.mem ((c.tc : Thread Cert.Reference5Ideal.nD Cert.Reference5Ideal.τ).loc Cert.Reference5Ideal.main_v180) = v3 c
          ∧ r.2.mem ((c.tc : Thread Cert.Reference5Ideal.nD Cert.Reference5Ideal.τ).loc Cert.Reference5Ideal.main_v173) = v4 c
          ∧ r.2.mem ((c.tc : Thread Cert.Reference5Ideal.nD Cert.Reference5Ideal.τ).loc Cert.Reference5Ideal.main_v176) = v5 c
          ∧ r.2.mem ((c.tc : Thread Cert.Reference5Ideal.nD Cert.Reference5Ideal.τ).loc Cert.Reference5Ideal.main_v45) = v6 c
          ∧ r.2.mem ((c.tc : Thread Cert.Reference5Ideal.nD Cert.Reference5Ideal.τ).loc Cert.Reference5Ideal.main_v47) = v7 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13)
          ∧ r.2.mem ((c.tc : Thread Cert.Reference5Ideal.nD Cert.Reference5Ideal.τ).loc Cert.Reference5Ideal.main_arg14) = m' ((c.tc : Thread Cert.Reference5Ideal.nD Cert.Reference5Ideal.τ).loc Cert.Reference5Ideal.main_arg14)
          ∧ r.2.mem ((c.tc : Thread Cert.Reference5Ideal.nD Cert.Reference5Ideal.τ).loc Cert.Reference5Ideal.main_arg15) = m' ((c.tc : Thread Cert.Reference5Ideal.nD Cert.Reference5Ideal.τ).loc Cert.Reference5Ideal.main_arg15)
          ∧ r.2.mem ((c.tc : Thread Cert.Reference5Ideal.nD Cert.Reference5Ideal.τ).loc Cert.Reference5Ideal.main_arg16) = m' ((c.tc : Thread Cert.Reference5Ideal.nD Cert.Reference5Ideal.τ).loc Cert.Reference5Ideal.main_arg16)
          ∧ r.2.mem ((c.tc : Thread Cert.Reference5Ideal.nD Cert.Reference5Ideal.τ).loc Cert.Reference5Ideal.main_arg17) = m' ((c.tc : Thread Cert.Reference5Ideal.nD Cert.Reference5Ideal.τ).loc Cert.Reference5Ideal.main_arg17)
          ∧ r.2.mem ((c.tc : Thread Cert.Reference5Ideal.nD Cert.Reference5Ideal.τ).loc Cert.Reference5Ideal.main_arg18) = m' ((c.tc : Thread Cert.Reference5Ideal.nD Cert.Reference5Ideal.τ).loc Cert.Reference5Ideal.main_arg18)
          ∧ r.2.mem ((c.tc : Thread Cert.Reference5Ideal.nD Cert.Reference5Ideal.τ).loc Cert.Reference5Ideal.main_arg19) = m' ((c.tc : Thread Cert.Reference5Ideal.nD Cert.Reference5Ideal.τ).loc Cert.Reference5Ideal.main_arg19))

def preserves_Kernel6_Kernel6Ideal : Prop :=
  True

def algebraic_Kernel6Ideal_Reference6Ideal_pre_heads_finite [hKernel6Ideal : Cert.Kernel6Ideal.Facts] [hReference6Ideal : Cert.Reference6Ideal.Facts] [hPre_heads_finite : Cert.Pre_heads_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_heads_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v54) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v22) = v0 c
          ∧ r.2.mem ((c.tc : Thread Cert.Reference7Ideal.nD Cert.Reference7Ideal.τ).loc Cert.Reference7Ideal.main_v23) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] [hPre_names_rows : Cert.Pre_names_rows.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v37) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_names_experts : Cert.Pre_names_experts.Facts) (hPre_scores_finite : Cert.Pre_scores_finite.Facts) (hPre_heads_finite : Cert.Pre_heads_finite.Facts) (hPre_names_rows : Cert.Pre_names_rows.Facts),
    quiescent_Kernel (hKernel := hKernel) (hPre_names_experts := hPre_names_experts)
    ∧ quiescent_KernelIdeal (hKernelIdeal := hKernelIdeal) (hPre_names_experts := hPre_names_experts)
    ∧ quiescent_ReferenceIdeal (hReferenceIdeal := hReferenceIdeal) (hPre_names_experts := hPre_names_experts)
    ∧ quiescent_Kernel2 (hKernel2 := hKernel2)
    ∧ quiescent_Kernel2Ideal (hKernel2Ideal := hKernel2Ideal)
    ∧ quiescent_Kernel2Ideal_pre_scores_finite (hKernel2Ideal := hKernel2Ideal) (hPre_scores_finite := hPre_scores_finite)
    ∧ quiescent_Reference2Ideal (hReference2Ideal := hReference2Ideal)
    ∧ quiescent_Reference2Ideal_pre_scores_finite (hReference2Ideal := hReference2Ideal) (hPre_scores_finite := hPre_scores_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_heads_finite (hKernel6Ideal := hKernel6Ideal) (hPre_heads_finite := hPre_heads_finite)
    ∧ quiescent_Reference6Ideal (hReference6Ideal := hReference6Ideal)
    ∧ quiescent_Reference6Ideal_pre_heads_finite (hReference6Ideal := hReference6Ideal) (hPre_heads_finite := hPre_heads_finite)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8) (hPre_names_rows := hPre_names_rows)
    ∧ quiescent_Kernel8Ideal (hKernel8Ideal := hKernel8Ideal) (hPre_names_rows := hPre_names_rows)
    ∧ quiescent_Reference8Ideal (hReference8Ideal := hReference8Ideal) (hPre_names_rows := hPre_names_rows)
    ∧ preserves_Kernel_KernelIdeal
    ∧ algebraic_KernelIdeal_ReferenceIdeal (hKernelIdeal := hKernelIdeal) (hReferenceIdeal := hReferenceIdeal) (hPre_names_experts := hPre_names_experts)
    ∧ preserves_Kernel2_Kernel2Ideal
    ∧ algebraic_Kernel2Ideal_Reference2Ideal_pre_scores_finite (hKernel2Ideal := hKernel2Ideal) (hReference2Ideal := hReference2Ideal) (hPre_scores_finite := hPre_scores_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_heads_finite (hKernel6Ideal := hKernel6Ideal) (hReference6Ideal := hReference6Ideal) (hPre_heads_finite := hPre_heads_finite)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal) (hPre_names_rows := hPre_names_rows)
-- ==== Pre_heads_finite.lean ====
abbrev S12288x1024 : Shape := ⟨2, ![12288, 1024]⟩
abbrev S12288x512 : Shape := ⟨2, ![12288, 512]⟩
abbrev S4096x1024 : Shape := ⟨2, ![4096, 1024]⟩
abbrev S_ : Shape := ⟨0, ![]⟩
abbrev S4096x512 : Shape := ⟨2, ![4096, 512]⟩

class Facts : Prop where
  slices_S12288x1024_S4096x1024_0_0 : S12288x1024.Slices ![0, 0] S4096x1024
  bitsLt_bf16_f32 : FTy.bits .bf16 < FTy.bits .f32
  bcast_S_S4096x1024 : S_.BroadcastsInDim S4096x1024 (![] : Fin 0 → Fin S4096x1024.rank)
  slices_S12288x512_S4096x512_0_0 : S12288x512.Slices ![0, 0] S4096x512
  bcast_S_S4096x512 : S_.BroadcastsInDim S4096x512 (![] : Fin 0 → Fin S4096x512.rank)
  concatenates_S4096x512_S4096x512_S4096x1024_d1 : Shape.Concatenates [S4096x512, S4096x512] S4096x1024 1
  concatenates_S4096x1024_S4096x1024_S4096x1024_S12288x1024_d0 : Shape.Concatenates [S4096x1024, S4096x1024, S4096x1024] S12288x1024 0

variable [Facts]

def fn_part1 {F : FTy → Type} [FloatOps F] (main_v4 : IVec S4096x1024 1) (main_v9 : IVec S4096x1024 1) (main_v19 : IVec S4096x1024 1) : IVec S12288x1024 1 :=
  let main_v20 : IVec S12288x1024 1 := concatenate S12288x1024 0 [⟨S4096x1024, main_v4⟩, ⟨S4096x1024, main_v9⟩, ⟨S4096x1024, main_v19⟩] concatenates_S4096x1024_S4096x1024_S4096x1024_S12288x1024_d0
  main_v20

def fn {F : FTy → Type} [FloatOps F] (main_arg0 : FVec F S12288x1024 .bf16) (main_arg1 : FVec F S12288x1024 .bf16) (main_arg2 : FVec F S12288x512 .bf16) (main_arg3 : FVec F S12288x512 .bf16) (main_arg4 : FVec F S12288x512 .f32) (main_arg5 : FVec F S12288x512 .f32) (main_arg6 : FVec F S12288x1024 .bf16) : IVec S12288x1024 1 :=
  let main_v0 : FVec F S4096x1024 .bf16 := (extractStridedSlice S4096x1024 ![0, 0] · slices_S12288x1024_S4096x1024_0_0) main_arg0
  let main_v1 : FVec F S4096x1024 .f32 := (extf .f32 · bitsLt_bf16_f32) main_v0
  let main_v2 : FVec F S4096x1024 .f32 := Host.absf main_v1
  let main_cst : FVec F S_ .f32 := constant S_ .f32 0x7F800000#32
  let main_v3 : FVec F S4096x1024 .f32 := broadcastInDim S4096x1024 ![] bcast_S_S4096x1024 main_cst
  let main_v4 : IVec S4096x1024 1 := cmpf .olt main_v2 main_v3
  let main_v5 : FVec F S4096x1024 .bf16 := (extractStridedSlice S4096x1024 ![0, 0] · slices_S12288x1024_S4096x1024_0_0) main_arg1
  let main_v6 : FVec F S4096x1024 .f32 := (extf .f32 · bitsLt_bf16_f32) main_v5
  let main_v7 : FVec F S4096x1024 .f32 := Host.absf main_v6
  let main_cst_0 : FVec F S_ .f32 := constant S_ .f32 0x7F800000#32
  let main_v8 : FVec F S4096x1024 .f32 := broadcastInDim S4096x1024 ![] bcast_S_S4096x1024 main_cst_0
  let main_v9 : IVec S4096x1024 1 := cmpf .olt main_v7 main_v8
  let main_v10 : FVec F S4096x512 .bf16 := (extractStridedSlice S4096x512 ![0, 0] · slices_S12288x512_S4096x512_0_0) main_arg3
  let main_v11 : FVec F S4096x512 .f32 := (extf .f32 · bitsLt_bf16_f32) main_v10
  let main_v12 : FVec F S4096x512 .f32 := Host.absf main_v11
  let main_cst_1 : FVec F S_ .f32 := constant S_ .f32 0x7F800000#32
  let main_v13 : FVec F S4096x512 .f32 := broadcastInDim S4096x512 ![] bcast_S_S4096x512 main_cst_1
  let main_v14 : IVec S4096x512 1 := cmpf .olt main_v12 main_v13
  let main_v15 : FVec F S4096x512 .f32 := (extractStridedSlice S4096x512 ![0, 0] · slices_S12288x512_S4096x512_0_0) main_arg4
  let main_v16 : FVec F S4096x512 .f32 := Host.absf main_v15
  let main_cst_2 : FVec F S_ .f32 := constant S_ .f32 0x7F800000#32
  let main_v17 : FVec F S4096x512 .f32 := broadcastInDim S4096x512 ![] bcast_S_S4096x512 main_cst_2
  let main_v18 : IVec S4096x512 1 := cmpf .olt main_v16 main_v17
  let main_v19 : IVec S4096x1024 1 := (fun a b => concatenate S4096x1024 1 [⟨S4096x512, a⟩, ⟨S4096x512, b⟩] concatenates_S4096x512_S4096x512_S4096x1024_d1) main_v14 main_v18
  fn_part1 (F := F) main_v4 main_v9 main_v19
-- ==== Pre_names_experts.lean ====
abbrev S129 : Shape := ⟨1, ![129]⟩
abbrev S32768x1024 : Shape := ⟨2, ![32768, 1024]⟩
abbrev S32x1024x256 : Shape := ⟨3, ![32, 1024, 256]⟩
abbrev S32x256x1024 : Shape := ⟨3, ![32, 256, 1024]⟩
abbrev S128 : Shape := ⟨1, ![128]⟩
abbrev S_ : Shape := ⟨0, ![]⟩

class Facts : Prop where
  slices_S129_S128_0 : S129.Slices ![0] S128
  bcast_S_S128 : S_.BroadcastsInDim S128 (![] : Fin 0 → Fin S128.rank)

variable [Facts]

def fn {F : FTy → Type} [FloatOps F] (main_arg0 : IVec S129 32) (main_arg1 : FVec F S32768x1024 .f32) (main_arg2 : FVec F S32x1024x256 .f32) (main_arg3 : FVec F S32x1024x256 .f32) (main_arg4 : FVec F S32x256x1024 .f32) : IVec S128 1 :=
  let main_v0 : IVec S128 32 := (extractStridedSlice S128 ![0] · slices_S129_S128_0) main_arg0
  let main_c : IVec S_ 32 := constantI S_ 32 0#32
  let main_v1 : IVec S128 32 := broadcastInDim S128 ![] bcast_S_S128 main_c
  let main_v2 : IVec S128 1 := cmpi .sge main_v0 main_v1
  let main_v3 : IVec S128 32 := (extractStridedSlice S128 ![0] · slices_S129_S128_0) main_arg0
  let main_c_0 : IVec S_ 32 := constantI S_ 32 32#32
  let main_v4 : IVec S128 32 := broadcastInDim S128 ![] bcast_S_S128 main_c_0
  let main_v5 : IVec S128 1 := cmpi .slt main_v3 main_v4
  let main_v6 : IVec S128 1 := andi main_v2 main_v5
  main_v6
-- ==== Pre_names_rows.lean ====
abbrev S48x1x512 : Shape := ⟨3, ![48, 1, 512]⟩
abbrev S12288x1024 : Shape := ⟨2, ![12288, 1024]⟩
abbrev S8x1x1024 : Shape := ⟨3, ![8, 1, 1024]⟩
abbrev S12288x128 : Shape := ⟨2, ![12288, 128]⟩
abbrev S32768x1024 : Shape := ⟨2, ![32768, 1024]⟩
abbrev S_ : Shape := ⟨0, ![]⟩

class Facts : Prop where
  bcast_S_S48x1x512 : S_.BroadcastsInDim S48x1x512 (![] : Fin 0 → Fin S48x1x512.rank)

variable [Facts]

def fn {F : FTy → Type} [FloatOps F] (main_arg0 : IVec S48x1x512 32) (main_arg1 : FVec F S12288x1024 .f32) (main_arg2 : FVec F S8x1x1024 .f32) (main_arg3 : FVec F S12288x128 .f32) (main_arg4 : FVec F S32768x1024 .f32) : IVec S48x1x512 1 :=
  let main_c : IVec S_ 32 := constantI S_ 32 0#32
  let main_v0 : IVec S48x1x512 32 := broadcastInDim S48x1x512 ![] bcast_S_S48x1x512 main_c
  let main_v1 : IVec S48x1x512 1 := cmpi .sge main_arg0 main_v0
  let main_c_0 : IVec S_ 32 := constantI S_ 32 32768#32
  let main_v2 : IVec S48x1x512 32 := broadcastInDim S48x1x512 ![] bcast_S_S48x1x512 main_c_0
  let main_v3 : IVec S48x1x512 1 := cmpi .slt main_arg0 main_v2
  let main_v4 : IVec S48x1x512 1 := andi main_v1 main_v3
  main_v4
-- ==== Pre_scores_finite.lean ====
abbrev S12288x1024 : Shape := ⟨2, ![12288, 1024]⟩
abbrev S12288x512 : Shape := ⟨2, ![12288, 512]⟩
abbrev S2048x1024 : Shape := ⟨2, ![2048, 1024]⟩
abbrev S2048x512 : Shape := ⟨2, ![2048, 512]⟩
abbrev S_ : Shape := ⟨0, ![]⟩
abbrev S26624x1024 : Shape := ⟨2, ![26624, 1024]⟩

class Facts : Prop where
  bitsLt_bf16_f32 : FTy.bits .bf16 < FTy.bits .f32
  bcast_S_S12288x1024 : S_.BroadcastsInDim S12288x1024 (![] : Fin 0 → Fin S12288x1024.rank)
  bcast_S_S2048x1024 : S_.BroadcastsInDim S2048x1024 (![] : Fin 0 → Fin S2048x1024.rank)
  concatenates_S12288x1024_S12288x1024_S2048x1024_S26624x1024_d0 : Shape.Concatenates [S12288x1024, S12288x1024, S2048x1024] S26624x1024 0

variable [Facts]

def fn {F : FTy → Type} [FloatOps F] (main_arg0 : FVec F S12288x1024 .bf16) (main_arg1 : FVec F S12288x1024 .bf16) (main_arg2 : FVec F S12288x512 .bf16) (main_arg3 : FVec F S2048x1024 .bf16) (main_arg4 : FVec F S2048x512 .bf16) (main_arg5 : FVec F S12288x1024 .bf16) : IVec S26624x1024 1 :=
  let main_v0 : FVec F S12288x1024 .f32 := (extf .f32 · bitsLt_bf16_f32) main_arg0
  let main_v1 : FVec F S12288x1024 .f32 := Host.absf main_v0
  let main_cst : FVec F S_ .f32 := constant S_ .f32 0x7F800000#32
  let main_v2 : FVec F S12288x1024 .f32 := broadcastInDim S12288x1024 ![] bcast_S_S12288x1024 main_cst
  let main_v3 : IVec S12288x1024 1 := cmpf .olt main_v1 main_v2
  let main_v4 : FVec F S12288x1024 .f32 := (extf .f32 · bitsLt_bf16_f32) main_arg1
  let main_v5 : FVec F S12288x1024 .f32 := Host.absf main_v4
  let main_cst_0 : FVec F S_ .f32 := constant S_ .f32 0x7F800000#32
  let main_v6 : FVec F S12288x1024 .f32 := broadcastInDim S12288x1024 ![] bcast_S_S12288x1024 main_cst_0
  let main_v7 : IVec S12288x1024 1 := cmpf .olt main_v5 main_v6
  let main_v8 : FVec F S2048x1024 .f32 := (extf .f32 · bitsLt_bf16_f32) main_arg3
  let main_v9 : FVec F S2048x1024 .f32 := Host.absf main_v8
  let main_cst_1 : FVec F S_ .f32 := constant S_ .f32 0x7F800000#32
  let main_v10 : FVec F S2048x1024 .f32 := broadcastInDim S2048x1024 ![] bcast_S_S2048x1024 main_cst_1
  let main_v11 : IVec S2048x1024 1 := cmpf .olt main_v9 main_v10
  let main_v12 : IVec S26624x1024 1 := concatenate S26624x1024 0 [⟨S12288x1024, main_v3⟩, ⟨S12288x1024, main_v7⟩, ⟨S2048x1024, main_v11⟩] concatenates_S12288x1024_S12288x1024_S2048x1024_S26624x1024_d0
  main_v12
-- ==== Kernel.lean ====
abbrev S129 : Shape := ⟨1, ![129]⟩
abbrev S32768x1024 : Shape := ⟨2, ![32768, 1024]⟩
abbrev S32x1024x256 : Shape := ⟨3, ![32, 1024, 256]⟩
abbrev S32x256x1024 : Shape := ⟨3, ![32, 256, 1024]⟩
abbrev S256x1024 : Shape := ⟨2, ![256, 1024]⟩
abbrev S1x1024x256 : Shape := ⟨3, ![1, 1024, 256]⟩
abbrev S1 : Shape := ⟨1, ![1]⟩
abbrev S1x256x1024 : Shape := ⟨3, ![1, 256, 1024]⟩
abbrev S1024x256 : Shape := ⟨2, ![1024, 256]⟩
abbrev S256x256 : Shape := ⟨2, ![256, 256]⟩

abbrev nBuf : Space → Nat
  | .hbm => 5
  | .vmem => 10
  | .smem => 1
  | _ => 0

abbrev bufTy : (tb : Table) → Fin (tcTables nBuf tb) → BufTy
  | .hbm, ⟨0, _⟩ => ⟨S32768x1024, .f32⟩
  | .hbm, ⟨1, _⟩ => ⟨S32x1024x256, .f32⟩
  | .hbm, ⟨2, _⟩ => ⟨S32x1024x256, .f32⟩
  | .hbm, ⟨3, _⟩ => ⟨S32x256x1024, .f32⟩
  | .hbm, ⟨4, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x256x1024, .f32⟩
  | .local _ .vmem, ⟨7, _⟩ => ⟨S1x256x1024, .f32⟩
  | .local _ .vmem, ⟨8, _⟩ => ⟨S256x1024, .f32⟩
  | .local _ .vmem, ⟨9, _⟩ => ⟨S256x1024, .f32⟩
  | .local _ .smem, ⟨0, _⟩ => ⟨S129, .i32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v4 : BitVec 1 := Scalar.cmpi .sge arg0 v0
  let v5 : BitVec 32 := Scalar.extui v4
  let c0_i32_0 : BitVec 32 := 0#32
  let v6 : BitVec 1 := Scalar.cmpi .ne v5 c0_i32_0
  v6

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S129.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S129) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S129.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S129) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S129.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S129) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S129 : Shape := ⟨1, ![129]⟩
abbrev S32768x1024 : Shape := ⟨2, ![32768, 1024]⟩
abbrev S32x1024x256 : Shape := ⟨3, ![32, 1024, 256]⟩
abbrev S32x256x1024 : Shape := ⟨3, ![32, 256, 1024]⟩
abbrev S128 : Shape := ⟨1, ![128]⟩
abbrev S128x1 : Shape := ⟨2, ![128, 1]⟩
abbrev S128x256 : Shape := ⟨2, ![128, 256]⟩
abbrev S32768 : Shape := ⟨1, ![32768]⟩
abbrev S_ : Shape := ⟨0, ![]⟩
abbrev S1 : Shape := ⟨1, ![1]⟩
abbrev S32768x1 : Shape := ⟨2, ![32768, 1]⟩
abbrev S1x32 : Shape := ⟨2, ![1, 32]⟩
abbrev S32768x32 : Shape := ⟨2, ![32768, 32]⟩
abbrev S32768x32x256 : Shape := ⟨3, ![32768, 32, 256]⟩
abbrev S32768x32x1 : Shape := ⟨3, ![32768, 32, 1]⟩

abbrev nBuf : Space → Nat
  | .hbm => 58
  | .vmem => 0
  | .smem => 0
  | _ => 0

abbrev bufTy : (tb : Table) → Fin (tcTables nBuf tb) → BufTy
  | .hbm, ⟨0, _⟩ => ⟨S129, .i32⟩
  | .hbm, ⟨1, _⟩ => ⟨S32768x1024, .f32⟩
  | .hbm, ⟨2, _⟩ => ⟨S32x1024x256, .f32⟩
  | .hbm, ⟨3, _⟩ => ⟨S32x1024x256, .f32⟩
  | .hbm, ⟨4, _⟩ => ⟨S32x256x1024, .f32⟩
  | .hbm, ⟨5, _⟩ => ⟨S128, .i32⟩
  | .hbm, ⟨6, _⟩ => ⟨S128x1, .i32⟩
  | .hbm, ⟨7, _⟩ => ⟨S128x256, .i32⟩
  | .hbm, ⟨8, _⟩ => ⟨S32768, .i32⟩
  | .hbm, ⟨9, _⟩ => ⟨S32768, .i32⟩
  | .hbm, ⟨10, _⟩ => ⟨S_, .i32⟩
  | .hbm, ⟨11, _⟩ => ⟨S_, .i32⟩
  | .hbm, ⟨12, _⟩ => ⟨S32768, .i32⟩
  | .hbm, ⟨13, _⟩ => ⟨S32768, .i32⟩
  | .hbm, ⟨14, _⟩ => ⟨S32768, .i32⟩
  | .hbm, ⟨15, _⟩ => ⟨S_, .i32⟩
  | .hbm, ⟨16, _⟩ => ⟨S32768, .i32⟩
  | .hbm, ⟨17, _⟩ => ⟨S32768, .i1⟩
  | .hbm, ⟨18, _⟩ => ⟨S32768, .i32⟩
  | .hbm, ⟨19, _⟩ => ⟨S32768, .i32⟩
  | .hbm, ⟨20, _⟩ => ⟨S_, .i32⟩
  | .hbm, ⟨21, _⟩ => ⟨S32768, .i32⟩
  | .hbm, ⟨22, _⟩ => ⟨S32768, .i1⟩
  | .hbm, ⟨23, _⟩ => ⟨S32768, .i1⟩
  | .hbm, ⟨24, _⟩ => ⟨S_, .i32⟩
  | .hbm, ⟨25, _⟩ => ⟨S32768, .i32⟩
  | .hbm, ⟨26, _⟩ => ⟨S32768, .i32⟩
  | .hbm, ⟨27, _⟩ => ⟨S32768, .i32⟩
  | .hbm, ⟨28, _⟩ => ⟨S1, .i32⟩
  | .hbm, ⟨29, _⟩ => ⟨S_, .i32⟩
  | .hbm, ⟨30, _⟩ => ⟨S32768, .i32⟩
  | .hbm, ⟨31, _⟩ => ⟨S32768, .i1⟩
  | .hbm, ⟨32, _⟩ => ⟨S32768, .f32⟩
  | .hbm, ⟨33, _⟩ => ⟨S32768x1, .i32⟩
  | .hbm, ⟨34, _⟩ => ⟨S1x32, .i32⟩
  | .hbm, ⟨35, _⟩ => ⟨S32768x32, .i32⟩
  | .hbm, ⟨36, _⟩ => ⟨S32768x32, .i32⟩
  | .hbm, ⟨37, _⟩ => ⟨S32768x32, .i1⟩
  | .hbm, ⟨38, _⟩ => ⟨S32768x32, .f32⟩
  | .hbm, ⟨39, _⟩ => ⟨S32768x1, .f32⟩
  | .hbm, ⟨40, _⟩ => ⟨S32768x32, .f32⟩
  | .hbm, ⟨41, _⟩ => ⟨S32768x32, .f32⟩
  | .hbm, ⟨42, _⟩ => ⟨S32768x32x256, .f32⟩
  | .hbm, ⟨43, _⟩ => ⟨S32768x32x256, .f32⟩
  | .hbm, ⟨44, _⟩ => ⟨S32768x32x256, .f32⟩
  | .hbm, ⟨45, _⟩ => ⟨S32768x32x256, .f32⟩
  | .hbm, ⟨46, _⟩ => ⟨S_, .f32⟩
  | .hbm, ⟨47, _⟩ => ⟨S32768x32x256, .f32⟩
  | .hbm, ⟨48, _⟩ => ⟨S32768x32x256, .f32⟩
  | .hbm, ⟨49, _⟩ => ⟨S_, .f32⟩
  | .hbm, ⟨50, _⟩ => ⟨S32768x32x256, .f32⟩
  | .hbm, ⟨51, _⟩ => ⟨S32768x32x256, .f32⟩
  | .hbm, ⟨52, _⟩ => ⟨S32768x32x256, .f32⟩
  | .hbm, ⟨53, _⟩ => ⟨S32768x32x256, .f32⟩
  | .hbm, ⟨54, _⟩ => ⟨S32768x32x1, .f32⟩
  | .hbm, ⟨55, _⟩ => ⟨S32768x32x256, .f32⟩
  | .hbm, ⟨56, _⟩ => ⟨S32768x32x256, .f32⟩
  | .hbm, ⟨57, _⟩ => ⟨S32768x1024, .f32⟩
  | _, _ => ⟨S129, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_call2_v0 : Ref sig .tc := ⟨.hbm, 44, rfl⟩
abbrev main_call2_v1 : Ref sig .tc := ⟨.hbm, 45, rfl⟩
abbrev main_call2_cst : Ref sig .tc := ⟨.hbm, 46, rfl⟩
abbrev main_call2_v2 : Ref sig .tc := ⟨.hbm, 47, rfl⟩
abbrev main_call2_v3 : Ref sig .tc := ⟨.hbm, 48, rfl⟩
abbrev main_call2_cst_0 : Ref sig .tc := ⟨.hbm, 49, rfl⟩
abbrev main_call2_v4 : Ref sig .tc := ⟨.hbm, 50, rfl⟩
abbrev main_call2_v5 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩

abbrev nD : Nat := 1
abbrev τ : Topo := Topo.v7x

variable {F : FTy → Type} [FloatOps F]
-- ==== Kernel2.lean ====
abbrev S12288x1024 : Shape := ⟨2, ![12288, 1024]⟩
abbrev S12288x512 : Shape := ⟨2, ![12288, 512]⟩
abbrev S2048x1024 : Shape := ⟨2, ![2048, 1024]⟩
abbrev S2048x512 : Shape := ⟨2, ![2048, 512]⟩
abbrev S256x1024 : Shape := ⟨2, ![256, 1024]⟩
abbrev S512x1024 : Shape := ⟨2, ![512, 1024]⟩
abbrev S512x512 : Shape := ⟨2, ![512, 512]⟩
abbrev S256x512 : Shape := ⟨2, ![256, 512]⟩
abbrev S256x128 : Shape := ⟨2, ![256, 128]⟩
abbrev S2048x128 : Shape := ⟨2, ![2048, 128]⟩
abbrev S512x128 : Shape := ⟨2, ![512, 128]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 12
  | .smem => 0
  | _ => 0

abbrev bufTy : (tb : Table) → Fin (tcTables nBuf tb) → BufTy
  | .hbm, ⟨0, _⟩ => ⟨S12288x1024, .bf16⟩
  | .hbm, ⟨1, _⟩ => ⟨S12288x1024, .bf16⟩
  | .hbm, ⟨2, _⟩ => ⟨S12288x512, .bf16⟩
  | .hbm, ⟨3, _⟩ => ⟨S2048x1024, .bf16⟩
  | .hbm, ⟨4, _⟩ => ⟨S2048x512, .bf16⟩
  | .hbm, ⟨5, _⟩ => ⟨S12288x1024, .bf16⟩
  | .hbm, ⟨6, _⟩ => ⟨S12288x1024, .bf16⟩
  | .local _ .vmem, ⟨0, _⟩ => ⟨S256x1024, .bf16⟩
  | .local _ .vmem, ⟨1, _⟩ => ⟨S256x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x512, .bf16⟩
  | .local _ .vmem, ⟨5, _⟩ => ⟨S2048x512, .bf16⟩
  | .local _ .vmem, ⟨6, _⟩ => ⟨S512x1024, .bf16⟩
  | .local _ .vmem, ⟨7, _⟩ => ⟨S512x1024, .bf16⟩
  | .local _ .vmem, ⟨8, _⟩ => ⟨S512x512, .bf16⟩
  | .local _ .vmem, ⟨9, _⟩ => ⟨S512x512, .bf16⟩
  | .local _ .vmem, ⟨10, _⟩ => ⟨S256x512, .bf16⟩
  | .local _ .vmem, ⟨11, _⟩ => ⟨S256x512, .bf16⟩
  | _, _ => ⟨S12288x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c16_i32 : BitVec 32 := 16#32
  let v1 : BitVec 32 := Scalar.addi c16_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c16_i32 : BitVec 32 := 16#32
  let v1 : BitVec 32 := Scalar.addi c16_i32 v0
  let v2 : BitVec 32 := Scalar.addi v1 arg1
  let c0_i32 : BitVec 32 := 0#32
  let c0_i32_0 : BitVec 32 := 0#32
  ![v2.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S12288x1024 : Shape := ⟨2, ![12288, 1024]⟩
abbrev S12288x512 : Shape := ⟨2, ![12288, 512]⟩
abbrev S2048x1024 : Shape := ⟨2, ![2048, 1024]⟩
abbrev S2048x512 : Shape := ⟨2, ![2048, 512]⟩
abbrev S8192x1024 : Shape := ⟨2, ![8192, 1024]⟩
abbrev S4x2048x8x128 : Shape := ⟨4, ![4, 2048, 8, 128]⟩
abbrev S8192x512 : Shape := ⟨2, ![8192, 512]⟩
abbrev S4x2048x8x64 : Shape := ⟨4, ![4, 2048, 8, 64]⟩
abbrev S4x512x8x128 : Shape := ⟨4, ![4, 512, 8, 128]⟩
abbrev S4x2560x8x128 : Shape := ⟨4, ![4, 2560, 8, 128]⟩
abbrev S4x512x8x64 : Shape := ⟨4, ![4, 512, 8, 64]⟩
abbrev S4x2560x8x64 : Shape := ⟨4, ![4, 2560, 8, 64]⟩
abbrev S4x8x2048x2560 : Shape := ⟨4, ![4, 8, 2048, 2560]⟩
abbrev S_ : Shape := ⟨0, ![]⟩
abbrev S4x8x2048 : Shape := ⟨3, ![4, 8, 2048]⟩
abbrev S4x8x2048x1 : Shape := ⟨4, ![4, 8, 2048, 1]⟩
abbrev S4x8x64x2048 : Shape := ⟨4, ![4, 8, 64, 2048]⟩
abbrev S4096x1024 : Shape := ⟨2, ![4096, 1024]⟩

abbrev nBuf : Space → Nat
  | .hbm => 47
  | .vmem => 0
  | .smem => 0
  | _ => 0

abbrev bufTy : (tb : Table) → Fin (tcTables nBuf tb) → BufTy
  | .hbm, ⟨0, _⟩ => ⟨S12288x1024, .bf16⟩
  | .hbm, ⟨1, _⟩ => ⟨S12288x1024, .bf16⟩
  | .hbm, ⟨2, _⟩ => ⟨S12288x512, .bf16⟩
  | .hbm, ⟨3, _⟩ => ⟨S2048x1024, .bf16⟩
  | .hbm, ⟨4, _⟩ => ⟨S2048x512, .bf16⟩
  | .hbm, ⟨5, _⟩ => ⟨S12288x1024, .bf16⟩
  | .hbm, ⟨6, _⟩ => ⟨S8192x1024, .bf16⟩
  | .hbm, ⟨7, _⟩ => ⟨S8192x1024, .f32⟩
  | .hbm, ⟨8, _⟩ => ⟨S4x2048x8x128, .f32⟩
  | .hbm, ⟨9, _⟩ => ⟨S8192x1024, .bf16⟩
  | .hbm, ⟨10, _⟩ => ⟨S8192x1024, .f32⟩
  | .hbm, ⟨11, _⟩ => ⟨S4x2048x8x128, .f32⟩
  | .hbm, ⟨12, _⟩ => ⟨S8192x512, .bf16⟩
  | .hbm, ⟨13, _⟩ => ⟨S8192x512, .f32⟩
  | .hbm, ⟨14, _⟩ => ⟨S4x2048x8x64, .f32⟩
  | .hbm, ⟨15, _⟩ => ⟨S2048x1024, .f32⟩
  | .hbm, ⟨16, _⟩ => ⟨S4x512x8x128, .f32⟩
  | .hbm, ⟨17, _⟩ => ⟨S4x2560x8x128, .f32⟩
  | .hbm, ⟨18, _⟩ => ⟨S2048x512, .f32⟩
  | .hbm, ⟨19, _⟩ => ⟨S4x512x8x64, .f32⟩
  | .hbm, ⟨20, _⟩ => ⟨S4x2560x8x64, .f32⟩
  | .hbm, ⟨21, _⟩ => ⟨S4x8x2048x2560, .f32⟩
  | .hbm, ⟨22, _⟩ => ⟨S_, .f32⟩
  | .hbm, ⟨23, _⟩ => ⟨S4x8x2048x2560, .f32⟩
  | .hbm, ⟨24, _⟩ => ⟨S4x8x2048x2560, .f32⟩
  | .hbm, ⟨25, _⟩ => ⟨S_, .f32⟩
  | .hbm, ⟨26, _⟩ => ⟨S4x8x2048, .f32⟩
  | .hbm, ⟨27, _⟩ => ⟨S_, .f32⟩
  | .hbm, ⟨28, _⟩ => ⟨S4x8x2048, .f32⟩
  | .hbm, ⟨29, _⟩ => ⟨S4x8x2048, .f32⟩
  | .hbm, ⟨30, _⟩ => ⟨S4x8x2048x1, .f32⟩
  | .hbm, ⟨31, _⟩ => ⟨S4x8x2048x2560, .f32⟩
  | .hbm, ⟨32, _⟩ => ⟨S4x8x2048x2560, .f32⟩
  | .hbm, ⟨33, _⟩ => ⟨S4x8x2048x2560, .f32⟩
  | .hbm, ⟨34, _⟩ => ⟨S_, .f32⟩
  | .hbm, ⟨35, _⟩ => ⟨S4x8x2048, .f32⟩
  | .hbm, ⟨36, _⟩ => ⟨S4x8x2048x1, .f32⟩
  | .hbm, ⟨37, _⟩ => ⟨S4x8x2048x2560, .f32⟩
  | .hbm, ⟨38, _⟩ => ⟨S4x8x2048x2560, .f32⟩
  | .hbm, ⟨39, _⟩ => ⟨S4x8x64x2048, .f32⟩
  | .hbm, ⟨40, _⟩ => ⟨S4x2048x8x64, .f32⟩
  | .hbm, ⟨41, _⟩ => ⟨S8192x512, .f32⟩
  | .hbm, ⟨42, _⟩ => ⟨S8192x512, .bf16⟩
  | .hbm, ⟨43, _⟩ => ⟨S4096x1024, .bf16⟩
  | .hbm, ⟨44, _⟩ => ⟨S8192x512, .bf16⟩
  | .hbm, ⟨45, _⟩ => ⟨S8192x1024, .bf16⟩
  | .hbm, ⟨46, _⟩ => ⟨S12288x1024, .bf16⟩
  | _, _ => ⟨S12288x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Kernel3.lean ====
abbrev S12288x1024 : Shape := ⟨2, ![12288, 1024]⟩
abbrev S1024x1024 : Shape := ⟨2, ![1024, 1024]⟩
abbrev S8x1x1024 : Shape := ⟨3, ![8, 1, 1024]⟩
abbrev S256x1024 : Shape := ⟨2, ![256, 1024]⟩
abbrev S1x1x1024 : Shape := ⟨3, ![1, 1, 1024]⟩
abbrev S1x1024 : Shape := ⟨2, ![1, 1024]⟩

abbrev nBuf : Space → Nat
  | .hbm => 5
  | .vmem => 9
  | .smem => 0
  | _ => 0

abbrev bufTy : (tb : Table) → Fin (tcTables nBuf tb) → BufTy
  | .hbm, ⟨0, _⟩ => ⟨S12288x1024, .bf16⟩
  | .hbm, ⟨1, _⟩ => ⟨S1024x1024, .bf16⟩
  | .hbm, ⟨2, _⟩ => ⟨S12288x1024, .f32⟩
  | .hbm, ⟨3, _⟩ => ⟨S8x1x1024, .f32⟩
  | .hbm, ⟨4, _⟩ => ⟨S12288x1024, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S1x1x1024, .f32⟩
  | .local _ .vmem, ⟨6, _⟩ => ⟨S1x1x1024, .f32⟩
  | .local _ .vmem, ⟨7, _⟩ => ⟨S256x1024, .f32⟩
  | .local _ .vmem, ⟨8, _⟩ => ⟨S256x1024, .f32⟩
  | _, _ => ⟨S12288x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S12288x1024 : Shape := ⟨2, ![12288, 1024]⟩
abbrev S1024x1024 : Shape := ⟨2, ![1024, 1024]⟩
abbrev S8x1x1024 : Shape := ⟨3, ![8, 1, 1024]⟩
abbrev S8x1024 : Shape := ⟨2, ![8, 1024]⟩
abbrev S1x1024 : Shape := ⟨2, ![1, 1024]⟩
abbrev S4096x1024 : Shape := ⟨2, ![4096, 1024]⟩
abbrev S4x1024 : Shape := ⟨2, ![4, 1024]⟩
abbrev S4x1x1024 : Shape := ⟨3, ![4, 1, 1024]⟩
abbrev S4x2048x1024 : Shape := ⟨3, ![4, 2048, 1024]⟩
abbrev S8192x1024 : Shape := ⟨2, ![8192, 1024]⟩

abbrev nBuf : Space → Nat
  | .hbm => 17
  | .vmem => 0
  | .smem => 0
  | _ => 0

abbrev bufTy : (tb : Table) → Fin (tcTables nBuf tb) → BufTy
  | .hbm, ⟨0, _⟩ => ⟨S12288x1024, .bf16⟩
  | .hbm, ⟨1, _⟩ => ⟨S1024x1024, .bf16⟩
  | .hbm, ⟨2, _⟩ => ⟨S12288x1024, .f32⟩
  | .hbm, ⟨3, _⟩ => ⟨S8x1x1024, .f32⟩
  | .hbm, ⟨4, _⟩ => ⟨S8x1024, .f32⟩
  | .hbm, ⟨5, _⟩ => ⟨S1x1024, .f32⟩
  | .hbm, ⟨6, _⟩ => ⟨S4096x1024, .f32⟩
  | .hbm, ⟨7, _⟩ => ⟨S4x1024, .f32⟩
  | .hbm, ⟨8, _⟩ => ⟨S4x1x1024, .f32⟩
  | .hbm, ⟨9, _⟩ => ⟨S4x2048x1024, .f32⟩
  | .hbm, ⟨10, _⟩ => ⟨S8192x1024, .f32⟩
  | .hbm, ⟨11, _⟩ => ⟨S12288x1024, .f32⟩
  | .hbm, ⟨12, _⟩ => ⟨S12288x1024, .f32⟩
  | .hbm, ⟨13, _⟩ => ⟨S1024x1024, .f32⟩
  | .hbm, ⟨14, _⟩ => ⟨S12288x1024, .f32⟩
  | .hbm, ⟨15, _⟩ => ⟨S12288x1024, .f32⟩
  | .hbm, ⟨16, _⟩ => ⟨S12288x1024, .f32⟩
  | _, _ => ⟨S12288x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel4.lean ====
abbrev S12288x1024 : Shape := ⟨2, ![12288, 1024]⟩
abbrev S1x1024 : Shape := ⟨2, ![1, 1024]⟩
abbrev S8x1x1024 : Shape := ⟨3, ![8, 1, 1024]⟩
abbrev S1024x3072 : Shape := ⟨2, ![1024, 3072]⟩
abbrev S1x3072 : Shape := ⟨2, ![1, 3072]⟩
abbrev S12288x3072 : Shape := ⟨2, ![12288, 3072]⟩
abbrev S256x1024 : Shape := ⟨2, ![256, 1024]⟩
abbrev S1x1x1024 : Shape := ⟨3, ![1, 1, 1024]⟩
abbrev S256x3072 : Shape := ⟨2, ![256, 3072]⟩
abbrev S256 : Shape := ⟨1, ![256]⟩
abbrev S256x1 : Shape := ⟨2, ![256, 1]⟩

abbrev nBuf : Space → Nat
  | .hbm => 7
  | .vmem => 11
  | .smem => 0
  | _ => 0

abbrev bufTy : (tb : Table) → Fin (tcTables nBuf tb) → BufTy
  | .hbm, ⟨0, _⟩ => ⟨S12288x1024, .f32⟩
  | .hbm, ⟨1, _⟩ => ⟨S1x1024, .f32⟩
  | .hbm, ⟨2, _⟩ => ⟨S8x1x1024, .f32⟩
  | .hbm, ⟨3, _⟩ => ⟨S8x1x1024, .f32⟩
  | .hbm, ⟨4, _⟩ => ⟨S1024x3072, .bf16⟩
  | .hbm, ⟨5, _⟩ => ⟨S1x3072, .f32⟩
  | .hbm, ⟨6, _⟩ => ⟨S12288x3072, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3072, .bf16⟩
  | .local _ .vmem, ⟨8, _⟩ => ⟨S1x3072, .f32⟩
  | .local _ .vmem, ⟨9, _⟩ => ⟨S256x3072, .f32⟩
  | .local _ .vmem, ⟨10, _⟩ => ⟨S256x3072, .f32⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_3 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S12288x1024 : Shape := ⟨2, ![12288, 1024]⟩
abbrev S1x1024 : Shape := ⟨2, ![1, 1024]⟩
abbrev S8x1x1024 : Shape := ⟨3, ![8, 1, 1024]⟩
abbrev S1024x3072 : Shape := ⟨2, ![1024, 3072]⟩
abbrev S1x3072 : Shape := ⟨2, ![1, 3072]⟩
abbrev S_ : Shape := ⟨0, ![]⟩
abbrev S12288 : Shape := ⟨1, ![12288]⟩
abbrev S12288x1 : Shape := ⟨2, ![12288, 1]⟩
abbrev S8x1024 : Shape := ⟨2, ![8, 1024]⟩
abbrev S4096x1024 : Shape := ⟨2, ![4096, 1024]⟩
abbrev S4x1024 : Shape := ⟨2, ![4, 1024]⟩
abbrev S4x1x1024 : Shape := ⟨3, ![4, 1, 1024]⟩
abbrev S4x2048x1024 : Shape := ⟨3, ![4, 2048, 1024]⟩
abbrev S8192x1024 : Shape := ⟨2, ![8192, 1024]⟩
abbrev S12288x3072 : Shape := ⟨2, ![12288, 3072]⟩

abbrev nBuf : Space → Nat
  | .hbm => 46
  | .vmem => 0
  | .smem => 0
  | _ => 0

abbrev bufTy : (tb : Table) → Fin (tcTables nBuf tb) → BufTy
  | .hbm, ⟨0, _⟩ => ⟨S12288x1024, .f32⟩
  | .hbm, ⟨1, _⟩ => ⟨S1x1024, .f32⟩
  | .hbm, ⟨2, _⟩ => ⟨S8x1x1024, .f32⟩
  | .hbm, ⟨3, _⟩ => ⟨S8x1x1024, .f32⟩
  | .hbm, ⟨4, _⟩ => ⟨S1024x3072, .bf16⟩
  | .hbm, ⟨5, _⟩ => ⟨S1x3072, .f32⟩
  | .hbm, ⟨6, _⟩ => ⟨S12288x1024, .f32⟩
  | .hbm, ⟨7, _⟩ => ⟨S_, .f32⟩
  | .hbm, ⟨8, _⟩ => ⟨S12288, .f32⟩
  | .hbm, ⟨9, _⟩ => ⟨S12288x1, .f32⟩
  | .hbm, ⟨10, _⟩ => ⟨S_, .f32⟩
  | .hbm, ⟨11, _⟩ => ⟨S12288x1, .f32⟩
  | .hbm, ⟨12, _⟩ => ⟨S12288x1, .f32⟩
  | .hbm, ⟨13, _⟩ => ⟨S_, .f32⟩
  | .hbm, ⟨14, _⟩ => ⟨S12288x1, .f32⟩
  | .hbm, ⟨15, _⟩ => ⟨S12288x1, .f32⟩
  | .hbm, ⟨16, _⟩ => ⟨S12288x1, .f32⟩
  | .hbm, ⟨17, _⟩ => ⟨S12288x1024, .f32⟩
  | .hbm, ⟨18, _⟩ => ⟨S12288x1024, .f32⟩
  | .hbm, ⟨19, _⟩ => ⟨S12288x1024, .f32⟩
  | .hbm, ⟨20, _⟩ => ⟨S12288x1024, .f32⟩
  | .hbm, ⟨21, _⟩ => ⟨S8x1024, .f32⟩
  | .hbm, ⟨22, _⟩ => ⟨S1x1024, .f32⟩
  | .hbm, ⟨23, _⟩ => ⟨S4096x1024, .f32⟩
  | .hbm, ⟨24, _⟩ => ⟨S4x1024, .f32⟩
  | .hbm, ⟨25, _⟩ => ⟨S4x1x1024, .f32⟩
  | .hbm, ⟨26, _⟩ => ⟨S4x2048x1024, .f32⟩
  | .hbm, ⟨27, _⟩ => ⟨S8192x1024, .f32⟩
  | .hbm, ⟨28, _⟩ => ⟨S12288x1024, .f32⟩
  | .hbm, ⟨29, _⟩ => ⟨S_, .f32⟩
  | .hbm, ⟨30, _⟩ => ⟨S12288x1024, .f32⟩
  | .hbm, ⟨31, _⟩ => ⟨S12288x1024, .f32⟩
  | .hbm, ⟨32, _⟩ => ⟨S12288x1024, .f32⟩
  | .hbm, ⟨33, _⟩ => ⟨S8x1024, .f32⟩
  | .hbm, ⟨34, _⟩ => ⟨S1x1024, .f32⟩
  | .hbm, ⟨35, _⟩ => ⟨S4096x1024, .f32⟩
  | .hbm, ⟨36, _⟩ => ⟨S4x1024, .f32⟩
  | .hbm, ⟨37, _⟩ => ⟨S4x1x1024, .f32⟩
  | .hbm, ⟨38, _⟩ => ⟨S4x2048x1024, .f32⟩
  | .hbm, ⟨39, _⟩ => ⟨S8192x1024, .f32⟩
  | .hbm, ⟨40, _⟩ => ⟨S12288x1024, .f32⟩
  | .hbm, ⟨41, _⟩ => ⟨S12288x1024, .f32⟩
  | .hbm, ⟨42, _⟩ => ⟨S1024x3072, .f32⟩
  | .hbm, ⟨43, _⟩ => ⟨S12288x3072, .f32⟩
  | .hbm, ⟨44, _⟩ => ⟨S12288x3072, .f32⟩
  | .hbm, ⟨45, _⟩ => ⟨S12288x3072, .f32⟩
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== Kernel5.lean ====
abbrev S12288x1024 : Shape := ⟨2, ![12288, 1024]⟩
abbrev S1x1024 : Shape := ⟨2, ![1, 1024]⟩
abbrev S8x1x1024 : Shape := ⟨3, ![8, 1, 1024]⟩
abbrev S1024x384 : Shape := ⟨2, ![1024, 384]⟩
abbrev S1024x128 : Shape := ⟨2, ![1024, 128]⟩
abbrev S1024x1536 : Shape := ⟨2, ![1024, 1536]⟩
abbrev S1x384 : Shape := ⟨2, ![1, 384]⟩
abbrev S1x128 : Shape := ⟨2, ![1, 128]⟩
abbrev S384x1024 : Shape := ⟨2, ![384, 1024]⟩
abbrev S128x1024 : Shape := ⟨2, ![128, 1024]⟩
abbrev S128x512 : Shape := ⟨2, ![128, 512]⟩
abbrev S2048x128 : Shape := ⟨2, ![2048, 128]⟩
abbrev S12288x512 : Shape := ⟨2, ![12288, 512]⟩
abbrev S12288x128 : Shape := ⟨2, ![12288, 128]⟩
abbrev S256x1024 : Shape := ⟨2, ![256, 1024]⟩
abbrev S1x1x1024 : Shape := ⟨3, ![1, 1, 1024]⟩
abbrev S256x128 : Shape := ⟨2, ![256, 128]⟩
abbrev S256x512 : Shape := ⟨2, ![256, 512]⟩
abbrev S256 : Shape := ⟨1, ![256]⟩
abbrev S256x1 : Shape := ⟨2, ![256, 1]⟩
abbrev S256x384 : Shape := ⟨2, ![256, 384]⟩
abbrev S256x1536 : Shape := ⟨2, ![256, 1536]⟩

abbrev nBuf : Space → Nat
  | .hbm => 28
  | .vmem => 42
  | .smem => 0
  | _ => 0

abbrev bufTy : (tb : Table) → Fin (tcTables nBuf tb) → BufTy
  | .hbm, ⟨0, _⟩ => ⟨S12288x1024, .f32⟩
  | .hbm, ⟨1, _⟩ => ⟨S1x1024, .f32⟩
  | .hbm, ⟨2, _⟩ => ⟨S8x1x1024, .f32⟩
  | .hbm, ⟨3, _⟩ => ⟨S8x1x1024, .f32⟩
  | .hbm, ⟨4, _⟩ => ⟨S1024x384, .bf16⟩
  | .hbm, ⟨5, _⟩ => ⟨S1024x128, .bf16⟩
  | .hbm, ⟨6, _⟩ => ⟨S1024x128, .bf16⟩
  | .hbm, ⟨7, _⟩ => ⟨S1024x1536, .bf16⟩
  | .hbm, ⟨8, _⟩ => ⟨S1x384, .f32⟩
  | .hbm, ⟨9, _⟩ => ⟨S1x128, .f32⟩
  | .hbm, ⟨10, _⟩ => ⟨S384x1024, .bf16⟩
  | .hbm, ⟨11, _⟩ => ⟨S128x1024, .bf16⟩
  | .hbm, ⟨12, _⟩ => ⟨S128x512, .bf16⟩
  | .hbm, ⟨13, _⟩ => ⟨S1x128, .f32⟩
  | .hbm, ⟨14, _⟩ => ⟨S1x128, .f32⟩
  | .hbm, ⟨15, _⟩ => ⟨S1x128, .f32⟩
  | .hbm, ⟨16, _⟩ => ⟨S1x128, .f32⟩
  | .hbm, ⟨17, _⟩ => ⟨S2048x128, .f32⟩
  | .hbm, ⟨18, _⟩ => ⟨S2048x128, .f32⟩
  | .hbm, ⟨19, _⟩ => ⟨S2048x128, .f32⟩
  | .hbm, ⟨20, _⟩ => ⟨S12288x1024, .bf16⟩
  | .hbm, ⟨21, _⟩ => ⟨S12288x1024, .bf16⟩
  | .hbm, ⟨22, _⟩ => ⟨S12288x512, .bf16⟩
  | .hbm, ⟨23, _⟩ => ⟨S12288x512, .bf16⟩
  | .hbm, ⟨24, _⟩ => ⟨S12288x512, .f32⟩
  | .hbm, ⟨25, _⟩ => ⟨S12288x512, .f32⟩
  | .hbm, ⟨26, _⟩ => ⟨S12288x128, .f32⟩
  | .hbm, ⟨27, _⟩ => ⟨S12288x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x384, .bf16⟩
  | .local _ .vmem, ⟨8, _⟩ => ⟨S1024x128, .bf16⟩
  | .local _ .vmem, ⟨9, _⟩ => ⟨S1024x128, .bf16⟩
  | .local _ .vmem, ⟨10, _⟩ => ⟨S1024x1536, .bf16⟩
  | .local _ .vmem, ⟨11, _⟩ => ⟨S1x384, .f32⟩
  | .local _ .vmem, ⟨12, _⟩ => ⟨S1x128, .f32⟩
  | .local _ .vmem, ⟨13, _⟩ => ⟨S384x1024, .bf16⟩
  | .local _ .vmem, ⟨14, _⟩ => ⟨S128x1024, .bf16⟩
  | .local _ .vmem, ⟨15, _⟩ => ⟨S128x512, .bf16⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .vmem, ⟨23, _⟩ => ⟨S256x128, .f32⟩
  | .local _ .vmem, ⟨24, _⟩ => ⟨S256x128, .f32⟩
  | .local _ .vmem, ⟨25, _⟩ => ⟨S256x128, .f32⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S256x512, .bf16⟩
  | .local _ .vmem, ⟨31, _⟩ => ⟨S256x512, .bf16⟩
  | .local _ .vmem, ⟨32, _⟩ => ⟨S256x512, .bf16⟩
  | .local _ .vmem, ⟨33, _⟩ => ⟨S256x512, .bf16⟩
  | .local _ .vmem, ⟨34, _⟩ => ⟨S256x512, .f32⟩
  | .local _ .vmem, ⟨35, _⟩ => ⟨S256x512, .f32⟩
  | .local _ .vmem, ⟨36, _⟩ => ⟨S256x512, .f32⟩
  | .local _ .vmem, ⟨37, _⟩ => ⟨S256x512, .f32⟩
  | .local _ .vmem, ⟨38, _⟩ => ⟨S256x128, .f32⟩
  | .local _ .vmem, ⟨39, _⟩ => ⟨S256x128, .f32⟩
  | .local _ .vmem, ⟨40, _⟩ => ⟨S256x128, .f32⟩
  | .local _ .vmem, ⟨41, _⟩ => ⟨S256x128, .f32⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0_0 : Ref sig .tc := ⟨.hbm, 20, rfl⟩
abbrev main_v0_1 : Ref sig .tc := ⟨.hbm, 21, rfl⟩
abbrev main_v0_2 : Ref sig .tc := ⟨.hbm, 22, rfl⟩
abbrev main_v0_3 : Ref sig .tc := ⟨.hbm, 23, rfl⟩
abbrev main_v0_4 : Ref sig .tc := ⟨.hbm, 24, rfl⟩
abbrev main_v0_5 : Ref sig .tc := ⟨.hbm, 25, rfl⟩
abbrev main_v0_6 : Ref sig .tc := ⟨.hbm, 26, rfl⟩
abbrev main_v0_7 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_stg20_0 : Ref sig .tc := ⟨.vmem, 26, rfl⟩
abbrev cc0_stg20_1 : Ref sig .tc := ⟨.vmem, 27, rfl⟩
abbrev cc0_stg21_0 : Ref sig .tc := ⟨.vmem, 28, rfl⟩
abbrev cc0_stg21_1 : Ref sig .tc := ⟨.vmem, 29, rfl⟩
abbrev cc0_stg22_0 : Ref sig .tc := ⟨.vmem, 30, rfl⟩
abbrev cc0_stg22_1 : Ref sig .tc := ⟨.vmem, 31, rfl⟩
abbrev cc0_stg23_0 : Ref sig .tc := ⟨.vmem, 32, rfl⟩
abbrev cc0_stg23_1 : Ref sig .tc := ⟨.vmem, 33, rfl⟩
abbrev cc0_stg24_0 : Ref sig .tc := ⟨.vmem, 34, rfl⟩
abbrev cc0_stg24_1 : Ref sig .tc := ⟨.vmem, 35, rfl⟩
abbrev cc0_stg25_0 : Ref sig .tc := ⟨.vmem, 36, rfl⟩
abbrev cc0_stg25_1 : Ref sig .tc := ⟨.vmem, 37, rfl⟩
abbrev cc0_stg26_0 : Ref sig .tc := ⟨.vmem, 38, rfl⟩
abbrev cc0_stg26_1 : Ref sig .tc := ⟨.vmem, 39, rfl⟩
abbrev cc0_stg27_0 : Ref sig .tc := ⟨.vmem, 40, rfl⟩
abbrev cc0_stg27_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem17_1 : DmaSem sig := 21
abbrev cc0_sem18_0 : DmaSem sig := 22
abbrev cc0_sem18_1 : DmaSem sig := 23
abbrev cc0_sem19_0 : DmaSem sig := 24
abbrev cc0_sem19_1 : DmaSem sig := 25
abbrev cc0_sem20_0 : DmaSem sig := 26
abbrev cc0_sem20_1 : DmaSem sig := 27
abbrev cc0_sem21_0 : DmaSem sig := 28
abbrev cc0_sem21_1 : DmaSem sig := 29
abbrev cc0_sem22_0 : DmaSem sig := 30
abbrev cc0_sem22_1 : DmaSem sig := 31
abbrev cc0_sem23_0 : DmaSem sig := 32
abbrev cc0_sem23_1 : DmaSem sig := 33
abbrev cc0_sem24_0 : DmaSem sig := 34
abbrev cc0_sem24_1 : DmaSem sig := 35
abbrev cc0_sem25_0 : DmaSem sig := 36
abbrev cc0_sem25_1 : DmaSem sig := 37
abbrev cc0_sem26_0 : DmaSem sig := 38
abbrev cc0_sem26_1 : DmaSem sig := 39
abbrev cc0_sem27_0 : DmaSem sig := 40
abbrev cc0_sem27_1 : DmaSem sig := 41

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_3 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let v12 : BitVec 32 := Scalar.select v0 c0_i32_4 v11
  let c0_i32_5 : BitVec 32 := 0#32
  let c0_i32_6 : BitVec 32 := 0#32
  ![v12.toNat, c0_i32_5.toNat]

def cc0_transform_18 (i : grid0.Coords) : Fin 2 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let v12 : BitVec 32 := Scalar.select v0 c0_i32_4 v11
  let c0_i32_5 : BitVec 32 := 0#32
  let c0_i32_6 : BitVec 32 := 0#32
  ![v12.toNat, c0_i32_5.toNat]

def cc0_transform_19 (i : grid0.Coords) : Fin 2 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let v12 : BitVec 32 := Scalar.select v0 c0_i32_4 v11
  let c0_i32_5 : BitVec 32 := 0#32
  let c0_i32_6 : BitVec 32 := 0#32
  ![v12.toNat, c0_i32_5.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S384x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x512 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S256x512 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S256x128 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S256x128 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]
-- ==== Reference5Ideal.lean ====
abbrev S12288x1024 : Shape := ⟨2, ![12288, 1024]⟩
abbrev S1x1024 : Shape := ⟨2, ![1, 1024]⟩
abbrev S8x1x1024 : Shape := ⟨3, ![8, 1, 1024]⟩
abbrev S1024x384 : Shape := ⟨2, ![1024, 384]⟩
abbrev S1024x128 : Shape := ⟨2, ![1024, 128]⟩
abbrev S1024x1536 : Shape := ⟨2, ![1024, 1536]⟩
abbrev S1x384 : Shape := ⟨2, ![1, 384]⟩
abbrev S1x128 : Shape := ⟨2, ![1, 128]⟩
abbrev S384x1024 : Shape := ⟨2, ![384, 1024]⟩
abbrev S128x1024 : Shape := ⟨2, ![128, 1024]⟩
abbrev S128x512 : Shape := ⟨2, ![128, 512]⟩
abbrev S2048x128 : Shape := ⟨2, ![2048, 128]⟩
abbrev S_ : Shape := ⟨0, ![]⟩
abbrev S12288 : Shape := ⟨1, ![12288]⟩
abbrev S12288x1 : Shape := ⟨2, ![12288, 1]⟩
abbrev S8x1024 : Shape := ⟨2, ![8, 1024]⟩
abbrev S4096x1024 : Shape := ⟨2, ![4096, 1024]⟩
abbrev S4x1024 : Shape := ⟨2, ![4, 1024]⟩
abbrev S4x1x1024 : Shape := ⟨3, ![4, 1, 1024]⟩
abbrev S4x2048x1024 : Shape := ⟨3, ![4, 2048, 1024]⟩
abbrev S8192x1024 : Shape := ⟨2, ![8192, 1024]⟩
abbrev S12288x128 : Shape := ⟨2, ![12288, 128]⟩
abbrev S12288x384 : Shape := ⟨2, ![12288, 384]⟩
abbrev S12288x8x128 : Shape := ⟨3, ![12288, 8, 128]⟩
abbrev S12288x1x128 : Shape := ⟨3, ![12288, 1, 128]⟩
abbrev S12288x512 : Shape := ⟨2, ![12288, 512]⟩
abbrev S12288x8 : Shape := ⟨2, ![12288, 8]⟩
abbrev S12288x8x1 : Shape := ⟨3, ![12288, 8, 1]⟩
abbrev S1x1x128 : Shape := ⟨3, ![1, 1, 128]⟩
abbrev S8192x8x128 : Shape := ⟨3, ![8192, 8, 128]⟩
abbrev S4x2048x8x128 : Shape := ⟨4, ![4, 2048, 8, 128]⟩
abbrev S1x2048x1x128 : Shape := ⟨4, ![1, 2048, 1, 128]⟩
abbrev S4x2048x8x120 : Shape := ⟨4, ![4, 2048, 8, 120]⟩
abbrev S4x2048x8x8 : Shape := ⟨4, ![4, 2048, 8, 8]⟩
abbrev S4096x8x128 : Shape := ⟨3, ![4096, 8, 128]⟩
abbrev S12288x1536 : Shape := ⟨2, ![12288, 1536]⟩
abbrev S12288x3x4x2x64 : Shape := ⟨5, ![12288, 3, 4, 2, 64]⟩
abbrev S12288x1x4x2x64 : Shape := ⟨5, ![12288, 1, 4, 2, 64]⟩
abbrev S12288x4x2x64 : Shape := ⟨4, ![12288, 4, 2, 64]⟩
abbrev S2x64 : Shape := ⟨2, ![2, 64]⟩
abbrev S12288x4x2 : Shape := ⟨3, ![12288, 4, 2]⟩
abbrev S12288x4x2x1 : Shape := ⟨4, ![12288, 4, 2, 1]⟩
abbrev S1x1x2x64 : Shape := ⟨4, ![1, 1, 2, 64]⟩

abbrev nBuf : Space → Nat
  | .hbm => 231
  | .vmem => 0
  | .smem => 0
  | _ => 0

abbrev hbmTy0_0 (i : Nat) : BufTy := match i % 128 with
  | 0 => ⟨S12288x1024, .f32⟩
  | 1 => ⟨S1x1024, .f32⟩
  | 2 => ⟨S8x1x1024, .f32⟩
  | 3 => ⟨S8x1x1024, .f32⟩
  | 4 => ⟨S1024x384, .bf16⟩
  | 5 => ⟨S1024x128, .bf16⟩
  | 6 => ⟨S1024x128, .bf16⟩
  | 7 => ⟨S1024x1536, .bf16⟩
  | 8 => ⟨S1x384, .f32⟩
  | 9 => ⟨S1x128, .f32⟩
  | 10 => ⟨S384x1024, .bf16⟩
  | 11 => ⟨S128x1024, .bf16⟩
  | 12 => ⟨S128x512, .bf16⟩
  | 13 => ⟨S1x128, .f32⟩
  | 14 => ⟨S1x128, .f32⟩
  | 15 => ⟨S1x128, .f32⟩
  | 16 => ⟨S1x128, .f32⟩
  | 17 => ⟨S2048x128, .f32⟩
  | 18 => ⟨S2048x128, .f32⟩
  | 19 => ⟨S2048x128, .f32⟩
  | 20 => ⟨S12288x1024, .f32⟩
  | 21 => ⟨S_, .f32⟩
  | 22 => ⟨S12288, .f32⟩
  | 23 => ⟨S12288x1, .f32⟩
  | 24 => ⟨S_, .f32⟩
  | 25 => ⟨S12288x1, .f32⟩
  | 26 => ⟨S12288x1, .f32⟩
  | 27 => ⟨S_, .f32⟩
  | 28 => ⟨S12288x1, .f32⟩
  | 29 => ⟨S12288x1, .f32⟩
  | 30 => ⟨S12288x1, .f32⟩
  | 31 => ⟨S12288x1024, .f32⟩
  | 32 => ⟨S12288x1024, .f32⟩
  | 33 => ⟨S12288x1024, .f32⟩
  | 34 => ⟨S12288x1024, .f32⟩
  | 35 => ⟨S8x1024, .f32⟩
  | 36 => ⟨S1x1024, .f32⟩
  | 37 => ⟨S4096x1024, .f32⟩
  | 38 => ⟨S4x1024, .f32⟩
  | 39 => ⟨S4x1x1024, .f32⟩
  | 40 => ⟨S4x2048x1024, .f32⟩
  | 41 => ⟨S8192x1024, .f32⟩
  | 42 => ⟨S12288x1024, .f32⟩
  | 43 => ⟨S_, .f32⟩
  | 44 => ⟨S12288x1024, .f32⟩
  | 45 => ⟨S12288x1024, .f32⟩
  | 46 => ⟨S12288x1024, .f32⟩
  | 47 => ⟨S8x1024, .f32⟩
  | 48 => ⟨S1x1024, .f32⟩
  | 49 => ⟨S4096x1024, .f32⟩
  | 50 => ⟨S4x1024, .f32⟩
  | 51 => ⟨S4x1x1024, .f32⟩
  | 52 => ⟨S4x2048x1024, .f32⟩
  | 53 => ⟨S8192x1024, .f32⟩
  | 54 => ⟨S12288x1024, .f32⟩
  | 55 => ⟨S12288x1024, .f32⟩
  | 56 => ⟨S1024x128, .f32⟩
  | 57 => ⟨S12288x128, .f32⟩
  | 58 => ⟨S12288x128, .f32⟩
  | 59 => ⟨S_, .f32⟩
  | 60 => ⟨S12288, .f32⟩
  | 61 => ⟨S12288x1, .f32⟩
  | 62 => ⟨S_, .f32⟩
  | 63 => ⟨S12288x1, .f32⟩
  | 64 => ⟨S12288x1, .f32⟩
  | 65 => ⟨S_, .f32⟩
  | 66 => ⟨S12288x1, .f32⟩
  | 67 => ⟨S12288x1, .f32⟩
  | 68 => ⟨S12288x1, .f32⟩
  | 69 => ⟨S12288x128, .f32⟩
  | 70 => ⟨S12288x128, .f32⟩
  | 71 => ⟨S12288x128, .f32⟩
  | 72 => ⟨S12288x128, .f32⟩
  | 73 => ⟨S1024x128, .f32⟩
  | 74 => ⟨S12288x128, .f32⟩
  | 75 => ⟨S1024x384, .f32⟩
  | 76 => ⟨S12288x384, .f32⟩
  | 77 => ⟨S12288x384, .f32⟩
  | 78 => ⟨S_, .f32⟩
  | 79 => ⟨S12288, .f32⟩
  | 80 => ⟨S12288x1, .f32⟩
  | 81 => ⟨S_, .f32⟩
  | 82 => ⟨S12288x1, .f32⟩
  | 83 => ⟨S12288x1, .f32⟩
  | 84 => ⟨S_, .f32⟩
  | 85 => ⟨S12288x1, .f32⟩
  | 86 => ⟨S12288x1, .f32⟩
  | 87 => ⟨S12288x1, .f32⟩
  | 88 => ⟨S12288x384, .f32⟩
  | 89 => ⟨S12288x384, .f32⟩
  | 90 => ⟨S12288x384, .f32⟩
  | 91 => ⟨S12288x384, .f32⟩
  | 92 => ⟨S384x1024, .f32⟩
  | 93 => ⟨S12288x1024, .f32⟩
  | 94 => ⟨S12288x8x128, .f32⟩
  | 95 => ⟨S128x1024, .f32⟩
  | 96 => ⟨S12288x1024, .f32⟩
  | 97 => ⟨S12288x8x128, .f32⟩
  | 98 => ⟨S12288x1x128, .f32⟩
  | 99 => ⟨S12288x8x128, .f32⟩
  | 100 => ⟨S12288x8x128, .f32⟩
  | 101 => ⟨S128x512, .f32⟩
  | 102 => ⟨S12288x512, .f32⟩
  | 103 => ⟨S12288x8x128, .f32⟩
  | 104 => ⟨S_, .f32⟩
  | 105 => ⟨S12288x8, .f32⟩
  | 106 => ⟨S12288x8x1, .f32⟩
  | 107 => ⟨S_, .f32⟩
  | 108 => ⟨S12288x8x1, .f32⟩
  | 109 => ⟨S12288x8x1, .f32⟩
  | 110 => ⟨S_, .f32⟩
  | 111 => ⟨S12288x8x1, .f32⟩
  | 112 => ⟨S12288x8x1, .f32⟩
  | 113 => ⟨S12288x8x1, .f32⟩
  | 114 => ⟨S12288x8x128, .f32⟩
  | 115 => ⟨S12288x8x128, .f32⟩
  | 116 => ⟨S1x1x128, .f32⟩
  | 117 => ⟨S12288x8x128, .f32⟩
  | 118 => ⟨S12288x8x128, .f32⟩
  | 119 => ⟨S8192x8x128, .f32⟩
  | 120 => ⟨S4x2048x8x128, .f32⟩
  | 121 => ⟨S1x2048x1x128, .f32⟩
  | 122 => ⟨S4x2048x8x128, .f32⟩
  | 123 => ⟨S4x2048x8x128, .f32⟩
  | 124 => ⟨S4x2048x8x120, .f32⟩
  | 125 => ⟨S4x2048x8x8, .f32⟩
  | 126 => ⟨S4x2048x8x128, .f32⟩
  | 127 => ⟨S1x2048x1x128, .f32⟩
  | _ => ⟨S12288x1024, .f32⟩

abbrev hbmTy0_1 (i : Nat) : BufTy := match i % 128 with
  | 0 => ⟨S4x2048x8x128, .f32⟩
  | 1 => ⟨S4x2048x8x128, .f32⟩
  | 2 => ⟨S4x2048x8x128, .f32⟩
  | 3 => ⟨S4x2048x8x8, .f32⟩
  | 4 => ⟨S4x2048x8x120, .f32⟩
  | 5 => ⟨S4x2048x8x128, .f32⟩
  | 6 => ⟨S1x2048x1x128, .f32⟩
  | 7 => ⟨S4x2048x8x128, .f32⟩
  | 8 => ⟨S4x2048x8x128, .f32⟩
  | 9 => ⟨S4x2048x8x128, .f32⟩
  | 10 => ⟨S4096x8x128, .f32⟩
  | 11 => ⟨S8192x8x128, .f32⟩
  | 12 => ⟨S12288x8x128, .f32⟩
  | 13 => ⟨S12288x1024, .f32⟩
  | 14 => ⟨S12288x8x128, .f32⟩
  | 15 => ⟨S_, .f32⟩
  | 16 => ⟨S12288x8, .f32⟩
  | 17 => ⟨S12288x8x1, .f32⟩
  | 18 => ⟨S_, .f32⟩
  | 19 => ⟨S12288x8x1, .f32⟩
  | 20 => ⟨S12288x8x1, .f32⟩
  | 21 => ⟨S_, .f32⟩
  | 22 => ⟨S12288x8x1, .f32⟩
  | 23 => ⟨S12288x8x1, .f32⟩
  | 24 => ⟨S12288x8x1, .f32⟩
  | 25 => ⟨S12288x8x128, .f32⟩
  | 26 => ⟨S12288x8x128, .f32⟩
  | 27 => ⟨S1x1x128, .f32⟩
  | 28 => ⟨S12288x8x128, .f32⟩
  | 29 => ⟨S12288x8x128, .f32⟩
  | 30 => ⟨S8192x8x128, .f32⟩
  | 31 => ⟨S4x2048x8x128, .f32⟩
  | 32 => ⟨S1x2048x1x128, .f32⟩
  | 33 => ⟨S4x2048x8x128, .f32⟩
  | 34 => ⟨S4x2048x8x128, .f32⟩
  | 35 => ⟨S4x2048x8x120, .f32⟩
  | 36 => ⟨S4x2048x8x8, .f32⟩
  | 37 => ⟨S4x2048x8x128, .f32⟩
  | 38 => ⟨S1x2048x1x128, .f32⟩
  | 39 => ⟨S4x2048x8x128, .f32⟩
  | 40 => ⟨S4x2048x8x128, .f32⟩
  | 41 => ⟨S4x2048x8x128, .f32⟩
  | 42 => ⟨S4x2048x8x8, .f32⟩
  | 43 => ⟨S4x2048x8x120, .f32⟩
  | 44 => ⟨S4x2048x8x128, .f32⟩
  | 45 => ⟨S1x2048x1x128, .f32⟩
  | 46 => ⟨S4x2048x8x128, .f32⟩
  | 47 => ⟨S4x2048x8x128, .f32⟩
  | 48 => ⟨S4x2048x8x128, .f32⟩
  | 49 => ⟨S4096x8x128, .f32⟩
  | 50 => ⟨S8192x8x128, .f32⟩
  | 51 => ⟨S12288x8x128, .f32⟩
  | 52 => ⟨S12288x1024, .f32⟩
  | 53 => ⟨S1024x1536, .f32⟩
  | 54 => ⟨S12288x1536, .f32⟩
  | 55 => ⟨S12288x3x4x2x64, .f32⟩
  | 56 => ⟨S12288x1x4x2x64, .f32⟩
  | 57 => ⟨S12288x4x2x64, .f32⟩
  | 58 => ⟨S2x64, .f32⟩
  | 59 => ⟨S12288x4x2x64, .f32⟩
  | 60 => ⟨S_, .f32⟩
  | 61 => ⟨S12288x4x2, .f32⟩
  | 62 => ⟨S12288x4x2x1, .f32⟩
  | 63 => ⟨S_, .f32⟩
  | 64 => ⟨S12288x4x2x1, .f32⟩
  | 65 => ⟨S12288x4x2x1, .f32⟩
  | 66 => ⟨S_, .f32⟩
  | 67 => ⟨S12288x4x2x1, .f32⟩
  | 68 => ⟨S12288x4x2x1, .f32⟩
  | 69 => ⟨S12288x4x2x1, .f32⟩
  | 70 => ⟨S12288x4x2x64, .f32⟩
  | 71 => ⟨S12288x4x2x64, .f32⟩
  | 72 => ⟨S1x1x2x64, .f32⟩
  | 73 => ⟨S12288x4x2x64, .f32⟩
  | 74 => ⟨S12288x4x2x64, .f32⟩
  | 75 => ⟨S12288x512, .f32⟩
  | 76 => ⟨S12288x1x4x2x64, .f32⟩
  | 77 => ⟨S12288x4x2x64, .f32⟩
  | 78 => ⟨S2x64, .f32⟩
  | 79 => ⟨S12288x4x2x64, .f32⟩
  | 80 => ⟨S_, .f32⟩
  | 81 => ⟨S12288x4x2, .f32⟩
  | 82 => ⟨S12288x4x2x1, .f32⟩
  | 83 => ⟨S_, .f32⟩
  | 84 => ⟨S12288x4x2x1, .f32⟩
  | 85 => ⟨S12288x4x2x1, .f32⟩
  | 86 => ⟨S_, .f32⟩
  | 87 => ⟨S12288x4x2x1, .f32⟩
  | 88 => ⟨S12288x4x2x1, .f32⟩
  | 89 => ⟨S12288x4x2x1, .f32⟩
  | 90 => ⟨S12288x4x2x64, .f32⟩
  | 91 => ⟨S12288x4x2x64, .f32⟩
  | 92 => ⟨S1x1x2x64, .f32⟩
  | 93 => ⟨S12288x4x2x64, .f32⟩
  | 94 => ⟨S12288x4x2x64, .f32⟩
  | 95 => ⟨S12288x512, .f32⟩
  | 96 => ⟨S12288x1x4x2x64, .f32⟩
  | 97 => ⟨S12288x4x2x64, .f32⟩
  | 98 => ⟨S12288x512, .f32⟩
  | 99 => ⟨S12288x1024, .bf16⟩
  | 100 => ⟨S12288x1024, .bf16⟩
  | 101 => ⟨S12288x512, .bf16⟩
  | 102 => ⟨S12288x512, .bf16⟩
  | _ => ⟨S12288x1024, .f32⟩

abbrev hbmTy (i : Nat) : BufTy := match i / 128 with
  | 0 => hbmTy0_0 i
  | 1 => hbmTy0_1 i
  | _ => ⟨S12288x1024, .f32⟩

abbrev bufTy : (tb : Table) → Fin (tcTables nBuf tb) → BufTy
  | .hbm, ⟨i, _⟩ => hbmTy i
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_cst : Ref sig .tc := ⟨.hbm, 21, rfl⟩
abbrev main_v1 : Ref sig .tc := ⟨.hbm, 22, rfl⟩
abbrev main_v2 : Ref sig .tc := ⟨.hbm, 23, rfl⟩
abbrev main_cst_0 : Ref sig .tc := ⟨.hbm, 24, rfl⟩
abbrev main_v3 : Ref sig .tc := ⟨.hbm, 25, rfl⟩
abbrev main_v4 : Ref sig .tc := ⟨.hbm, 26, rfl⟩
abbrev main_cst_1 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_2 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_3 : Ref sig .tc := ⟨.hbm, 59, rfl⟩
abbrev main_v35 : Ref sig .tc := ⟨.hbm, 60, rfl⟩
abbrev main_v36 : Ref sig .tc := ⟨.hbm, 61, rfl⟩
abbrev main_cst_4 : Ref sig .tc := ⟨.hbm, 62, rfl⟩
abbrev main_v37 : Ref sig .tc := ⟨.hbm, 63, rfl⟩
abbrev main_v38 : Ref sig .tc := ⟨.hbm, 64, rfl⟩
abbrev main_cst_5 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_6 : Ref sig .tc := ⟨.hbm, 78, rfl⟩
abbrev main_v51 : Ref sig .tc := ⟨.hbm, 79, rfl⟩
abbrev main_v52 : Ref sig .tc := ⟨.hbm, 80, rfl⟩
abbrev main_cst_7 : Ref sig .tc := ⟨.hbm, 81, rfl⟩
abbrev main_v53 : Ref sig .tc := ⟨.hbm, 82, rfl⟩
abbrev main_v54 : Ref sig .tc := ⟨.hbm, 83, rfl⟩
abbrev main_cst_8 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_9 : Ref sig .tc := ⟨.hbm, 104, rfl⟩
abbrev main_v74 : Ref sig .tc := ⟨.hbm, 105, rfl⟩
abbrev main_v75 : Ref sig .tc := ⟨.hbm, 106, rfl⟩
abbrev main_cst_10 : Ref sig .tc := ⟨.hbm, 107, rfl⟩
abbrev main_v76 : Ref sig .tc := ⟨.hbm, 108, rfl⟩
abbrev main_v77 : Ref sig .tc := ⟨.hbm, 109, rfl⟩
abbrev main_cst_11 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_call0_v0 : Ref sig .tc := ⟨.hbm, 124, rfl⟩
abbrev main_call0_v1 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_call1_v0 : Ref sig .tc := ⟨.hbm, 131, rfl⟩
abbrev main_call1_v1 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_cst_12 : Ref sig .tc := ⟨.hbm, 143, rfl⟩
abbrev main_v106 : Ref sig .tc := ⟨.hbm, 144, rfl⟩
abbrev main_v107 : Ref sig .tc := ⟨.hbm, 145, rfl⟩
abbrev main_cst_13 : Ref sig .tc := ⟨.hbm, 146, rfl⟩
abbrev main_v108 : Ref sig .tc := ⟨.hbm, 147, rfl⟩
abbrev main_v109 : Ref sig .tc := ⟨.hbm, 148, rfl⟩
abbrev main_cst_14 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_call2_v0 : Ref sig .tc := ⟨.hbm, 163, rfl⟩
abbrev main_call2_v1 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_call3_v0 : Ref sig .tc := ⟨.hbm, 170, rfl⟩
abbrev main_call3_v1 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_cst_15 : Ref sig .tc := ⟨.hbm, 188, rfl⟩
abbrev main_v144 : Ref sig .tc := ⟨.hbm, 189, rfl⟩
abbrev main_v145 : Ref sig .tc := ⟨.hbm, 190, rfl⟩
abbrev main_cst_16 : Ref sig .tc := ⟨.hbm, 191, rfl⟩
abbrev main_v146 : Ref sig .tc := ⟨.hbm, 192, rfl⟩
abbrev main_v147 : Ref sig .tc := ⟨.hbm, 193, rfl⟩
abbrev main_cst_17 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_cst_18 : Ref sig .tc := ⟨.hbm, 208, rfl⟩
abbrev main_v161 : Ref sig .tc := ⟨.hbm, 209, rfl⟩
abbrev main_v162 : Ref sig .tc := ⟨.hbm, 210, rfl⟩
abbrev main_cst_19 : Ref sig .tc := ⟨.hbm, 211, rfl⟩
abbrev main_v163 : Ref sig .tc := ⟨.hbm, 212, rfl⟩
abbrev main_v164 : Ref sig .tc := ⟨.hbm, 213, rfl⟩
abbrev main_cst_20 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩

abbrev nD : Nat := 1
abbrev τ : Topo := Topo.v7x

variable {F : FTy → Type} [FloatOps F]
-- ==== Kernel6.lean ====
abbrev S12288x1024 : Shape := ⟨2, ![12288, 1024]⟩
abbrev S12288x512 : Shape := ⟨2, ![12288, 512]⟩
abbrev S256x1024 : Shape := ⟨2, ![256, 1024]⟩
abbrev S256x512 : Shape := ⟨2, ![256, 512]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 8
  | .vmem => 14
  | .smem => 0
  | _ => 0

abbrev bufTy : (tb : Table) → Fin (tcTables nBuf tb) → BufTy
  | .hbm, ⟨0, _⟩ => ⟨S12288x1024, .bf16⟩
  | .hbm, ⟨1, _⟩ => ⟨S12288x1024, .bf16⟩
  | .hbm, ⟨2, _⟩ => ⟨S12288x512, .bf16⟩
  | .hbm, ⟨3, _⟩ => ⟨S12288x512, .bf16⟩
  | .hbm, ⟨4, _⟩ => ⟨S12288x512, .f32⟩
  | .hbm, ⟨5, _⟩ => ⟨S12288x512, .f32⟩
  | .hbm, ⟨6, _⟩ => ⟨S12288x1024, .bf16⟩
  | .hbm, ⟨7, _⟩ => ⟨S12288x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x1024, .bf16⟩
  | .local _ .vmem, ⟨13, _⟩ => ⟨S256x1024, .bf16⟩
  | _, _ => ⟨S12288x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S12288x1024 : Shape := ⟨2, ![12288, 1024]⟩
abbrev S12288x512 : Shape := ⟨2, ![12288, 512]⟩
abbrev S4096x1024 : Shape := ⟨2, ![4096, 1024]⟩
abbrev S16x256x8x128 : Shape := ⟨4, ![16, 256, 8, 128]⟩
abbrev S16x8x256x256 : Shape := ⟨4, ![16, 8, 256, 256]⟩
abbrev S_ : Shape := ⟨0, ![]⟩
abbrev S16x8x256 : Shape := ⟨3, ![16, 8, 256]⟩
abbrev S16x8x256x1 : Shape := ⟨4, ![16, 8, 256, 1]⟩
abbrev S4096x512 : Shape := ⟨2, ![4096, 512]⟩
abbrev S16x256x8x64 : Shape := ⟨4, ![16, 256, 8, 64]⟩
abbrev S16x8x64x256 : Shape := ⟨4, ![16, 8, 64, 256]⟩
abbrev S8192x1024 : Shape := ⟨2, ![8192, 1024]⟩

abbrev nBuf : Space → Nat
  | .hbm => 70
  | .vmem => 0
  | .smem => 0
  | _ => 0

abbrev bufTy : (tb : Table) → Fin (tcTables nBuf tb) → BufTy
  | .hbm, ⟨0, _⟩ => ⟨S12288x1024, .bf16⟩
  | .hbm, ⟨1, _⟩ => ⟨S12288x1024, .bf16⟩
  | .hbm, ⟨2, _⟩ => ⟨S12288x512, .bf16⟩
  | .hbm, ⟨3, _⟩ => ⟨S12288x512, .bf16⟩
  | .hbm, ⟨4, _⟩ => ⟨S12288x512, .f32⟩
  | .hbm, ⟨5, _⟩ => ⟨S12288x512, .f32⟩
  | .hbm, ⟨6, _⟩ => ⟨S12288x1024, .bf16⟩
  | .hbm, ⟨7, _⟩ => ⟨S4096x1024, .bf16⟩
  | .hbm, ⟨8, _⟩ => ⟨S4096x1024, .f32⟩
  | .hbm, ⟨9, _⟩ => ⟨S16x256x8x128, .f32⟩
  | .hbm, ⟨10, _⟩ => ⟨S4096x1024, .bf16⟩
  | .hbm, ⟨11, _⟩ => ⟨S4096x1024, .f32⟩
  | .hbm, ⟨12, _⟩ => ⟨S16x256x8x128, .f32⟩
  | .hbm, ⟨13, _⟩ => ⟨S16x8x256x256, .f32⟩
  | .hbm, ⟨14, _⟩ => ⟨S_, .f32⟩
  | .hbm, ⟨15, _⟩ => ⟨S16x8x256x256, .f32⟩
  | .hbm, ⟨16, _⟩ => ⟨S16x8x256x256, .f32⟩
  | .hbm, ⟨17, _⟩ => ⟨S_, .f32⟩
  | .hbm, ⟨18, _⟩ => ⟨S16x8x256, .f32⟩
  | .hbm, ⟨19, _⟩ => ⟨S_, .f32⟩
  | .hbm, ⟨20, _⟩ => ⟨S16x8x256, .f32⟩
  | .hbm, ⟨21, _⟩ => ⟨S16x8x256, .f32⟩
  | .hbm, ⟨22, _⟩ => ⟨S16x8x256x1, .f32⟩
  | .hbm, ⟨23, _⟩ => ⟨S16x8x256x256, .f32⟩
  | .hbm, ⟨24, _⟩ => ⟨S16x8x256x256, .f32⟩
  | .hbm, ⟨25, _⟩ => ⟨S16x8x256x256, .f32⟩
  | .hbm, ⟨26, _⟩ => ⟨S_, .f32⟩
  | .hbm, ⟨27, _⟩ => ⟨S16x8x256, .f32⟩
  | .hbm, ⟨28, _⟩ => ⟨S16x8x256x1, .f32⟩
  | .hbm, ⟨29, _⟩ => ⟨S16x8x256x256, .f32⟩
  | .hbm, ⟨30, _⟩ => ⟨S16x8x256x256, .f32⟩
  | .hbm, ⟨31, _⟩ => ⟨S4096x512, .bf16⟩
  | .hbm, ⟨32, _⟩ => ⟨S4096x512, .f32⟩
  | .hbm, ⟨33, _⟩ => ⟨S16x256x8x64, .f32⟩
  | .hbm, ⟨34, _⟩ => ⟨S16x8x64x256, .f32⟩
  | .hbm, ⟨35, _⟩ => ⟨S16x256x8x64, .f32⟩
  | .hbm, ⟨36, _⟩ => ⟨S4096x512, .f32⟩
  | .hbm, ⟨37, _⟩ => ⟨S4096x512, .bf16⟩
  | .hbm, ⟨38, _⟩ => ⟨S4096x512, .bf16⟩
  | .hbm, ⟨39, _⟩ => ⟨S4096x512, .f32⟩
  | .hbm, ⟨40, _⟩ => ⟨S16x256x8x64, .f32⟩
  | .hbm, ⟨41, _⟩ => ⟨S4096x512, .f32⟩
  | .hbm, ⟨42, _⟩ => ⟨S16x256x8x64, .f32⟩
  | .hbm, ⟨43, _⟩ => ⟨S16x8x256x256, .f32⟩
  | .hbm, ⟨44, _⟩ => ⟨S_, .f32⟩
  | .hbm, ⟨45, _⟩ => ⟨S16x8x256x256, .f32⟩
  | .hbm, ⟨46, _⟩ => ⟨S16x8x256x256, .f32⟩
  | .hbm, ⟨47, _⟩ => ⟨S_, .f32⟩
  | .hbm, ⟨48, _⟩ => ⟨S16x8x256, .f32⟩
  | .hbm, ⟨49, _⟩ => ⟨S_, .f32⟩
  | .hbm, ⟨50, _⟩ => ⟨S16x8x256, .f32⟩
  | .hbm, ⟨51, _⟩ => ⟨S16x8x256, .f32⟩
  | .hbm, ⟨52, _⟩ => ⟨S16x8x256x1, .f32⟩
  | .hbm, ⟨53, _⟩ => ⟨S16x8x256x256, .f32⟩
  | .hbm, ⟨54, _⟩ => ⟨S16x8x256x256, .f32⟩
  | .hbm, ⟨55, _⟩ => ⟨S16x8x256x256, .f32⟩
  | .hbm, ⟨56, _⟩ => ⟨S_, .f32⟩
  | .hbm, ⟨57, _⟩ => ⟨S16x8x256, .f32⟩
  | .hbm, ⟨58, _⟩ => ⟨S16x8x256x1, .f32⟩
  | .hbm, ⟨59, _⟩ => ⟨S16x8x256x256, .f32⟩
  | .hbm, ⟨60, _⟩ => ⟨S16x8x256x256, .f32⟩
  | .hbm, ⟨61, _⟩ => ⟨S4096x512, .f32⟩
  | .hbm, ⟨62, _⟩ => ⟨S16x256x8x64, .f32⟩
  | .hbm, ⟨63, _⟩ => ⟨S16x8x64x256, .f32⟩
  | .hbm, ⟨64, _⟩ => ⟨S16x256x8x64, .f32⟩
  | .hbm, ⟨65, _⟩ => ⟨S4096x512, .f32⟩
  | .hbm, ⟨66, _⟩ => ⟨S4096x512, .bf16⟩
  | .hbm, ⟨67, _⟩ => ⟨S4096x1024, .bf16⟩
  | .hbm, ⟨68, _⟩ => ⟨S8192x1024, .bf16⟩
  | .hbm, ⟨69, _⟩ => ⟨S12288x1024, .bf16⟩
  | _, _ => ⟨S12288x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩

abbrev nD : Nat := 1
abbrev τ : Topo := Topo.v7x

variable {F : FTy → Type} [FloatOps F]
-- ==== Kernel7.lean ====
abbrev S2048x128 : Shape := ⟨2, ![2048, 128]⟩
abbrev S128x1024 : Shape := ⟨2, ![128, 1024]⟩
abbrev S128x512 : Shape := ⟨2, ![128, 512]⟩
abbrev S1x128 : Shape := ⟨2, ![1, 128]⟩
abbrev S2048x1024 : Shape := ⟨2, ![2048, 1024]⟩
abbrev S2048x512 : Shape := ⟨2, ![2048, 512]⟩
abbrev S512x128 : Shape := ⟨2, ![512, 128]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 7
  | .vmem => 11
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S128x1024, .bf16⟩
  | .hbm, ⟨3, _⟩ => ⟨S128x512, .bf16⟩
  | .hbm, ⟨4, _⟩ => ⟨S1x128, .f32⟩
  | .hbm, ⟨5, _⟩ => ⟨S2048x1024, .bf16⟩
  | .hbm, ⟨6, _⟩ => ⟨S2048x512, .bf16⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S128x1024, .bf16⟩
  | .local _ .vmem, ⟨5, _⟩ => ⟨S128x512, .bf16⟩
  | .local _ .vmem, ⟨6, _⟩ => ⟨S1x128, .f32⟩
  | .local _ .vmem, ⟨7, _⟩ => ⟨S512x1024, .bf16⟩
  | .local _ .vmem, ⟨8, _⟩ => ⟨S512x1024, .bf16⟩
  | .local _ .vmem, ⟨9, _⟩ => ⟨S512x512, .bf16⟩
  | .local _ .vmem, ⟨10, _⟩ => ⟨S512x512, .bf16⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S2048x128 : Shape := ⟨2, ![2048, 128]⟩
abbrev S128x1024 : Shape := ⟨2, ![128, 1024]⟩
abbrev S128x512 : Shape := ⟨2, ![128, 512]⟩
abbrev S1x128 : Shape := ⟨2, ![1, 128]⟩
abbrev S2048x1024 : Shape := ⟨2, ![2048, 1024]⟩
abbrev S2048x8x128 : Shape := ⟨3, ![2048, 8, 128]⟩
abbrev S2048x1x128 : Shape := ⟨3, ![2048, 1, 128]⟩
abbrev S_ : Shape := ⟨0, ![]⟩
abbrev S2048x8 : Shape := ⟨2, ![2048, 8]⟩
abbrev S2048x8x1 : Shape := ⟨3, ![2048, 8, 1]⟩
abbrev S1x1x128 : Shape := ⟨3, ![1, 1, 128]⟩
abbrev S2048x512 : Shape := ⟨2, ![2048, 512]⟩

abbrev nBuf : Space → Nat
  | .hbm => 32
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S128x1024, .bf16⟩
  | .hbm, ⟨3, _⟩ => ⟨S128x512, .bf16⟩
  | .hbm, ⟨4, _⟩ => ⟨S1x128, .f32⟩
  | .hbm, ⟨5, _⟩ => ⟨S128x1024, .f32⟩
  | .hbm, ⟨6, _⟩ => ⟨S2048x1024, .f32⟩
  | .hbm, ⟨7, _⟩ => ⟨S2048x8x128, .f32⟩
  | .hbm, ⟨8, _⟩ => ⟨S2048x1x128, .f32⟩
  | .hbm, ⟨9, _⟩ => ⟨S2048x8x128, .f32⟩
  | .hbm, ⟨10, _⟩ => ⟨S2048x8x128, .f32⟩
  | .hbm, ⟨11, _⟩ => ⟨S2048x8x128, .f32⟩
  | .hbm, ⟨12, _⟩ => ⟨S_, .f32⟩
  | .hbm, ⟨13, _⟩ => ⟨S2048x8, .f32⟩
  | .hbm, ⟨14, _⟩ => ⟨S2048x8x1, .f32⟩
  | .hbm, ⟨15, _⟩ => ⟨S_, .f32⟩
  | .hbm, ⟨16, _⟩ => ⟨S2048x8x1, .f32⟩
  | .hbm, ⟨17, _⟩ => ⟨S2048x8x1, .f32⟩
  | .hbm, ⟨18, _⟩ => ⟨S_, .f32⟩
  | .hbm, ⟨19, _⟩ => ⟨S2048x8x1, .f32⟩
  | .hbm, ⟨20, _⟩ => ⟨S2048x8x1, .f32⟩
  | .hbm, ⟨21, _⟩ => ⟨S2048x8x1, .f32⟩
  | .hbm, ⟨22, _⟩ => ⟨S2048x8x128, .f32⟩
  | .hbm, ⟨23, _⟩ => ⟨S2048x8x128, .f32⟩
  | .hbm, ⟨24, _⟩ => ⟨S1x1x128, .f32⟩
  | .hbm, ⟨25, _⟩ => ⟨S2048x8x128, .f32⟩
  | .hbm, ⟨26, _⟩ => ⟨S2048x8x128, .f32⟩
  | .hbm, ⟨27, _⟩ => ⟨S128x512, .f32⟩
  | .hbm, ⟨28, _⟩ => ⟨S2048x512, .f32⟩
  | .hbm, ⟨29, _⟩ => ⟨S2048x1024, .f32⟩
  | .hbm, ⟨30, _⟩ => ⟨S2048x1024, .bf16⟩
  | .hbm, ⟨31, _⟩ => ⟨S2048x512, .bf16⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel8.lean ====
abbrev S48x1x512 : Shape := ⟨3, ![48, 1, 512]⟩
abbrev S12288x1024 : Shape := ⟨2, ![12288, 1024]⟩
abbrev S8x1x1024 : Shape := ⟨3, ![8, 1, 1024]⟩
abbrev S12288x128 : Shape := ⟨2, ![12288, 128]⟩
abbrev S32768x1024 : Shape := ⟨2, ![32768, 1024]⟩
abbrev S1x1x512 : Shape := ⟨3, ![1, 1, 512]⟩
abbrev S256x1024 : Shape := ⟨2, ![256, 1024]⟩
abbrev S1x1x1024 : Shape := ⟨3, ![1, 1, 1024]⟩
abbrev S256x128 : Shape := ⟨2, ![256, 128]⟩
abbrev S2x256x1024 : Shape := ⟨3, ![2, 256, 1024]⟩
abbrev S_ : Shape := ⟨0, ![]⟩
abbrev S1x1x1 : Shape := ⟨3, ![1, 1, 1]⟩
abbrev S1x256x1024 : Shape := ⟨3, ![1, 256, 1024]⟩
abbrev S1x1024 : Shape := ⟨2, ![1, 1024]⟩
abbrev S256x1 : Shape := ⟨2, ![256, 1]⟩

abbrev nBuf : Space → Nat
  | .hbm => 6
  | .vmem => 9
  | .smem => 2
  | _ => 0

abbrev bufTy : (tb : Table) → Fin (tcTables nBuf tb) → BufTy
  | .hbm, ⟨0, _⟩ => ⟨S48x1x512, .i32⟩
  | .hbm, ⟨1, _⟩ => ⟨S12288x1024, .f32⟩
  | .hbm, ⟨2, _⟩ => ⟨S8x1x1024, .f32⟩
  | .hbm, ⟨3, _⟩ => ⟨S12288x128, .f32⟩
  | .hbm, ⟨4, _⟩ => ⟨S32768x1024, .f32⟩
  | .hbm, ⟨5, _⟩ => ⟨S12288x1024, .f32⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1x1024, .f32⟩
  | .local _ .vmem, ⟨4, _⟩ => ⟨S256x128, .f32⟩
  | .local _ .vmem, ⟨5, _⟩ => ⟨S256x128, .f32⟩
  | .local _ .vmem, ⟨6, _⟩ => ⟨S256x1024, .f32⟩
  | .local _ .vmem, ⟨7, _⟩ => ⟨S256x1024, .f32⟩
  | .local _ .vmem, ⟨8, _⟩ => ⟨S2x256x1024, .f32⟩
  | .local _ .smem, ⟨0, _⟩ => ⟨S1x1x512, .i32⟩
  | .local _ .smem, ⟨1, _⟩ => ⟨S1x1x512, .i32⟩
  | _, _ => ⟨S48x1x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![48], ![false]⟩

@[reducible] def k0_t1_loop : Scf.Loop 32 :=
  let c0_i32 : BitVec 32 := 0#32
  let c256_i32 : BitVec 32 := 256#32
  let v0 : BitVec 32 := Scalar.addi c0_i32 c256_i32
  let c1_i32 : BitVec 32 := 1#32
  ⟨c0_i32, v0, c1_i32⟩
def k0_off1 (k0_t1 : Fin k0_t1_loop.trips) : Fin 3 → Nat :=
  let c0_16 : Index := 0#32
  let c0_17 : Index := 0#32
  let c0_i32 : BitVec 32 := 0#32
  let c1_i32 : BitVec 32 := 1#32
  let arg9 : BitVec 32 := Scf.iv c0_i32 c1_i32 k0_t1
  let v21 : Index := Scalar.indexCast arg9
  ![0, 0, v21.toNat]
def k0_off2 (k0_t1 : Fin k0_t1_loop.trips) : Fin 2 → Nat :=
  let c0_i32 : BitVec 32 := 0#32
  let c1_i32 : BitVec 32 := 1#32
  let arg9 : BitVec 32 := Scf.iv c0_i32 c1_i32 k0_t1
  let c0_i32_21 : BitVec 32 := 0#32
  ![arg9.toNat, 0]
def k0_off3 (v22 : BitVec 32) : Fin 2 → Nat :=
  let c0_i32_22 : BitVec 32 := 0#32
  ![v22.toNat, 0]

def k0_chk1 (v22 : BitVec 32) : Prop :=
  (∀ a, (k0_off3 v22) a + S1x1024.size a ≤ S32768x1024.size a)
theorem k0_off3_inb : ∀ (v22 : BitVec 32) (k0_hw1 : k0_chk1 v22), ∀ a, (k0_off3 v22) a + S1x1024.size a ≤ S32768x1024.size a := fun v22 k0_hw1 => k0_hw1

def k0_off4 (k0_t1 : Fin k0_t1_loop.trips) : Fin 3 → Nat :=
  let c0_24 : Index := 0#32
  let c0_25 : Index := 0#32
  let c256_i32_23 : BitVec 32 := 256#32
  let c0_i32 : BitVec 32 := 0#32
  let c1_i32 : BitVec 32 := 1#32
  let arg9 : BitVec 32 := Scf.iv c0_i32 c1_i32 k0_t1
  let v27 : BitVec 32 := Scalar.addi c256_i32_23 arg9
  let v28 : Index := Scalar.indexCast v27
  ![0, 0, v28.toNat]
def k0_off5 (k0_t1 : Fin k0_t1_loop.trips) : Fin 2 → Nat :=
  let c0_i32 : BitVec 32 := 0#32
  let c1_i32 : BitVec 32 := 1#32
  let arg9 : BitVec 32 := Scf.iv c0_i32 c1_i32 k0_t1
  let c0_i32_29 : BitVec 32 := 0#32
  ![arg9.toNat, 0]
def k0_off6 (v29 : BitVec 32) : Fin 2 → Nat :=
  let c0_i32_30 : BitVec 32 := 0#32
  ![v29.toNat, 0]

def k0_chk2 (v29 : BitVec 32) : Prop :=
  (∀ a, (k0_off6 v29) a + S1x1024.size a ≤ S32768x1024.size a)
theorem k0_off6_inb : ∀ (v29 : BitVec 32) (k0_hw2 : k0_chk2 v29), ∀ a, (k0_off6 v29) a + S1x1024.size a ≤ S32768x1024.size a := fun v29 k0_hw2 => k0_hw2

@[reducible] def k0_t2_loop : Scf.Loop 32 :=
  let c0_i32_1 : BitVec 32 := 0#32
  let c512_i32 : BitVec 32 := 512#32
  let v1 : BitVec 32 := Scalar.addi c0_i32_1 c512_i32
  let c1_i32_2 : BitVec 32 := 1#32
  ⟨c0_i32_1, v1, c1_i32_2⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference8Ideal.lean ====
abbrev S48x1x512 : Shape := ⟨3, ![48, 1, 512]⟩
abbrev S12288x1024 : Shape := ⟨2, ![12288, 1024]⟩
abbrev S8x1x1024 : Shape := ⟨3, ![8, 1, 1024]⟩
abbrev S12288x128 : Shape := ⟨2, ![12288, 128]⟩
abbrev S32768x1024 : Shape := ⟨2, ![32768, 1024]⟩
abbrev S48x2x256 : Shape := ⟨3, ![48, 2, 256]⟩
abbrev S48x256x2 : Shape := ⟨3, ![48, 256, 2]⟩
abbrev S12288x2 : Shape := ⟨2, ![12288, 2]⟩
abbrev S8x1024 : Shape := ⟨2, ![8, 1024]⟩
abbrev S1x1024 : Shape := ⟨2, ![1, 1024]⟩
abbrev S4096x1024 : Shape := ⟨2, ![4096, 1024]⟩
abbrev S4x1024 : Shape := ⟨2, ![4, 1024]⟩
abbrev S4x1x1024 : Shape := ⟨3, ![4, 1, 1024]⟩
abbrev S4x2048x1024 : Shape := ⟨3, ![4, 2048, 1024]⟩
abbrev S8192x1024 : Shape := ⟨2, ![8192, 1024]⟩
abbrev S12288x1 : Shape := ⟨2, ![12288, 1]⟩
abbrev S12288 : Shape := ⟨1, ![12288]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S48x1x512, .i32⟩
  | .hbm, ⟨1, _⟩ => ⟨S12288x1024, .f32⟩
  | .hbm, ⟨2, _⟩ => ⟨S8x1x1024, .f32⟩
  | .hbm, ⟨3, _⟩ => ⟨S12288x128, .f32⟩
  | .hbm, ⟨4, _⟩ => ⟨S32768x1024, .f32⟩
  | .hbm, ⟨5, _⟩ => ⟨S48x2x256, .i32⟩
  | .hbm, ⟨6, _⟩ => ⟨S48x256x2, .i32⟩
  | .hbm, ⟨7, _⟩ => ⟨S12288x2, .i32⟩
  | .hbm, ⟨8, _⟩ => ⟨S8x1024, .f32⟩
  | .hbm, ⟨9, _⟩ => ⟨S1x1024, .f32⟩
  | .hbm, ⟨10, _⟩ => ⟨S4096x1024, .f32⟩
  | .hbm, ⟨11, _⟩ => ⟨S4x1024, .f32⟩
  | .hbm, ⟨12, _⟩ => ⟨S4x1x1024, .f32⟩
  | .hbm, ⟨13, _⟩ => ⟨S4x2048x1024, .f32⟩
  | .hbm, ⟨14, _⟩ => ⟨S8192x1024, .f32⟩
  | .hbm, ⟨15, _⟩ => ⟨S12288x1024, .f32⟩
  | .hbm, ⟨16, _⟩ => ⟨S12288x1, .f32⟩
  | .hbm, ⟨17, _⟩ => ⟨S12288x1, .i32⟩
  | .hbm, ⟨18, _⟩ => ⟨S12288, .i32⟩
  | .hbm, ⟨19, _⟩ => ⟨S_, .i32⟩
  | .hbm, ⟨20, _⟩ => ⟨S12288, .i32⟩
  | .hbm, ⟨21, _⟩ => ⟨S12288, .i1⟩
  | .hbm, ⟨22, _⟩ => ⟨S_, .i32⟩
  | .hbm, ⟨23, _⟩ => ⟨S12288, .i32⟩
  | .hbm, ⟨24, _⟩ => ⟨S12288, .i32⟩
  | .hbm, ⟨25, _⟩ => ⟨S12288, .i32⟩
  | .hbm, ⟨26, _⟩ => ⟨S12288x1, .i32⟩
  | .hbm, ⟨27, _⟩ => ⟨S12288x1024, .f32⟩
  | .hbm, ⟨28, _⟩ => ⟨S12288x1024, .f32⟩
  | .hbm, ⟨29, _⟩ => ⟨S12288x1024, .f32⟩
  | .hbm, ⟨30, _⟩ => ⟨S12288x1, .f32⟩
  | .hbm, ⟨31, _⟩ => ⟨S12288x1, .i32⟩
  | .hbm, ⟨32, _⟩ => ⟨S12288, .i32⟩
  | .hbm, ⟨33, _⟩ => ⟨S_, .i32⟩
  | .hbm, ⟨34, _⟩ => ⟨S12288, .i32⟩
  | .hbm, ⟨35, _⟩ => ⟨S12288, .i1⟩
  | .hbm, ⟨36, _⟩ => ⟨S_, .i32⟩
  | .hbm, ⟨37, _⟩ => ⟨S12288, .i32⟩
  | .hbm, ⟨38, _⟩ => ⟨S12288, .i32⟩
  | .hbm, ⟨39, _⟩ => ⟨S12288, .i32⟩
  | .hbm, ⟨40, _⟩ => ⟨S12288x1, .i32⟩
  | .hbm, ⟨41, _⟩ => ⟨S12288x1024, .f32⟩
  | .hbm, ⟨42, _⟩ => ⟨S12288x1024, .f32⟩
  | .hbm, ⟨43, _⟩ => ⟨S12288x1024, .f32⟩
  | .hbm, ⟨44, _⟩ => ⟨S12288x1024, .f32⟩
  | .hbm, ⟨45, _⟩ => ⟨S12288x1024, .f32⟩
  | .hbm, ⟨46, _⟩ => ⟨S12288x1024, .f32⟩
  | _, _ => ⟨S48x1x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_v15 : Ref sig .tc := ⟨.hbm, 21, rfl⟩
abbrev main_c_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c_1 : Ref sig .tc := ⟨.hbm, 33, rfl⟩
abbrev main_v26 : Ref sig .tc := ⟨.hbm, 34, rfl⟩
abbrev main_v27 : Ref sig .tc := ⟨.hbm, 35, rfl⟩
abbrev main_c_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩

abbrev nD : Nat := 1
abbrev τ : Topo := Topo.v7x

variable {F : FTy → Type} [FloatOps F]
-- ==== Proof.Experts.Ideal.lean ====
/- The expert call of KernelIdeal, run for EVERY contents of its table.

   Per grid point `t` the body reads the word `used` behind the 128 expert numbers and takes one of two ways: below
   `used` it stores the expert's SwiGLU of its 256 rows, at or above it zeros. One of the two conditions holds
   whatever the word is (`cond_or`), so the output block is stored at every point. This module runs the body on each
   way (`runA`, `runB`), collects what the output's staging buffer holds after each point (`outsAt`), and launches
   the pipeline with these (`run_main_quiescent`, `frame`) under `Ok`, the pipeline's side condition on the table:
   the expert numbers name experts that exist. `ok_of_range` gives it from the range of the numbers. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.WordCmp
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two conditions -/

/-- The first condition: the grid point is below the word. -/
theorem cond1_iff (i : grid0.Coords) (v : BitVec 32) :
    k0_cond1 i v = 1#1 ↔ (BitVec.ofNat 32 (i 0).val).toInt < v.toInt := by
  show IntOp.cmpi .ne (BitVec.setWidth 32 (IntOp.cmpi .slt (BitVec.ofNat 32 (i 0).val) v)) 0#32 = 1#1 ↔ _
  rw [Idealize.ShloMosaic.WordCmp.cmpi_slt_eq]
  by_cases h : (BitVec.ofNat 32 (i 0).val).toInt < v.toInt <;> simp only [h, decide_true, decide_false] <;> decide

/-- The second condition: the grid point is not below the word. -/
theorem cond2_iff (i : grid0.Coords) (v : BitVec 32) :
    k0_cond2 i v = 1#1 ↔ v.toInt ≤ (BitVec.ofNat 32 (i 0).val).toInt := by
  show IntOp.cmpi .ne (BitVec.setWidth 32 (IntOp.cmpi .sge (BitVec.ofNat 32 (i 0).val) v)) 0#32 = 1#1 ↔ _
  rw [Idealize.ShloMosaic.WordCmp.cmpi_sge_eq]
  by_cases h : v.toInt ≤ (BitVec.ofNat 32 (i 0).val).toInt <;> simp only [h, decide_true, decide_false] <;> decide

/-- Where the first condition holds the second does not, -/
theorem not_cond2 (i : grid0.Coords) (v : BitVec 32) (h : k0_cond1 i v = 1#1) : ¬ k0_cond2 i v = 1#1 := by
  rw [cond1_iff] at h; rw [cond2_iff]; omega

/-- and where the first fails the second holds. -/
theorem cond2_of_not (i : grid0.Coords) (v : BitVec 32) (h : ¬ k0_cond1 i v = 1#1) : k0_cond2 i v = 1#1 := by
  rw [cond1_iff] at h; rw [cond2_iff]; omega

/-! ## @main up to the region -/

/-- Core `c`'s buffers when the region is entered: as launched (@main is the region alone). -/
abbrev V (c : Dev nD) (b : Ref sig .tc) : Buf (Elt F) ((c : Thread nD τ).loc b) := m ((c : Thread nD τ).loc b)

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-! ## The table -/

/-- The table's contents when the region is entered, read on the one device. -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

/-- The pipeline's side condition on the table. -/
abbrev Ok : Prop := ok0 (F := F) (tbl m)
/-- The table as admissible contents, and the pipeline at them. -/
abbrev adm (hO : Ok m) : (pcfg0 (F := F)).Adm := ⟨tbl m, hO⟩
abbrev cfgM (hO : Ok m) : Pipeline.Cfg sig Λ₀ := cfg0 (adm m hO)

/-- The table as the body is handed it: its whole buffer. -/
abbrev tbM : Memref sig .tc .smem S129 .i32 := Memref.whole main_arg0
abbrev htbM : tbM.IsWhole := Memref.isWhole_whole _

/-- The table's buffer on core `c`, held at half the full share at `f`: the pipeline keeps the other half. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) : (Pipeline.ΦT pre0 (tbl m) c : sProp 𝕄) = iprop(tbPt c tbM (tbl m 0)) := by
  unfold Pipeline.ΦT Pipeline.prefHeld
  rw [show (Finset.univ : Finset (Fin 1)) = {(0 : Fin 1)} from by decide, bigSep_singleton]
  rfl

/-- The word behind the expert numbers, as the body loads it. -/
abbrev usedWord (c : Dev nD) (T : TbBuf (F := F) c tbM) : BitVec 32 :=
  View.readAt (Elt F) (tbM).view (Rect.unit (s := S129) ![128] S1.size inb_S129_S1_128).toLoadRect T (Shape.Idx.first (numel1_S1.symm ▸ Nat.one_pos))

/-! ## The windows' blocks and their staging buffers -/

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input window's staging buffer holds its block at every point, fetched there or not, for any proof data whose
    array is the launched one and whose body leaves the block in place: windows 0 to 3 in turn. -/
theorem before_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Each window's current staging memref at point `t`, and its wholeness. -/
abbrev ms0 (hO : Ok m) (t : Fin (cfgM m hO).N) : Memref sig .tc .vmem S256x1024 .f32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x1024x256 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1024x256 .f32 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x256x1024 .f32 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S256x1024 .f32 := spec0_4.stage ((cfgM m hO).slots t 4)
abbrev hs4 (hO : Ok m) (t : Fin (cfgM m hO).N) : (ms4 m hO t).IsWhole := hstage0_4 (((cfgM m hO).slots t 4).cast nbuf0_4)

/-! ## The body on each way -/

/-- The whole-block rectangles the body loads and stores through. -/
abbrev rx : Rect S256x1024 := Rect.unit (s := S256x1024) ![0, 0] S256x1024.size inb_S256x1024_S256x1024_0_0
abbrev rg : Rect S1x1024x256 := Rect.unit (s := S1x1024x256) ![0, 0, 0] S1x1024x256.size inb_S1x1024x256_S1x1024x256_0_0_0
abbrev rd : Rect S1x256x1024 := Rect.unit (s := S1x256x1024) ![0, 0, 0] S1x256x1024.size inb_S1x256x1024_S1x256x1024_0_0_0

theorem hz2 : (![0, 0] : Fin 2 → Nat) = fun _ => 0 := by decide
theorem hz3 : (![0, 0, 0] : Fin 3 → Nat) = fun _ => 0 := by decide

/-- One store through the whole rectangle covers the block. -/
theorem cover (p : Vec F S256x1024 .f32) (y : S256x1024.Idx) :
    ∃ pc ∈ ([⟨rx, p⟩] : List (View.Piece (Elt F) S256x1024 .f32)), y ∈ pc.1.set :=
  View.cover_of_tiled [⟨rx, p⟩] S256x1024.size (by rfl) y

/-- What that store leaves is its payload, -/
theorem canon_store (p : Vec F S256x1024 .f32) :
    View.canon ([⟨rx, p⟩] : List (View.Piece (Elt F) S256x1024 .f32)) = p :=
  View.canon_unit_zero (S := S256x1024) hz2 _ p

/-- and the payload of the loads is the payload of the blocks. -/
theorem pay_loads (x0 : Vec F S256x1024 .f32) (x1 x2 : Vec F S1x1024x256 .f32) (x3 : Vec F S1x256x1024 .f32) :
    k0_pay1 (View.ld x0 rx) (View.ld x1 rg) (View.ld x2 rg) (View.ld x3 rd) = k0_pay1 x0 x1 x2 x3 := by
  rw [View.ld_unit_zero (S := S256x1024) hz2, View.ld_unit_zero (S := S1x1024x256) hz3,
    View.ld_unit_zero (S := S1x1024x256) hz3, View.ld_unit_zero (S := S1x256x1024) hz3]

set_option maxHeartbeats 2000000 in
/-- Below the word: the body leaves its inputs and stores the payload of them. -/
theorem runA (c : Dev nD) (i : grid0.Coords) (arg2 : Memref sig .tc .vmem S256x1024 .f32) (harg2 : arg2.IsWhole) (arg3 : Memref sig .tc .vmem S1x1024x256 .f32) (harg3 : arg3.IsWhole) (arg4 : Memref sig .tc .vmem S1x1024x256 .f32) (harg4 : arg4.IsWhole) (arg5 : Memref sig .tc .vmem S1x256x1024 .f32) (harg5 : arg5.IsWhole) (arg6 : Memref sig .tc .vmem S256x1024 .f32) (harg6 : arg6.IsWhole)
    (x0 : Vec F S256x1024 .f32) (x1 : Vec F S1x1024x256 .f32) (x2 : Vec F S1x1024x256 .f32) (x3 : Vec F S1x256x1024 .f32) (T : TbBuf (F := F) c tbM)
    (k0_h1 : k0_cond1 i (usedWord c T) = 1#1) (k0_h2 : ¬ k0_cond2 i (usedWord c T) = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ tbPt c tbM T
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay1 x0 x1 x2 x3) ∗ tbPt c tbM T) -∗ K ⟨⟩))
      ⊢ wp frame (wpE (defs₀ (F := F)) Variants.none c none) E (cc0_moe_experts i tbM htbM arg2 harg2 arg3 harg3 arg4 harg4 arg5 harg5 arg6 harg6) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%d4, %f4, -, H4⟩, HT0, Hk⟩
  subst hf0 hf1 hf2 hf3
  have hT0 : tbM.IsWhole := Memref.isWhole_whole _
  sl_exec! (disch := first | (guard_target = k0_cond1 _ _ = _; exact k0_h1) | (guard_target = ¬(k0_cond2 _ _ = _); exact k0_h2))
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact (View.read_writes_eq_canon _ _ _ (cover _)).trans ((canon_store _).trans (pay_loads _ _ _ _))
  iexact HT0

set_option maxHeartbeats 2000000 in
/-- At or above the word: the body leaves its inputs and stores zeros. -/
theorem runB (c : Dev nD) (i : grid0.Coords) (arg2 : Memref sig .tc .vmem S256x1024 .f32) (harg2 : arg2.IsWhole) (arg3 : Memref sig .tc .vmem S1x1024x256 .f32) (harg3 : arg3.IsWhole) (arg4 : Memref sig .tc .vmem S1x1024x256 .f32) (harg4 : arg4.IsWhole) (arg5 : Memref sig .tc .vmem S1x256x1024 .f32) (harg5 : arg5.IsWhole) (arg6 : Memref sig .tc .vmem S256x1024 .f32) (harg6 : arg6.IsWhole)
    (x0 : Vec F S256x1024 .f32) (x1 : Vec F S1x1024x256 .f32) (x2 : Vec F S1x1024x256 .f32) (x3 : Vec F S1x256x1024 .f32) (T : TbBuf (F := F) c tbM)
    (k0_h1 : ¬ k0_cond1 i (usedWord c T) = 1#1) (k0_h2 : k0_cond2 i (usedWord c T) = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ tbPt c tbM T
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay2 (F := F)) ∗ tbPt c tbM T) -∗ K ⟨⟩))
      ⊢ wp frame (wpE (defs₀ (F := F)) Variants.none c none) E (cc0_moe_experts i tbM htbM arg2 harg2 arg3 harg3 arg4 harg4 arg5 harg5 arg6 harg6) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%d4, %f4, -, H4⟩, HT0, Hk⟩
  subst hf0 hf1 hf2 hf3
  have hT0 : tbM.IsWhole := Memref.isWhole_whole _
  sl_exec! (disch := first | (guard_target = ¬(k0_cond1 _ _ = _); exact k0_h1) | (guard_target = k0_cond2 _ _ = _; exact k0_h2))
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact (View.read_writes_eq_canon _ _ _ (cover _)).trans (canon_store _)
  iexact HT0

/-! ## What the output holds after each point, and the proof data -/

/-- The output's staging buffer after point `t`: the payload of the point's blocks below the word, zeros from it on. -/
def outsAt (hO : Ok m) (c : Dev nD) (t : Fin (cfgM m hO).N) : Vec F S256x1024 .f32 :=
  if k0_cond1 (grid0.coords t) (usedWord c (tbl m 0)) = 1#1 then
    k0_pay1 (iblk m hO c 0 t) (iblk m hO c 1 t) (iblk m hO c 2 t) (iblk m hO c 3 t)
  else k0_pay2 (F := F)

/-- The pipeline's proof data: the arrays as launched, each input's buffer at its block, the output's at `outsAt`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outsAt m hO c t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = outsAt m hO c t := by dsimp only [dats]; try rfl

theorem before_0 (hO : Ok m) (c : Dev nD) (t : Fin (cfgM m hO).N) (d) : (dats m hO 0 c).before 0 t d = iblk m hO c 0 t :=
  before_0_of m hO (dats m hO 0 c) (A_eq m hO c 0) (after_0 m hO c) t d
theorem before_1 (hO : Ok m) (c : Dev nD) (t : Fin (cfgM m hO).N) (d) : (dats m hO 0 c).before 1 t d = iblk m hO c 1 t :=
  before_1_of m hO (dats m hO 0 c) (A_eq m hO c 1) (after_1 m hO c) t d
theorem before_2 (hO : Ok m) (c : Dev nD) (t : Fin (cfgM m hO).N) (d) : (dats m hO 0 c).before 2 t d = iblk m hO c 2 t :=
  before_2_of m hO (dats m hO 0 c) (A_eq m hO c 2) (after_2 m hO c) t d
theorem before_3 (hO : Ok m) (c : Dev nD) (t : Fin (cfgM m hO).N) (d) : (dats m hO 0 c).before 3 t d = iblk m hO c 3 t :=
  before_3_of m hO (dats m hO 0 c) (A_eq m hO c 3) (after_3 m hO c) t d

/-! ## The body obligation -/

/-- The kernel body at point `t`, on what the pipeline calls it with. -/
abbrev bodyAt (a : (pcfg0 (F := F)).Adm) (t : Fin (cfg0 a).N) : Prog (TpuEff nD τ sig (Elt F) Λ₀ .tc) PUnit :=
  cc0_moe_experts (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t))

/-- The body at any point: by the way its word picks. -/
theorem sound_body (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before_0, before_1, before_2, before_3]
  rw [show (dats m hO 0 c).Φ t.succ = (dats m hO 0 c).Φ t.castSucc from rfl,
    show (dats m hO 0 c).owesAt () t.succ = (dats m hO 0 c).owesAt () t.castSucc from rfl,
    after_0, after_1, after_2, after_3, after_4]
  rw [show (dats m hO 0 c).Φ t.castSucc = iprop(Pipeline.ΦA spec0 c ∗ Pipeline.ΦT pre0 (tbl m) c) from rfl, PhiT_eq]
  unfold outsAt
  by_cases h : k0_cond1 (grid0.coords t) (usedWord c (tbl m 0)) = 1#1
  · rw [if_pos h]
    iintro ⟨⟨HΦ, HT0⟩, Ho, ⟨%d0, H0⟩, ⟨%d1, H1⟩, ⟨%d2, H2⟩, ⟨%d3, H3⟩, ⟨%d4, H4⟩⟩
    iapply (runA c (grid0.coords t) _ _ _ _ _ _ _ _ _ _ (iblk m hO c 0 t) (iblk m hO c 1 t) (iblk m hO c 2 t) (iblk m hO c 3 t) (tbl m 0) h (not_cond2 _ _ h) Set.univ _)
    isplitl [H0]; · iexact H0
    isplitl [H1]; · iexact H1
    isplitl [H2]; · iexact H2
    isplitl [H3]; · iexact H3
    isplitl [H4]; · iexists _; iexact H4
    isplitl [HT0]; · iexact HT0
    iintro ⟨H0, H1, H2, H3, H4, HT0⟩
    isplitl [HΦ HT0]
    · isplitl [HΦ]
      · iexact HΦ
      iexact HT0
    isplitl [Ho]; · iexact Ho
    isplitl [H0]; · iexact H0
    isplitl [H1]; · iexact H1
    isplitl [H2]; · iexact H2
    isplitl [H3]; · iexact H3
    iexact H4
  · rw [if_neg h]
    iintro ⟨⟨HΦ, HT0⟩, Ho, ⟨%d0, H0⟩, ⟨%d1, H1⟩, ⟨%d2, H2⟩, ⟨%d3, H3⟩, ⟨%d4, H4⟩⟩
    iapply (runB c (grid0.coords t) _ _ _ _ _ _ _ _ _ _ (iblk m hO c 0 t) (iblk m hO c 1 t) (iblk m hO c 2 t) (iblk m hO c 3 t) (tbl m 0) h (cond2_of_not _ _ h) Set.univ _)
    isplitl [H0]; · iexact H0
    isplitl [H1]; · iexact H1
    isplitl [H2]; · iexact H2
    isplitl [H3]; · iexact H3
    isplitl [H4]; · iexists _; iexact H4
    isplitl [HT0]; · iexact HT0
    iintro ⟨H0, H1, H2, H3, H4, HT0⟩
    isplitl [HΦ HT0]
    · isplitl [HΦ]
      · iexact HΦ
      iexact HT0
    isplitl [Ho]; · iexact Ho
    isplitl [H0]; · iexact H0
    isplitl [H1]; · iexact H1
    isplitl [H2]; · iexact H2
    isplitl [H3]; · iexact H3
    iexact H4

/-- The body table's row at point `t`'s slots is the body as `bodyAt` spells it. -/
theorem defs₀_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

/-- The output is stored at every point: one of the two conditions holds whatever the word. -/
theorem not_idle (hO : Ok m) (t : Fin (cfgM m hO).N) : (cfgM m hO).idle 4 ((cfgM m hO).grid.coords t) = false := by
  show (!(k0_cond1 (grid0.coords t) ((tbl m).atD 0 ![128]) == 1#1) && !(k0_cond2 (grid0.coords t) ((tbl m).atD 0 ![128]) == 1#1)) = false
  by_cases h : k0_cond1 (grid0.coords t) ((tbl m).atD 0 ![128]) = 1#1
  · rw [h]; rfl
  · rw [cond2_of_not _ _ h]; simp

/-- The library's body obligation, at every point. -/
theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  have hi : idle0 (tbl m) 4 ((pcfg0.gridAt (tbl m)).coords t) = false := not_idle m hO t
  show _ ⊢ iprop(_ ∗ _ ∗ _ ∗ _ ∗ _ ∗ _ ∗ _)
  dsimp only
  rw [hi]
  exact BIClass.entails_refl _

/-! ## The run and the frame -/

set_option backward.isDefEq.respectTransparency.types false in
/-- THE LAUNCH: every fair execution ends, every array of the pipeline at what the proof data say, every other
    unscoped buffer as launched, every counter at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The run with the output array named and the arguments unchanged. -/
theorem run_named (hO : Ok m) : θ_run defs (onTc (τ := τ) (main (F := F))) ⟨m, fun _ => 0, ρ⟩ (fun r => ∀ c : Dev nD,
      r.2.mem ((c.tc : Thread nD τ).loc main_v0) = (dats m hO 0 c).arrAt 4 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1 4, (h c).2 main_arg0 (by decide : main_arg0 ∈ Pipeline.restRefs sig spec0),
      ((h c).1 0).trans (((dats m hO 0 c).arrAt_in 0 rfl _).trans (A_eq m hO c 0)),
      ((h c).1 1).trans (((dats m hO 0 c).arrAt_in 1 rfl _).trans (A_eq m hO c 1)),
      ((h c).1 2).trans (((dats m hO 0 c).arrAt_in 2 rfl _).trans (A_eq m hO c 2)),
      ((h c).1 3).trans (((dats m hO 0 c).arrAt_in 3 rfl _).trans (A_eq m hO c 3))⟩) (run_main m ρ hO)

/-- THE FRAME, under the side condition on the table. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and ((θ_run defs _ _).mono (fun _ h c => (h c).2) (run_named m ρ hO))
    ((θ_run defs _ _).mono (fun _ h => h.2) (run_main_quiescent m ρ hO))

/-! ## The side condition from the range of the expert numbers -/

/-- Tile `i`'s place in the table, -/
def tileIx (i : grid0.Coords) : S129.Idx := fun a => ⟨(i 0).val, by
  have h : (i 0).val < 128 := (i 0).isLt
  obtain rfl : a = 0 := Subsingleton.elim _ _
  show (i 0).val < 129; omega⟩

/-- and the place behind the tiles. -/
def lastIx : S129.Idx := fun a => ⟨128, by obtain rfl : a = 0 := Subsingleton.elim _ _; decide⟩

/-- Table `pf`'s expert number for point `i`. -/
abbrev expertOf (pf : pre0.Contents (Elt F)) (i : grid0.Coords) : BitVec 32 := pf 0 (tileIx i)

/-- The word that the weights' index maps read at point `i` is the tile's expert number. -/
theorem at_tile (pf : pre0.Contents (Elt F)) (i : grid0.Coords)
    (inb : ∀ a, (![(Scalar.indexCast (BitVec.ofNat 32 (i 0).val)).toNat] : Fin 1 → Nat) a + S1.size a ≤ S129.size a) :
    (pf.at 0 (Rect.unit (s := S129) ![(Scalar.indexCast (BitVec.ofNat 32 (i 0).val)).toNat] S1.size inb) numel1_S1 : BitVec 32) = expertOf pf i := by
  refine congrArg (pf 0) (funext fun (a : Fin 1) => ?_)
  obtain rfl : a = 0 := Subsingleton.elim _ _
  have h : (i 0).val < 128 := (i 0).isLt
  refine Fin.ext ?_
  show (Scalar.indexCast (BitVec.ofNat 32 (i 0).val)).toNat + 1 * 0 = (i 0).val
  show (BitVec.ofNat 32 (i 0).val).toNat + 1 * 0 = (i 0).val
  rw [BitVec.toNat_ofNat]; omega

theorem transform_1_eq (pf : pre0.Contents (Elt F)) (i : grid0.Coords) :
    cc0_transform_1 k0_off1_inb numel1_S1 pf i = ![(expertOf pf i).toNat, 0, 0] := by
  rw [← at_tile pf i (k0_off1_inb i)]; rfl
theorem transform_2_eq (pf : pre0.Contents (Elt F)) (i : grid0.Coords) :
    cc0_transform_2 k0_off1_inb numel1_S1 pf i = ![(expertOf pf i).toNat, 0, 0] := by
  rw [← at_tile pf i (k0_off1_inb i)]; rfl
theorem transform_3_eq (pf : pre0.Contents (Elt F)) (i : grid0.Coords) :
    cc0_transform_3 k0_off1_inb numel1_S1 pf i = ![(expertOf pf i).toNat, 0, 0] := by
  rw [← at_tile pf i (k0_off1_inb i)]; rfl

/-- The word the body reads is the one behind the tiles. -/
theorem usedWord_eq (c : Dev nD) (T : TbBuf (F := F) c tbM) : usedWord c T = T lastIx := by
  refine congrArg T (funext fun (a : Fin 1) => ?_)
  obtain rfl : a = 0 := Subsingleton.elim _ _
  exact Fin.ext rfl

/-- Expert numbers below 32 meet the pipeline's side condition: each weight block is inside its array. -/
theorem ok_of_range (h : ∀ i : grid0.Coords, (expertOf (tbl m) i).toNat < 32) : Ok m := by
  refine ⟨fun i => ⟨fun a => ?_, .inl rfl⟩, fun i => ⟨fun a => ?_, .inl rfl⟩, fun i => ⟨fun a => ?_, .inl rfl⟩⟩
  · have := h i
    rw [transform_1_eq]
    fin_cases a
    · show ((expertOf (tbl m) i).toNat + 1) * 1 ≤ 32; omega
    · show (0 + 1) * 1024 ≤ 1024; omega
    · show (0 + 1) * 256 ≤ 256; omega
  · have := h i
    rw [transform_2_eq]
    fin_cases a
    · show ((expertOf (tbl m) i).toNat + 1) * 1 ≤ 32; omega
    · show (0 + 1) * 1024 ≤ 1024; omega
    · show (0 + 1) * 256 ≤ 256; omega
  · have := h i
    rw [transform_3_eq]
    fin_cases a
    · show ((expertOf (tbl m) i).toNat + 1) * 1 ≤ 32; omega
    · show (0 + 1) * 256 ≤ 256; omega
    · show (0 + 1) * 1024 ≤ 1024; omega

end Cert.KernelIdeal.Experts

end
-- ==== Proof.Experts.Range.lean ====
/-
  The precondition read back: every tile's expert number is below 32.
-/
module

public import proofs.«01_k».proof.Pre_names_experts
public import proofs.«01_k».proof.Proof.Gen.Pre_names_experts
public import Idealize.ShloMosaic.Lib.Pointwise
public import Idealize.ShloMosaic.Lib.WordCmp

@[expose] public section

set_option maxRecDepth 16384

noncomputable section

namespace Cert.Pre_names_experts.Range

open Cert.Pre_names_experts Cert.Pre_names_experts.Gen Idealize.ShloMosaic

variable {F : FTy → Type} [FloatOps F]

/-- Where the precondition holds, each of the first 128 words of the table is a number below 32. -/
theorem lt_of_pre (T : IVec S129 32) (x : FVec F S32768x1024 .f32) (wg wu : FVec F S32x1024x256 .f32) (wd : FVec F S32x256x1024 .f32)
    (h : fn (F := F) T x wg wu wd = fun _ => 1#1) (i : Fin 129) (hi : i.val < 128) : (T (ix1 i)).toNat < 32 := by
  have h0 := congrFun h (ix1 (⟨i.val, hi⟩ : Fin 128))
  unfold fn at h0
  pointwise at h0
  rw [show (32#32 : BitVec 32) = BitVec.ofNat 32 32 from rfl, WordCmp.andi_sge_zero_slt_ofNat (by decide), WordCmp.ofBool_decide_eq_one_iff] at h0
  exact h0

end Cert.Pre_names_experts.Range

end
-- ==== Proof.Experts.Reference.lean ====
/-
  The reference of the expert call at an element: the one-hot gates leave the row's own expert of the sum over all
  experts, and nothing where the row's tile is not in use.
-/
module

public import proofs.«01_k».proof.Proof.Gen.ReferenceIdeal.Read
public import Idealize.ShloMosaic.Lib.Pointwise
public import Idealize.ShloMosaic.Lib.WordCmp
public import Idealize.ShloMosaic.Lib.Routing.Words

@[expose] public section

set_option maxRecDepth 16384

noncomputable section

namespace Cert.ReferenceIdeal.Experts

open Cert.ReferenceIdeal Cert.ReferenceIdeal.Gen Cert.ReferenceIdeal.Read Idealize.ShloMosaic

/-- One expert's network on one row: `silu(x @ wg) * (x @ wu)` times the expert's output matrix. -/
abbrev network (x : FVec Ideal S32768x1024 .f32) (wg wu : FVec Ideal S32x1024x256 .f32) (wd : FVec Ideal S32x256x1024 .f32)
    (e : Fin 32) (n : Fin 32768) (d : Fin 1024) : EReal :=
  ∑ f : Fin 256, (((∑ k : Fin 1024, x (ix2 n k) * wg (ix3 e k f))
      * Ideal.div 1 (1 + Ideal.exp (-∑ k : Fin 1024, x (ix2 n k) * wg (ix3 e k f))))
      * ∑ k : Fin 1024, x (ix2 n k) * wu (ix3 e k f)) * wd (ix3 e f d)

/-- The tile of row `n`, as a place of the table. -/
abbrev tileOf (n : Fin 32768) : Fin 129 := ⟨n.val / 256, by omega⟩

variable (T : IVec S129 32) (x : FVec Ideal S32768x1024 .f32) (wg wu : FVec Ideal S32x1024x256 .f32) (wd : FVec Ideal S32x256x1024 .f32)

/-- Rounded-down division by 256 as the reference spells it, at a number that is not negative. -/
theorem quotient_word {n : ℕ} (hn : n < 2 ^ 31) : Scalar.select
      (IntOp.andi
        (IntOp.cmpi CmpIPredicate.ne
          (if BitVec.ofNat 32 n = (0 : BitVec 32) then (0 : BitVec 32) else if (BitVec.ofNat 32 n).msb = true then -1 else 1)
          (if BitVec.ofNat 32 256 = (0 : BitVec 32) then (0 : BitVec 32) else if BitVec.msb (BitVec.ofNat 32 256) = true then -1 else 1))
        (IntOp.cmpi CmpIPredicate.ne (IntOp.remsi ArithUnit.host (BitVec.ofNat 32 n) (BitVec.ofNat 32 256)) 0#32))
      (IntOp.subi (IntOp.divsi ArithUnit.host (BitVec.ofNat 32 n) (BitVec.ofNat 32 256)) 1#32)
      (IntOp.divsi ArithUnit.host (BitVec.ofNat 32 n) (BitVec.ofNat 32 256)) = BitVec.ofNat 32 (n / 256) := by
  rw [Routing.divsi_word _ hn (by decide) (by decide), Routing.remsi_word _ hn (by decide) (by decide)]
  rcases Nat.eq_zero_or_pos n with rfl | h0
  · decide
  · have hz : ¬ BitVec.ofNat 32 n = (0 : BitVec 32) := fun h => by
      have : n % 2 ^ 32 = 0 := congrArg BitVec.toNat h
      omega
    have hm : ¬ (BitVec.ofNat 32 n).msb = true := by
      rw [BitVec.msb_eq_decide, BitVec.toNat_ofNat, decide_eq_true_eq]
      omega
    rw [if_neg hz, if_neg hm]
    have hs : IntOp.cmpi CmpIPredicate.ne (1 : BitVec 32)
        (if BitVec.ofNat 32 256 = (0 : BitVec 32) then (0 : BitVec 32) else if BitVec.msb (BitVec.ofNat 32 256) = true then -1 else 1)
        = 0#1 := by decide
    rw [hs]
    have ha (b : BitVec 1) : IntOp.andi 0#1 b = 0#1 := BitVec.zero_and
    rw [ha]
    rfl

/-- The rounded-down quotient that the reference computes is the row's tile. -/
theorem tile_word (n : Fin 32768) : val_main_v5 (F := Ideal) (ix1 n) = BitVec.ofNat 32 (n.val / 256) := by
  have hn : n.val < 2 ^ 31 := by omega
  pointwise [val_main_v5, val_main_call0_v0, val_main_call0_v1, val_main_call0_v2, val_main_call0_v3, val_main_call0_v4,
    val_main_call0_v5, val_main_call0_v6, val_main_call0_v7, val_main_call0_v8, val_main_call0_v9, val_main_call0_v10,
    val_main_call0_v11, val_main_call0_v12, val_main_call0_v13, val_main_call0_c, val_main_call0_c_0, val_main_v4, val_main_c]
  exact quotient_word hn

/-- A bit read as a float is 1 or 0. -/
theorem bit_float (p : Prop) [Decidable p] :
    (FloatOps.uitofp (F := Ideal) FTy.f32 (BitVec.ofBool (decide p)) : EReal) = if p then 1 else 0 := by
  by_cases h : p
  · rw [if_pos h, decide_eq_true h]
    show ((((BitVec.ofBool true).toNat : ℕ) : EReal)) = 1
    simp
  · rw [if_neg h, decide_eq_false h]
    show ((((BitVec.ofBool false).toNat : ℕ) : EReal)) = 0
    simp

/-- The hidden values of row `n` under expert `e`, gated. -/
theorem hidden_at (n : Fin 32768) (e : Fin 32) (f : Fin 256) : val_main_v21 (F := Ideal) T x wg wu (ix3 n e f)
    = (((∑ k : Fin 1024, x (ix2 n k) * wg (ix3 e k f))
        * Ideal.div 1 (1 + Ideal.exp (-∑ k : Fin 1024, x (ix2 n k) * wg (ix3 e k f))))
        * ∑ k : Fin 1024, x (ix2 n k) * wu (ix3 e k f))
      * ((if T (ix1 (tileOf n)) = BitVec.ofNat 32 e.val then 1 else 0)
        * (if (BitVec.ofNat 32 (n.val / 256)).toInt < (T (ix1 128)).toInt then 1 else 0)) := by
  pointwise [val_main_v21, val_main_v20, val_main_v19, val_main_v18, val_main_v17, val_main_v16, val_main_v15, val_main_v14,
    val_main_v13, val_main_v12, val_main_v11, val_main_v10, val_main_v9, val_main_v8, val_main_v7, val_main_v6, val_main_v3,
    val_main_v2, val_main_v1, val_main_v0, val_main_call1_v0, val_main_call1_v1, val_main_call1_v2, val_main_call1_v3,
    val_main_call1_v4, val_main_call2_v0, val_main_call2_v1, val_main_call2_v2, val_main_call2_v3, val_main_call2_v4,
    val_main_call2_v5, val_main_call2_cst, val_main_call2_cst_0]
  rw [tile_word, WordCmp.cmpi_eq_eq, WordCmp.cmpi_slt_eq, bit_float, bit_float]

/-- THE REFERENCE AT AN ELEMENT, for a row whose tile names expert `e`. -/
theorem ref_at (n : Fin 32768) (d : Fin 1024) (e : Fin 32) (he : T (ix1 (tileOf n)) = BitVec.ofNat 32 e.val) :
    val_main_v22 (F := Ideal) T x wg wu wd (ix2 n d)
      = if (BitVec.ofNat 32 (n.val / 256)).toInt < (T (ix1 128)).toInt then network x wg wu wd e n d else 0 := by
  unfold val_main_v22
  pointwise
  simp only [hidden_at]
  split
  · rw [Finset.sum_eq_single e (fun e' _ hne => ?_) (fun h => absurd (Finset.mem_univ e) h)]
    · simp only [he, if_true, mul_one]
    · have : ¬ T (ix1 (tileOf n)) = BitVec.ofNat 32 e'.val := fun h => hne (by
        have := (WordCmp.ofNat_eq_ofNat_iff (w := 32) (by omega) (by omega)).mp (he.symm.trans h)
        exact Fin.ext this.symm)
      simp only [this, if_false, zero_mul, mul_zero, Finset.sum_const_zero]
  · simp only [mul_zero, zero_mul, Finset.sum_const_zero]

end Cert.ReferenceIdeal.Experts

end
-- ==== Proof.Experts.Value.lean ====
/-
  The expert call over the reals: the array it leaves, for a table that names experts which exist, is the reference's
  of the same arguments.

  Point `t` of the grid takes the 256 rows of tile `t` and the three weight matrices of the expert that the table names
  for it; the reference sums over all 32 experts with one-hot gates. Both are read at one element and compared.
-/
module

public import proofs.«01_k».proof.Proof.Experts.Ideal
public import proofs.«01_k».proof.Proof.Experts.Range
public import proofs.«01_k».proof.Proof.Experts.Reference
public import Idealize.ShloMosaic.Lib.Pipeline.ValueKit
public import Idealize.ShloMosaic.Lib.Pipeline.Covers

@[expose] public section

set_option maxRecDepth 16384

noncomputable section

namespace Cert.KernelIdeal.Experts

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (hO : Ok m)

/-- The grid has one axis: a point's coordinate is its number. -/
theorem coord : ∀ t : Fin grid0.N, (grid0.coords t 0).val = t.val := by decide +kernel

/-- Row `a` of tile `t`. -/
abbrev rowOf (t : Fin grid0.N) (a : Fin 256) : Fin 32768 :=
  ⟨t.val * 256 + a.val, by have := t.isLt; have := N_0; omega⟩

/-- The expert that the table names for tile `t`. -/
abbrev expertAt (t : Fin grid0.N) (h : (expertOf (tbl m) (grid0.coords t)).toNat < 32) : Fin 32 :=
  ⟨(expertOf (tbl m) (grid0.coords t)).toNat, h⟩

/-- The rows that point `t` is given. -/
theorem rows_at (c : Dev nD) (t : Fin grid0.N) (a : Fin 256) (b : Fin 1024) :
    iblk m hO c 0 t (ix2 a b) = m ((c : Thread nD τ).loc main_arg1) (ix2 (rowOf t a) b) := by
  show V m c main_arg1 ((((cfgM m hO).win 0).rect t).emb (ix2 a b)) = _
  refine congrArg (m ((c : Thread nD τ).loc main_arg1)) (funext fun (x : Fin 2) => Fin.ext ?_)
  refine (Pipeline.Window.rect_emb_val ((cfgM m hO).win 0) t (ix2 a b) x).trans ?_
  have h := coord t
  have hc : (BitVec.ofNat 32 (grid0.coords t 0).val).toNat = t.val := by
    rw [h, BitVec.toNat_ofNat]; have := t.isLt; have := N_0; omega
  fin_cases x
  · show (BitVec.ofNat 32 (grid0.coords t 0).val).toNat * 256 + a.val = t.val * 256 + a.val
    rw [hc]
  · show 0 * 1024 + b.val = b.val
    omega

/-- The named expert's gate matrix, as point `t` is given it. -/
theorem gate_at (c : Dev nD) (t : Fin grid0.N) (h : (expertOf (tbl m) (grid0.coords t)).toNat < 32) (a : Fin 1024) (b : Fin 256) :
    iblk m hO c 1 t (ix3 0 a b) = m ((c : Thread nD τ).loc main_arg2) (ix3 (expertAt m t h) a b) := by
  show V m c main_arg2 ((((cfgM m hO).win 1).rect t).emb (ix3 0 a b)) = _
  refine congrArg (m ((c : Thread nD τ).loc main_arg2)) (funext fun (x : Fin 3) => Fin.ext ?_)
  refine (Pipeline.Window.rect_emb_val ((cfgM m hO).win 1) t (ix3 0 a b) x).trans ?_
  have e : ((cfgM m hO).win 1).index t = ![(expertOf (tbl m) (grid0.coords t)).toNat, 0, 0] := transform_1_eq (tbl m) (grid0.coords t)
  rw [e]
  fin_cases x
  · show (expertOf (tbl m) (grid0.coords t)).toNat * 1 + 0 = (expertOf (tbl m) (grid0.coords t)).toNat
    omega
  · show 0 * 1024 + a.val = a.val
    omega
  · show 0 * 256 + b.val = b.val
    omega

/-- The named expert's up matrix, -/
theorem up_at (c : Dev nD) (t : Fin grid0.N) (h : (expertOf (tbl m) (grid0.coords t)).toNat < 32) (a : Fin 1024) (b : Fin 256) :
    iblk m hO c 2 t (ix3 0 a b) = m ((c : Thread nD τ).loc main_arg3) (ix3 (expertAt m t h) a b) := by
  show V m c main_arg3 ((((cfgM m hO).win 2).rect t).emb (ix3 0 a b)) = _
  refine congrArg (m ((c : Thread nD τ).loc main_arg3)) (funext fun (x : Fin 3) => Fin.ext ?_)
  refine (Pipeline.Window.rect_emb_val ((cfgM m hO).win 2) t (ix3 0 a b) x).trans ?_
  have e : ((cfgM m hO).win 2).index t = ![(expertOf (tbl m) (grid0.coords t)).toNat, 0, 0] := transform_2_eq (tbl m) (grid0.coords t)
  rw [e]
  fin_cases x
  · show (expertOf (tbl m) (grid0.coords t)).toNat * 1 + 0 = (expertOf (tbl m) (grid0.coords t)).toNat
    omega
  · show 0 * 1024 + a.val = a.val
    omega
  · show 0 * 256 + b.val = b.val
    omega

/-- and its output matrix. -/
theorem down_at (c : Dev nD) (t : Fin grid0.N) (h : (expertOf (tbl m) (grid0.coords t)).toNat < 32) (a : Fin 256) (b : Fin 1024) :
    iblk m hO c 3 t (ix3 0 a b) = m ((c : Thread nD τ).loc main_arg4) (ix3 (expertAt m t h) a b) := by
  show V m c main_arg4 ((((cfgM m hO).win 3).rect t).emb (ix3 0 a b)) = _
  refine congrArg (m ((c : Thread nD τ).loc main_arg4)) (funext fun (x : Fin 3) => Fin.ext ?_)
  refine (Pipeline.Window.rect_emb_val ((cfgM m hO).win 3) t (ix3 0 a b) x).trans ?_
  have e : ((cfgM m hO).win 3).index t = ![(expertOf (tbl m) (grid0.coords t)).toNat, 0, 0] := transform_3_eq (tbl m) (grid0.coords t)
  rw [e]
  fin_cases x
  · show (expertOf (tbl m) (grid0.coords t)).toNat * 1 + 0 = (expertOf (tbl m) (grid0.coords t)).toNat
    omega
  · show 0 * 256 + a.val = a.val
    omega
  · show 0 * 1024 + b.val = b.val
    omega

/-- Where a place of the block that point `t` writes lies in the array. -/
theorem place_at (t : Fin grid0.N) (i : Fin 256) (j : Fin 1024) :
    (((cfgM m hO).win 4).blk t).view.emb (ix2 i j) = ix2 (rowOf t i) j := by
  show (((cfgM m hO).win 4).rect t).emb (ix2 i j) = _
  refine funext fun (x : Fin 2) => Fin.ext ?_
  refine (Pipeline.Window.rect_emb_val ((cfgM m hO).win 4) t (ix2 i j) x).trans ?_
  have h := coord t
  have hc : (BitVec.ofNat 32 (grid0.coords t 0).val).toNat = t.val := by
    rw [h, BitVec.toNat_ofNat]; have := t.isLt; have := N_0; omega
  fin_cases x
  · show (BitVec.ofNat 32 (grid0.coords t 0).val).toNat * 256 + i.val = t.val * 256 + i.val
    rw [hc]
  · show 0 * 1024 + j.val = j.val
    omega

/-- The payload of a tile in use, at a place. -/
theorem payload_at (x : Vec Ideal S256x1024 .f32) (g u : Vec Ideal S1x1024x256 .f32) (d : Vec Ideal S1x256x1024 .f32) (i : Fin 256) (j : Fin 1024) :
    k0_pay1 (F := Ideal) x g u d (ix2 i j)
      = ∑ f : Fin 256, (((∑ k : Fin 1024, x (ix2 i k) * g (ix3 0 k f))
          * Ideal.div 1 (1 + Ideal.exp (-∑ k : Fin 1024, x (ix2 i k) * g (ix3 0 k f))))
          * ∑ k : Fin 1024, x (ix2 i k) * u (ix3 0 k f)) * d (ix3 0 f j) := by
  pointwise [k0_pay1]
  rfl

/-- The reference's result of the launched arguments. -/
abbrev ref (c : Dev nD) : FVec Ideal S32768x1024 .f32 :=
  Cert.ReferenceIdeal.Read.val_main_v22 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- What point `t` writes at a place of its block is the reference at the row it stands for. -/
theorem point (hr : ∀ i : grid0.Coords, (expertOf (tbl m) i).toNat < 32) (c : Dev nD) (t : Fin grid0.N) (i : Fin 256) (j : Fin 1024) :
    outsAt m hO c t (ix2 i j) = ref m c (ix2 (rowOf t i) j) := by
  obtain rfl : c = 0 := Subsingleton.elim _ _
  have hn : (rowOf t i).val / 256 = t.val := by
    show (t.val * 256 + i.val) / 256 = t.val
    omega
  have hT : ∀ i : S129.Idx, m (((0 : Dev nD) : Thread nD τ).loc main_arg0) i = tbl m 0 i := fun _ => rfl
  have he : m (((0 : Dev nD) : Thread nD τ).loc main_arg0) (ix1 (Cert.ReferenceIdeal.Experts.tileOf (rowOf t i)))
      = BitVec.ofNat 32 (expertAt m t (hr _)).val := by
    rw [hT]
    refine (congrArg (tbl m 0) (funext fun (a : Fin 1) => Fin.ext ?_)).trans
      (show tbl m 0 (tileIx (grid0.coords t)) = BitVec.ofNat 32 (tbl m 0 (tileIx (grid0.coords t))).toNat from ?_)
    · obtain rfl : a = 0 := Subsingleton.elim _ _
      show (rowOf t i).val / 256 = (grid0.coords t 0).val
      rw [hn, coord t]
    · have word_self (w : BitVec 32) : w = BitVec.ofNat 32 w.toNat :=
        BitVec.eq_of_toNat_eq (by rw [BitVec.toNat_ofNat, Nat.mod_eq_of_lt w.isLt])
      exact word_self _
  have hu : usedWord 0 (tbl m 0) = m (((0 : Dev nD) : Thread nD τ).loc main_arg0) (ix1 128) := by
    refine (usedWord_eq 0 (tbl m 0)).trans (Eq.trans ?_ (hT _).symm)
    refine congrArg (tbl m 0) (funext fun (a : Fin 1) => Fin.ext ?_)
    obtain rfl : a = 0 := Subsingleton.elim _ _
    rfl
  refine Eq.trans ?_ (Cert.ReferenceIdeal.Experts.ref_at _ _ _ _ _ (rowOf t i) j (expertAt m t (hr _)) he).symm
  rw [hn]
  unfold outsAt
  by_cases hc : k0_cond1 (grid0.coords t) (usedWord 0 (tbl m 0)) = 1#1
  · rw [if_pos hc]
    rw [cond1_iff, hu, coord t] at hc
    rw [if_pos hc]
    refine (payload_at _ _ _ _ i j).trans ?_
    simp only [rows_at, gate_at m hO 0 t (hr _), up_at m hO 0 t (hr _), down_at m hO 0 t (hr _)]
  · rw [if_neg hc]
    rw [cond1_iff, hu, coord t] at hc
    rw [if_neg hc]
    pointwise [k0_pay2]

/-- The output's blocks cover the array. -/
theorem covers : ((cfgM m hO).win 4).Covers := by
  refine Pipeline.Window.covers_of_index_surj _ rfl (fun (a : Fin 2) => ?_) fun β => ?_
  · fin_cases a
    · show 0 < 256; omega
    · show 0 < 1024; omega
  · have h0 : (β (0 : Fin 2)).val < 128 := lt_of_lt_of_eq (β (0 : Fin 2)).isLt (show (32768 + 256 - 1) / 256 = 128 by decide)
    have h1 : (β (1 : Fin 2)).val < 1 := lt_of_lt_of_eq (β (1 : Fin 2)).isLt (show (1024 + 1024 - 1) / 1024 = 1 by decide)
    refine ⟨⟨(β (0 : Fin 2)).val, by rw [N_0]; exact h0⟩, fun (a : Fin 2) => ?_⟩
    fin_cases a
    · show (BitVec.ofNat 32 (grid0.coords _ 0).val).toNat = (β (0 : Fin 2)).val
      rw [coord, BitVec.toNat_ofNat]
      exact Nat.mod_eq_of_lt (lt_trans h0 (by decide))
    · show 0 = (β (1 : Fin 2)).val
      omega

/-- THE ARRAY AFTER THE RUN is the reference's. -/
theorem final (hr : ∀ i : grid0.Coords, (expertOf (tbl m) i).toNat < 32) (c : Dev nD) :
    (dats m hO 0 c).arrAt 4 (cfgM m hO).N = ref m c := by
  refine (dats m hO 0 c).arrAt_eq_of_covers 4 _ (covers m hO) fun t _ y => ?_
  rw [after_4]
  obtain ⟨i, j, rfl⟩ : ∃ (i : Fin 256) (j : Fin 1024), y = ix2 i j :=
    ⟨y (0 : Fin 2), y (1 : Fin 2), funext fun (a : Fin 2) => by fin_cases a <;> rfl⟩
  rw [place_at]
  exact point m hO hr c t i j

end Cert.KernelIdeal.Experts

end
-- ==== Proof.Experts.Claims.lean ====
/-
  The claims about the expert call: the frames of the kernel at both readings and of the reference, and the equality
  of their results over the reals.
-/
module

public import proofs.«01_k».proof.Defs
public import proofs.«01_k».proof.Proof.Experts.Bits
public import proofs.«01_k».proof.Proof.Experts.Value
public import proofs.«01_k».proof.Proof.Gen.ReferenceIdeal.Run
public import Idealize.ShloMosaic.Adequacy
public import Idealize.ShloMosaic.Lib.Quiescent

@[expose] public section

set_option maxRecDepth 16384

noncomputable section

namespace Cert.Proof.Experts

open Idealize.ShloMosaic Idealize.ShloMosaic.TcCoe Idealize.SL.Sem

/-- The precondition puts every tile's expert number below 32: at bit patterns, -/
theorem range_bits (m : (ℓ : Loc Cert.Kernel.nD Cert.Kernel.τ Cert.Kernel.sig) → Buf (Elt Bits) ℓ) (h : Pre_Kernel m) (i : Cert.Kernel.grid0.Coords) :
    (Cert.Kernel.Experts.expertOf (Cert.Kernel.Experts.tbl m) i).toNat < 32 := by
  have hi : (i 0).val < 128 := (i 0).isLt
  have hT := Cert.Pre_names_experts.Range.lt_of_pre _ _ _ _ _ (h 0) ⟨(i 0).val, by omega⟩ hi
  refine lt_of_eq_of_lt (congrArg (fun j => BitVec.toNat (Cert.Kernel.Experts.tbl m 0 j)) (funext fun (a : Fin 1) => ?_)) hT
  obtain rfl : a = 0 := Subsingleton.elim _ _
  rfl

/-- and over the reals. -/
theorem range_ideal (m : (ℓ : Loc Cert.KernelIdeal.nD Cert.KernelIdeal.τ Cert.KernelIdeal.sig) → Buf (Elt Ideal) ℓ) (h : Pre_KernelIdeal m) (i : Cert.KernelIdeal.grid0.Coords) :
    (Cert.KernelIdeal.Experts.expertOf (Cert.KernelIdeal.Experts.tbl m) i).toNat < 32 := by
  have hi : (i 0).val < 128 := (i 0).isLt
  have hT := Cert.Pre_names_experts.Range.lt_of_pre _ _ _ _ _ (h 0) ⟨(i 0).val, by omega⟩ hi
  refine lt_of_eq_of_lt (congrArg (fun j => BitVec.toNat (Cert.KernelIdeal.Experts.tbl m 0 j)) (funext fun (a : Fin 1) => ?_)) hT
  obtain rfl : a = 0 := Subsingleton.elim _ _
  rfl

/-- THE FRAMES. -/
theorem frame_kernel : quiescent_Kernel := fun m g h =>
  Cert.Kernel.Experts.frame m g (Cert.Kernel.Experts.ok_of_range m (range_bits m h))

theorem frame_kernelIdeal : quiescent_KernelIdeal := fun m g h =>
  Cert.KernelIdeal.Experts.frame m g (Cert.KernelIdeal.Experts.ok_of_range m (range_ideal m h))

theorem frame_reference : quiescent_ReferenceIdeal := fun m g _ =>
  (θ_run _ _ _).mono (fun r h => ⟨fun c => (h c).2, sem_eq_zero_of_no_sems rfl _⟩) (Cert.ReferenceIdeal.Value.run m g)

/-- The two runs end with equal results. -/
theorem equal : algebraic_KernelIdeal_ReferenceIdeal := fun m g m' g' h hag => by
  have hr := range_ideal m h
  have hO := Cert.KernelIdeal.Experts.ok_of_range m hr
  refine ⟨fun c => Cert.KernelIdeal.Experts.ref m c, ?_, ?_⟩
  · exact (θ_run _ _ _).mono (fun r hp c => ⟨(hp c).1.trans (Cert.KernelIdeal.Experts.final m hO hr c), (hp c).2⟩)
      (Cert.KernelIdeal.Experts.run_named m g hO)
  · refine (θ_run _ _ _).mono (fun r hp c => ⟨(hp c).1.trans ?_, (hp c).2⟩) (Cert.ReferenceIdeal.Value.run m' g')
    obtain ⟨h0, h1, h2, h3, h4⟩ := hag c
    rw [h0, h1, h2, h3, h4]
    exact Cert.ReferenceIdeal.Read.val_main_v22_eq _ _ _ _ _

end Cert.Proof.Experts

end
-- ==== Proof.Attention.Head.lean ====
/-
  One head of the decoder's attention as the kernel takes it (program `Kernel2`), and what it stores: for every pair of
  heads, the one's columns in the lower half of 128 and the other's in the upper half.
-/
module

public import proofs.«01_k».proof.Proof.Gen.Kernel2Ideal.Value
public import Idealize.ShloMosaic.Lib.Pipeline.ValueKit

@[expose] public section

set_option maxRecDepth 16384

noncomputable section

namespace Cert.Kernel2Ideal.Attention

open Cert.Kernel2Ideal Cert.Kernel2Ideal.Gen Idealize.ShloMosaic Idealize.ShloMosaic.TcCoe Idealize.SL.Sem

/-- The scores' scale, as the programs spell it. -/
def scale : EReal := Ideal.ofBits .f32 0x3DD105EC#32

/-- The score of query `r` of a block and key `k` of another: the product of the two rows, scaled. -/
def score {n : ℕ} (q : FVec Ideal S256x128 .bf16) (k : FVec Ideal (⟨2, ![n, 128]⟩ : Shape) .bf16) (r : Fin 256) (i : Fin n) : EReal :=
  (∑ d : Fin 128, q (ix2 r d) * k (ix2 i d)) * scale

/-- The greatest score of a query over the keys and the cached keys. -/
def top (q : FVec Ideal S256x128 .bf16) (k : FVec Ideal S2048x128 .bf16) (kc : FVec Ideal S512x128 .bf16) (r : Fin 256) : EReal :=
  max (Finset.univ.fold max ⊥ (score q k r)) (Finset.univ.fold max ⊥ (score q kc r))

/-- Minus infinity, as the programs spell it. -/
theorem lowest : Ideal.ofBits .f32 0xFF800000#32 = (⊥ : EReal) := by simp [Ideal.ofBits, Ideal.ieee]

/-- One head at an element. -/
theorem head_at (v : FVec Ideal S2048x128 .bf16) (vc : FVec Ideal S512x128 .bf16) (q : FVec Ideal S256x128 .bf16)
    (k : FVec Ideal S2048x128 .bf16) (kc : FVec Ideal S512x128 .bf16) (r : Fin 256) (j : Fin 128) :
    k0_pay3 (F := Ideal) v vc q k kc (ix2 r j)
      = Ideal.div (∑ i, Ideal.exp (score q k r i - top q k kc r) * v (ix2 i j) + ∑ i, Ideal.exp (score q kc r i - top q k kc r) * vc (ix2 i j))
        (∑ i, Ideal.exp (score q k r i - top q k kc r) + ∑ i, Ideal.exp (score q kc r i - top q k kc r)) := by
  pointwise [k0_pay3]
  unfold top score scale
  rw [← lowest]

/-- What is stored of two heads: the one's columns below the half, the other's above. -/
def pair (a b : FVec Ideal S256x128 .f32) : FVec Ideal S256x128 .bf16 :=
  truncf .bf16 (select k0_pay2 a b) bitsLt_bf16_f32

/-- A stored element: the half its column lies in decides the head. -/
theorem pair_at (a b : FVec Ideal S256x128 .f32) (r : Fin 256) (j : Fin 128) :
    pair a b (ix2 r j) = if j.val < 64 then a (ix2 r j) else b (ix2 r j) := by
  have hw : ∀ n : Fin 128, Scalar.cmpi .slt (BitVec.ofNat 32 n.val) 64#32 = if n.val < 64 then 1#1 else 0#1 := by decide
  pointwise [pair, k0_pay2]
  refine (congrArg (fun w => Scalar.select w _ _) (hw j)).trans ?_
  split <;> rfl

variable (v : FVec Ideal S2048x128 .bf16) (vc : FVec Ideal S512x128 .bf16) (q q' : FVec Ideal S256x128 .bf16)
  (k k' : FVec Ideal S2048x128 .bf16) (kc kc' : FVec Ideal S512x128 .bf16)

/-- The four stores: the same two heads over their own columns. -/
theorem store0 : k0_pay4 k0_pay2 v vc (k0_pay3 v vc q k kc) q' k' kc' = pair (k0_pay3 v vc q k kc) (k0_pay3 v vc q' k' kc') := rfl

theorem store1 : k0_pay7 k0_pay2 v vc (k0_pay5 v vc q k kc) q' (k0_pay6 q' k') kc' = pair (k0_pay3 v vc q k kc) (k0_pay3 v vc q' k' kc') := rfl

theorem store2 : k0_pay14 k0_pay2 v vc (k0_pay9 v vc q (k0_pay8 q k) kc) (k0_pay10 q' k') (k0_pay11 q' kc') (k0_pay12 q' k') (k0_pay13 q' kc')
    = pair (k0_pay3 v vc q k kc) (k0_pay3 v vc q' k' kc') := rfl

theorem store3 : k0_pay1 k0_pay2 vc (k0_pay19 v vc (k0_pay15 q k) (k0_pay16 q kc) (k0_pay17 q k) (k0_pay18 q kc)) (k0_pay21 q' kc')
      (k0_pay24 q' k' kc') (k0_pay25 v q' k' kc') (k0_pay26 q' k' kc')
    = pair (k0_pay3 v vc q k kc) (k0_pay3 v vc q' k' kc') := rfl

end Cert.Kernel2Ideal.Attention

end
-- ==== Proof.Attention.Softmax.lean ====
/-
  One softmax over two lists of scores, the kernel's way and the reference's. The kernel takes the greater of the two
  lists' greatest scores, adds up the exponentials and their products with the values list by list, and divides once, at
  the end. The reference puts the lists behind one another, divides every exponential, and then multiplies. Where the
  scores are real numbers, both are the same, whatever the values are.
-/
module

public import Idealize.ShloMosaic.Lib.Pipeline.ValueKit

@[expose] public section

noncomputable section

namespace Cert.Kernel2Ideal.Attention

open Idealize.ShloMosaic

/-- A real number. -/
def Real? (x : EReal) : Prop := ∃ r : ℝ, x = (r : EReal)

/-- A sum times a number that is neither negative nor infinite. -/
theorem sum_mul_coe {ι : Type} (s : Finset ι) (f : ι → EReal) {c : ℝ} (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- A sum of real numbers, as an extended one. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The sum of two lists' products is a real number where their entries are. -/
theorem real_sum_mul {n : ℕ} (f g : Fin n → EReal) (hf : ∀ i, Real? (f i)) (hg : ∀ i, Real? (g i)) : Real? (∑ i, f i * g i) := by
  choose f' hf' using hf
  choose g' hg' using hg
  refine ⟨∑ i, f' i * g' i, ?_⟩
  rw [← sum_coe]
  exact Finset.sum_congr rfl fun i _ => by rw [hf', hg', EReal.coe_mul]

/-- The two ways to take the softmax. -/
theorem softmax_two {a b : ℕ} (s : Fin a → EReal) (s' : Fin b → EReal) (v : Fin a → EReal) (v' : Fin b → EReal)
    (S V : Fin (a + b) → EReal) (hS : ∀ k, S (Fin.castAdd b k) = s k) (hS' : ∀ k, S (Fin.natAdd a k) = s' k)
    (hV : ∀ k, V (Fin.castAdd b k) = v k) (hV' : ∀ k, V (Fin.natAdd a k) = v' k) (hr : ∀ k, Real? (S k)) (i₀ : Fin (a + b)) :
    Ideal.div (∑ k, Ideal.exp (s k - max (Finset.univ.fold max ⊥ s) (Finset.univ.fold max ⊥ s')) * v k
        + ∑ k, Ideal.exp (s' k - max (Finset.univ.fold max ⊥ s) (Finset.univ.fold max ⊥ s')) * v' k)
      (∑ k, Ideal.exp (s k - max (Finset.univ.fold max ⊥ s) (Finset.univ.fold max ⊥ s'))
        + ∑ k, Ideal.exp (s' k - max (Finset.univ.fold max ⊥ s) (Finset.univ.fold max ⊥ s')))
    = ∑ k, V k * Ideal.div (Ideal.exp (S k - max ⊥ (Finset.univ.fold max ⊥ S)))
        (0 + ∑ k, Ideal.exp (S k - max ⊥ (Finset.univ.fold max ⊥ S))) := by
  have top : max (Finset.univ.fold max ⊥ s) (Finset.univ.fold max ⊥ s') = Finset.univ.sup S := by
    change Finset.univ.sup s ⊔ Finset.univ.sup s' = _
    refine le_antisymm (sup_le (Finset.sup_le fun k _ => ?_) (Finset.sup_le fun k _ => ?_)) (Finset.sup_le fun k _ => ?_)
    · exact hS k ▸ Finset.le_sup (f := S) (Finset.mem_univ _)
    · exact hS' k ▸ Finset.le_sup (f := S) (Finset.mem_univ _)
    · induction k using Fin.addCases with
      | left k => exact le_sup_of_le_left (hS k ▸ Finset.le_sup (f := s) (Finset.mem_univ k))
      | right k => exact le_sup_of_le_right (hS' k ▸ Finset.le_sup (f := s') (Finset.mem_univ k))
  have top' : max ⊥ (Finset.univ.fold max ⊥ S) = Finset.univ.sup S := by
    change ⊥ ⊔ Finset.univ.sup S = _
    exact bot_sup_eq _
  rw [top, top', zero_add]
  obtain ⟨i, -, hi⟩ := Finset.exists_mem_eq_sup Finset.univ ⟨i₀, Finset.mem_univ _⟩ S
  rw [hi]
  choose x hx using hr
  have e : ∀ k, Ideal.exp (S k - S i) = ((Real.exp (x k - x i) : ℝ) : EReal) := fun k => by
    rw [hx, hx, ← EReal.coe_sub]; rfl
  have den : ∑ k, Ideal.exp (s k - S i) + ∑ k, Ideal.exp (s' k - S i) = ∑ k, Ideal.exp (S k - S i) := by
    rw [Fin.sum_univ_add]; simp only [hS, hS']
  have num : ∑ k, Ideal.exp (s k - S i) * v k + ∑ k, Ideal.exp (s' k - S i) * v' k = ∑ k, V k * Ideal.exp (S k - S i) := by
    rw [Fin.sum_univ_add]; simp only [hS, hS', hV, hV', mul_comm]
  rw [den, num]
  simp only [e]
  rw [sum_coe]
  have pos : 0 < ∑ k, Real.exp (x k - x i) := Finset.sum_pos (fun k _ => Real.exp_pos _) ⟨i₀, Finset.mem_univ _⟩
  have div : ∀ y : EReal, Ideal.div y ((∑ k, Real.exp (x k - x i) : ℝ) : EReal) = y * (((∑ k, Real.exp (x k - x i))⁻¹ : ℝ) : EReal) := fun y => by
    unfold Ideal.div
    rw [if_neg (by exact_mod_cast pos.ne'), EReal.coe_inv]
  simp only [div]
  rw [sum_mul_coe _ _ (inv_nonneg.mpr pos.le)]
  exact Finset.sum_congr rfl fun k _ => mul_assoc _ _ _

end Cert.Kernel2Ideal.Attention

end
-- ==== Proof.Attention.Reading.lean ====
/-
  The reference of the decoder's attention (program `Reference2`), element by element: the context's rows and the upper
  half of the columns are the argument's; everything else is a softmax over a sequence's keys and its cached ones.
-/
module

public import proofs.«01_k».proof.Proof.Gen.Reference2Ideal.Run
public import proofs.«01_k».proof.Proof.Gen.Reference2Ideal.Read
public import Idealize.ShloMosaic.Lib.Pipeline.ValueKit

@[expose] public section

set_option maxRecDepth 16384

noncomputable section

namespace Cert.Reference2Ideal.Reading

open Cert.Reference2Ideal Cert.Reference2Ideal.Read Cert.Reference2Ideal.Gen Idealize.ShloMosaic

variable (x0 x1 : FVec Ideal S12288x1024 .bf16) (x2 : FVec Ideal S12288x512 .bf16) (x3 : FVec Ideal S2048x1024 .bf16)
  (x4 : FVec Ideal S2048x512 .bf16) (x5 : FVec Ideal S12288x1024 .bf16)

/-- Minus infinity, as the programs spell it. -/
theorem lowest : Ideal.ofBits .f32 0xFF800000#32 = (⊥ : EReal) := by simp [Ideal.ofBits, Ideal.ieee]

/-- A head's output: the values, weighed. -/
theorem out_at (b : Fin 4) (h : Fin 8) (i : Fin 2048) (d : Fin 64) :
    val_main_v30 (F := Ideal) x0 x1 x2 x3 x4 (ix4 b i h d) = ∑ k : Fin 2560, val_main_v14 (F := Ideal) x2 x4 (ix4 b k h d) * val_main_v28 (F := Ideal) x0 x1 x3 (ix4 b h i k) := by
  pointwise [val_main_v30, val_main_v29]

/-- The greatest score of a query. -/
theorem top_at (b : Fin 4) (h : Fin 8) (i : Fin 2048) :
    val_main_v18 (F := Ideal) x0 x1 x3 (ix3 b h i) = Finset.univ.fold max ⊥ (fun k => val_main_v17 (F := Ideal) x0 x1 x3 (ix4 b h i k)) := by
  rw [← lowest]
  pointwise [val_main_v18, val_main_cst_0]

/-- A score's exponential. -/
theorem exp_at (b : Fin 4) (h : Fin 8) (i : Fin 2048) (k : Fin 2560) :
    val_main_v24 (F := Ideal) x0 x1 x3 (ix4 b h i k)
      = Ideal.exp (val_main_v17 (F := Ideal) x0 x1 x3 (ix4 b h i k) - max ⊥ (val_main_v18 (F := Ideal) x0 x1 x3 (ix3 b h i))) := by
  have e : idx_main_v21 (idx_main_v22 (ix4 b h i k)) = ix3 b h i := by blk_ext
  rw [val_main_v24_apply, val_main_v23_apply, val_main_v22_apply, val_main_v21_apply, val_main_v20_apply, val_main_v19_apply, val_main_cst_1_apply, e]
  generalize val_main_v18 (F := Ideal) x0 x1 x3 (ix3 b h i) = z
  generalize val_main_v17 (F := Ideal) x0 x1 x3 (ix4 b h i k) = y
  show Ideal.exp (y - max (Ideal.ofBits .f32 0xFF800000#32) z) = _
  rw [lowest]

/-- A weight: an exponential over their sum. -/
theorem prob_at (b : Fin 4) (h : Fin 8) (i : Fin 2048) (k : Fin 2560) :
    val_main_v28 (F := Ideal) x0 x1 x3 (ix4 b h i k)
      = Ideal.div (val_main_v24 (F := Ideal) x0 x1 x3 (ix4 b h i k)) (∑ k, val_main_v24 (F := Ideal) x0 x1 x3 (ix4 b h i k)) := by
  pointwise [val_main_v28, val_main_v27, val_main_v26, val_main_v25, val_main_cst_2]

/-- A score against one of the sequence's own keys. -/
theorem score_lo (b : Fin 4) (h : Fin 8) (i : Fin 2048) (k : Fin 2048) :
    val_main_v17 (F := Ideal) x0 x1 x3 (ix4 b h i ⟨k.val, by omega⟩)
      = (∑ d : Fin 128, x0 (ix2 ⟨4096 + (b.val * 2048 + i.val), by omega⟩ ⟨h.val * 128 + d.val, by omega⟩)
          * x1 (ix2 ⟨4096 + (b.val * 2048 + k.val), by omega⟩ ⟨h.val * 128 + d.val, by omega⟩)) * Ideal.ofBits .f32 0x3DD105EC#32 := by
  pointwise [val_main_v17, val_main_v16, val_main_v15, val_main_v2, val_main_v1, val_main_v0, val_main_v11, val_main_v10, val_main_v9, val_main_v5, val_main_v4, val_main_v3, val_main_cst]

/-- A score against one of its cached keys. -/
theorem score_hi (b : Fin 4) (h : Fin 8) (i : Fin 2048) (k : Fin 512) :
    val_main_v17 (F := Ideal) x0 x1 x3 (ix4 b h i ⟨2048 + k.val, by omega⟩)
      = (∑ d : Fin 128, x0 (ix2 ⟨4096 + (b.val * 2048 + i.val), by omega⟩ ⟨h.val * 128 + d.val, by omega⟩)
          * x3 (ix2 ⟨b.val * 512 + k.val, by omega⟩ ⟨h.val * 128 + d.val, by omega⟩)) * Ideal.ofBits .f32 0x3DD105EC#32 := by
  have e : 2048 + k.val - 2048 = k.val := by omega
  pointwise [val_main_v17, val_main_v16, val_main_v15, val_main_v2, val_main_v1, val_main_v0, val_main_v11, val_main_v10, val_main_v9, val_main_v5, val_main_v4, val_main_v3, val_main_cst]

/-- A value of the sequence's own. -/
theorem val_lo (b : Fin 4) (h : Fin 8) (d : Fin 64) (k : Fin 2048) :
    val_main_v14 (F := Ideal) x2 x4 (ix4 b ⟨k.val, by omega⟩ h d) = x2 (ix2 ⟨4096 + (b.val * 2048 + k.val), by omega⟩ ⟨h.val * 64 + d.val, by omega⟩) := by
  pointwise [val_main_v14, val_main_v13, val_main_v12, val_main_v8, val_main_v7, val_main_v6]

/-- A cached value. -/
theorem val_hi (b : Fin 4) (h : Fin 8) (d : Fin 64) (k : Fin 512) :
    val_main_v14 (F := Ideal) x2 x4 (ix4 b ⟨2048 + k.val, by omega⟩ h d) = x4 (ix2 ⟨b.val * 512 + k.val, by omega⟩ ⟨h.val * 64 + d.val, by omega⟩) := by
  have e : 2048 + k.val - 2048 = k.val := by omega
  pointwise [val_main_v14, val_main_v13, val_main_v12, val_main_v8, val_main_v7, val_main_v6]

/-- The result at an element. -/
theorem res_at (R : Fin 12288) (C : Fin 1024) :
    val_main_v36 (F := Ideal) x0 x1 x2 x3 x4 x5 (ix2 R C) = if h : 4096 ≤ R.val ∧ C.val < 512
      then val_main_v30 (F := Ideal) x0 x1 x2 x3 x4 (ix4 ⟨(R.val - 4096) / 2048, by omega⟩ ⟨(R.val - 4096) % 2048, by omega⟩ ⟨C.val / 64, by omega⟩ ⟨C.val % 64, by omega⟩)
      else x5 (ix2 R C) := by
  pointwise [val_main_v36, val_main_v35, val_main_v34, val_main_v33, val_main_v32, val_main_v31]
  by_cases hR : R.val < 4096
  · rw [dif_pos hR, dif_neg (by omega)]
  · rw [dif_neg hR]
    by_cases hC : C.val < 512
    · rw [dif_pos hC, dif_pos ⟨by omega, hC⟩]
    · rw [dif_neg hC, dif_neg (by omega)]
      exact congrArg x5 (by blk_ext)

end Cert.Reference2Ideal.Reading

end
-- ==== Proof.Attention.Value.lean ====
/-
  The decoder's attention (program `Kernel2`): the array that the call leaves is the reference's, where the queries, the
  keys and the cached keys are real numbers. A grid point's heads, put at the places where its blocks stand.
-/
module

public import proofs.«01_k».proof.Proof.Attention.Head
public import proofs.«01_k».proof.Proof.Attention.Softmax
public import proofs.«01_k».proof.Proof.Attention.Reading

@[expose] public section

set_option maxRecDepth 16384

noncomputable section

namespace Cert.Kernel2Ideal.Attention

open Cert.Kernel2Ideal Cert.Kernel2Ideal.Gen Idealize.ShloMosaic Idealize.ShloMosaic.TcCoe Idealize.SL.Sem
open Idealize.ShloMosaic.Pipeline (Dat)
open Cert.Reference2Ideal.Read Cert.Reference2Ideal.Reading

/-- The scale is a real number. -/
theorem real_scale : Real? scale := by
  unfold scale
  exact ⟨_, by simp [Ideal.ofBits, Ideal.ieee]; rfl⟩

/-- Row `i` of sequence `b`. -/
abbrev row (b : Fin 4) (i : Fin 2048) : Fin 12288 := ⟨4096 + (b.val * 2048 + i.val), by omega⟩

/-- Cached row `i` of sequence `b`. -/
abbrev crow (b : Fin 4) (i : Fin 512) : Fin 2048 := ⟨b.val * 512 + i.val, by omega⟩

/-- Column `d` of head `h`. -/
abbrev col (h : Fin 8) (d : Fin 128) : Fin 1024 := ⟨h.val * 128 + d.val, by omega⟩

section Pieces

variable (x0 x1 : FVec Ideal S12288x1024 .bf16) (x2 : FVec Ideal S12288x512 .bf16) (x3 : FVec Ideal S2048x1024 .bf16)
  (x4 : FVec Ideal S2048x512 .bf16) (x5 : FVec Ideal S12288x1024 .bf16)
  (f0 : ∀ R C, Real? (x0 (ix2 R C))) (f1 : ∀ R C, Real? (x1 (ix2 R C))) (f3 : ∀ R C, Real? (x3 (ix2 R C)))
  (v : FVec Ideal S2048x128 .bf16) (vc : FVec Ideal S512x128 .bf16) (q q' : FVec Ideal S256x128 .bf16)
  (k k' : FVec Ideal S2048x128 .bf16) (kc kc' : FVec Ideal S512x128 .bf16) (b : Fin 4) (i : Fin 2048) (r : Fin 256)

include f0 f1 f3

/-- A head of the kernel's is the reference's. -/
theorem head_eq (h : Fin 8) (d : Fin 64) (j : Fin 128)
    (hq : ∀ d, q (ix2 r d) = x0 (ix2 (row b i) (col h d)))
    (hk : ∀ n d, k (ix2 n d) = x1 (ix2 (row b n) (col h d)))
    (hkc : ∀ n d, kc (ix2 n d) = x3 (ix2 (crow b n) (col h d)))
    (hv : ∀ n, v (ix2 n j) = x2 (ix2 (row b n) ⟨h.val * 64 + d.val, by omega⟩))
    (hvc : ∀ n, vc (ix2 n j) = x4 (ix2 (crow b n) ⟨h.val * 64 + d.val, by omega⟩)) :
    k0_pay3 (F := Ideal) v vc q k kc (ix2 r j) = val_main_v30 (F := Ideal) x0 x1 x2 x3 x4 (ix4 b i h d) := by
  have hS : ∀ n : Fin 2048, val_main_v17 (F := Ideal) x0 x1 x3 (ix4 b h i ⟨n.val, by omega⟩) = score q k r n := fun n => by
    rw [score_lo]; unfold score scale; simp only [hq, hk]
  have hS' : ∀ n : Fin 512, val_main_v17 (F := Ideal) x0 x1 x3 (ix4 b h i ⟨2048 + n.val, by omega⟩) = score q kc r n := fun n => by
    rw [score_hi]; unfold score scale; simp only [hq, hkc]
  have hr : ∀ n : Fin (2048 + 512), Real? (val_main_v17 (F := Ideal) x0 x1 x3 (ix4 b h i n)) := fun n => by
    obtain ⟨w, hw⟩ := real_scale
    induction n using Fin.addCases with
    | left n =>
      obtain ⟨z, hz⟩ := real_sum_mul (fun d => q (ix2 r d)) (fun d => k (ix2 n d)) (fun d => by rw [hq]; exact f0 _ _) (fun d => by rw [hk]; exact f1 _ _)
      exact ⟨z * w, (hS n).trans (by unfold score; rw [hz, hw, EReal.coe_mul])⟩
    | right n =>
      obtain ⟨z, hz⟩ := real_sum_mul (fun d => q (ix2 r d)) (fun d => kc (ix2 n d)) (fun d => by rw [hq]; exact f0 _ _) (fun d => by rw [hkc]; exact f3 _ _)
      exact ⟨z * w, (hS' n).trans (by unfold score; rw [hz, hw, EReal.coe_mul])⟩
  rw [head_at, out_at]
  unfold top
  refine (softmax_two (a := 2048) (b := 512) (score q k r) (score q kc r) (fun n => v (ix2 n j)) (fun n => vc (ix2 n j))
    (fun n => val_main_v17 (F := Ideal) x0 x1 x3 (ix4 b h i n)) (fun n => val_main_v14 (F := Ideal) x2 x4 (ix4 b n h d))
    hS hS' (fun n => (val_lo x2 x4 b h d n).trans (hv n).symm) (fun n => (val_hi x2 x4 b h d n).trans (hvc n).symm) hr ⟨0, by omega⟩).trans ?_
  refine Finset.sum_congr rfl fun n _ => ?_
  rw [prob_at, zero_add]
  simp only [exp_at, top_at]

/-- What is stored of a pair of heads is the reference's. -/
theorem pair_eq (p : Fin 4) (j : Fin 128)
    (hq : ∀ d, q (ix2 r d) = x0 (ix2 (row b i) (col ⟨2 * p.val, by omega⟩ d)))
    (hq' : ∀ d, q' (ix2 r d) = x0 (ix2 (row b i) (col ⟨2 * p.val + 1, by omega⟩ d)))
    (hk : ∀ n d, k (ix2 n d) = x1 (ix2 (row b n) (col ⟨2 * p.val, by omega⟩ d)))
    (hk' : ∀ n d, k' (ix2 n d) = x1 (ix2 (row b n) (col ⟨2 * p.val + 1, by omega⟩ d)))
    (hkc : ∀ n d, kc (ix2 n d) = x3 (ix2 (crow b n) (col ⟨2 * p.val, by omega⟩ d)))
    (hkc' : ∀ n d, kc' (ix2 n d) = x3 (ix2 (crow b n) (col ⟨2 * p.val + 1, by omega⟩ d)))
    (hv : ∀ n, v (ix2 n j) = x2 (ix2 (row b n) ⟨p.val * 128 + j.val, by omega⟩))
    (hvc : ∀ n, vc (ix2 n j) = x4 (ix2 (crow b n) ⟨p.val * 128 + j.val, by omega⟩)) :
    pair (k0_pay3 v vc q k kc) (k0_pay3 v vc q' k' kc') (ix2 r j)
      = val_main_v36 (F := Ideal) x0 x1 x2 x3 x4 x5 (ix2 (row b i) ⟨p.val * 128 + j.val, by omega⟩) := by
  rw [pair_at, res_at, dif_pos ⟨by show 4096 ≤ 4096 + _; omega, by show p.val * 128 + j.val < 512; omega⟩]
  by_cases hj : j.val < 64
  · rw [if_pos hj]
    refine (head_eq x0 x1 x2 x3 x4 f0 f1 f3 v vc q k kc b i r ⟨2 * p.val, by omega⟩ ⟨j.val, hj⟩ j hq hk hkc
      (fun n => (hv n).trans (congrArg x2 (by blk_ext))) (fun n => (hvc n).trans (congrArg x4 (by blk_ext)))).trans ?_
    exact congrArg _ (by blk_ext)
  · rw [if_neg hj]
    refine (head_eq x0 x1 x2 x3 x4 f0 f1 f3 v vc q' k' kc' b i r ⟨2 * p.val + 1, by omega⟩ ⟨j.val - 64, by omega⟩ j hq' hk' hkc'
      (fun n => (hv n).trans (congrArg x2 (by blk_ext))) (fun n => (hvc n).trans (congrArg x4 (by blk_ext)))).trans ?_
    exact congrArg _ (by blk_ext)

end Pieces

variable (m : (ℓ : Loc nD τ sig) → Buf (Elt Ideal) ℓ)

/-- Argument 0: the queries. -/
abbrev arg0 (c : Dev nD) : FVec Ideal S12288x1024 .bf16 := m ((c : Thread nD τ).loc main_arg0)
/-- Argument 1: the keys. -/
abbrev arg1 (c : Dev nD) : FVec Ideal S12288x1024 .bf16 := m ((c : Thread nD τ).loc main_arg1)
/-- Argument 2: the values. -/
abbrev arg2 (c : Dev nD) : FVec Ideal S12288x512 .bf16 := m ((c : Thread nD τ).loc main_arg2)
/-- Argument 3: the cached keys. -/
abbrev arg3 (c : Dev nD) : FVec Ideal S2048x1024 .bf16 := m ((c : Thread nD τ).loc main_arg3)
/-- Argument 4: the cached values. -/
abbrev arg4 (c : Dev nD) : FVec Ideal S2048x512 .bf16 := m ((c : Thread nD τ).loc main_arg4)
/-- Argument 5: the array whose part is written. -/
abbrev arg5 (c : Dev nD) : FVec Ideal S12288x1024 .bf16 := m ((c : Thread nD τ).loc main_arg5)

/-- The reference's result over these arguments. -/
abbrev ref (c : Dev nD) : FVec Ideal S12288x1024 .bf16 :=
  val_main_v36 (F := Ideal) (arg0 m c) (arg1 m c) (arg2 m c) (arg3 m c) (arg4 m c) (arg5 m c)

/-- The place of every window's block at point `t`. -/
theorem idx : ∀ t : Fin cfg0.N, win0_0.index t = ![16 + t.val, 0] ∧ win0_1.index t = ![2 + t.val / 8, 0] ∧ win0_2.index t = ![2 + t.val / 8, 0]
    ∧ win0_3.index t = ![t.val / 8, 0] ∧ win0_4.index t = ![t.val / 8, 0] ∧ win0_5.index t = ![16 + t.val, 0] :=
  (by decide +kernel : ∀ t : Fin grid0.N, _)

/-- The result starts as argument 5. -/
theorem V_main_v0 (c : Dev nD) : V m c main_v0 = arg5 m c := by unfold V; after_results; try rfl

/-- There are 32 points. -/
theorem lt32 (t : Fin cfg0.N) : t.val < 32 := t.isLt

/-- The sequence of a grid point. -/
abbrev seq (t : Fin cfg0.N) : Fin 4 := ⟨t.val / 8, by have := lt32 t; omega⟩

/-- A query of a grid point, within its sequence. -/
abbrev query (t : Fin cfg0.N) (r : Fin 256) : Fin 2048 := ⟨t.val % 8 * 256 + r.val, by omega⟩

/-- The array after the last point: the written part is the reference's, the rest is argument 5. -/
theorem covered (c : Dev nD) (f0 : ∀ R C, Real? (arg0 m c (ix2 R C))) (f1 : ∀ R C, Real? (arg1 m c (ix2 R C)))
    (f3 : ∀ R C, Real? (arg3 m c (ix2 R C))) : (dats m 0 c).arrAt 5 (cfgs 0).N
    = fun i => if 4096 ≤ (i 0 : ℕ) ∧ (i 1 : ℕ) < 512 then ref m c i else V m c main_v0 i := by
  refine (dats m 0 c).arrAt_eq_of_coversWhere 5 _ (fun β => 16 ≤ β 0 ∧ β 1 = 0) (by decide +kernel) (fun t hf y => ?_)
    (fun j => by blk_simp [Pipeline.Window.cell_apply]; omega)
  blk_simp
  rw [after0_5]; unfold Gen.outsAt0; frame_out
  have ht := lt32 t
  have stored := pair_eq (arg0 m c) (arg1 m c) (arg2 m c) (arg3 m c) (arg4 m c) (arg5 m c) f0 f1 f3
  canon_tiles x h
  all_goals obtain ⟨r, j, rfl⟩ : ∃ (r : Fin 256) (j : Fin 128), x = ix2 r j := ⟨x 0, x 1, by blk_ext⟩
  all_goals replace h0 : (y 0).val = r.val := h0
  case' piece0 =>
    replace h1 : (y 1).val = 384 + j.val := h1
    refine ((congrFun (store3 _ _ _ _ _ _ _ _) _).trans (stored _ _ _ _ _ _ _ _ (seq t) (query t r) r ⟨3, by decide⟩ j ?_ ?_ ?_ ?_ ?_ ?_ ?_ ?_)).trans ?_
  case' piece1 =>
    replace h1 : (y 1).val = 256 + j.val := h1
    refine ((congrFun (store2 _ _ _ _ _ _ _ _) _).trans (stored _ _ _ _ _ _ _ _ (seq t) (query t r) r ⟨2, by decide⟩ j ?_ ?_ ?_ ?_ ?_ ?_ ?_ ?_)).trans ?_
  case' piece2 =>
    replace h1 : (y 1).val = 128 + j.val := h1
    refine ((congrFun (store1 _ _ _ _ _ _ _ _) _).trans (stored _ _ _ _ _ _ _ _ (seq t) (query t r) r ⟨1, by decide⟩ j ?_ ?_ ?_ ?_ ?_ ?_ ?_ ?_)).trans ?_
  case' piece3 =>
    replace h1 : (y 1).val = j.val := h1
    refine ((congrFun (store0 _ _ _ _ _ _ _ _) _).trans (stored _ _ _ _ _ _ _ _ (seq t) (query t r) r ⟨0, by decide⟩ j ?_ ?_ ?_ ?_ ?_ ?_ ?_ ?_)).trans ?_
  all_goals first | (intro n d; blk_point [iblk, V, idx t]; done) | (intro n; blk_point [iblk, V, idx t]; done) | exact congrArg (ref m c) (by blk_ext [idx t])

/-- The call leaves the reference's result. -/
theorem final (c : Dev nD) (f0 : ∀ R C, Real? (arg0 m c (ix2 R C))) (f1 : ∀ R C, Real? (arg1 m c (ix2 R C)))
    (f3 : ∀ R C, Real? (arg3 m c (ix2 R C))) : (dats m 0 c).arrAt 5 (cfgs 0).N = ref m c := by
  rw [covered m c f0 f1 f3]
  funext y
  obtain ⟨R, C, rfl⟩ : ∃ (R : Fin 12288) (C : Fin 1024), y = ix2 R C := ⟨y 0, y 1, by blk_ext⟩
  show (if 4096 ≤ R.val ∧ C.val < 512 then _ else _) = _
  split
  · rfl
  · rw [V_main_v0]
    exact ((res_at _ _ _ _ _ _ R C).trans (dif_neg ‹_›)).symm

end Cert.Kernel2Ideal.Attention

end
-- ==== Proof.Attention.Finite.lean ====
/-
  The precondition read back: every query, key and cached key is a real number.
-/
module

public import proofs.«01_k».proof.Pre_scores_finite
public import proofs.«01_k».proof.Proof.Gen.Pre_scores_finite
public import proofs.«01_k».proof.Proof.Attention.Softmax
public import Idealize.ShloMosaic.Lib.Pointwise
public import Idealize.ShloMosaic.Lib.WordCmp

@[expose] public section

set_option maxRecDepth 16384

noncomputable section

namespace Cert.Pre_scores_finite.Finite

open Cert.Pre_scores_finite Cert.Pre_scores_finite.Gen Idealize.ShloMosaic
open Cert.Kernel2Ideal.Attention (Real?)

/-- Plus infinity, as the programs spell it. -/
theorem greatest : Ideal.ofBits .f32 0x7F800000#32 = (⊤ : EReal) := by simp [Ideal.ofBits, Ideal.ieee]

/-- A number whose absolute value is below infinity is a real one. -/
theorem real_of_abs {x : EReal} (h : max x (-x) < ⊤) : Real? x := by
  induction x with
  | bot => simp at h
  | top => simp at h
  | coe r => exact ⟨r, rfl⟩

/-- The same of the word that the comparison leaves. -/
theorem real_of_word {x : EReal} (h : BitVec.ofBool (decide (FloatOps.absf (F := Ideal) (φ := .f32) x < Ideal.ofBits .f32 0x7F800000#32)) = 1#1) : Real? x := by
  rw [WordCmp.ofBool_decide_eq_one_iff, greatest] at h
  exact real_of_abs h

variable (q k : FVec Ideal S12288x1024 .bf16) (v : FVec Ideal S12288x512 .bf16) (kc : FVec Ideal S2048x1024 .bf16)
  (vc : FVec Ideal S2048x512 .bf16) (o : FVec Ideal S12288x1024 .bf16)

/-- Where the precondition holds, the queries are real numbers. -/
theorem queries (h : fn (F := Ideal) q k v kc vc o = fun _ => 1#1) (R : Fin 12288) (C : Fin 1024) : Real? (q (ix2 R C)) := by
  have h0 := congrFun h (ix2 (⟨R.val, by omega⟩ : Fin 26624) C)
  unfold fn at h0
  pointwise at h0
  exact real_of_word h0

/-- Where the precondition holds, the keys are real numbers. -/
theorem keys (h : fn (F := Ideal) q k v kc vc o = fun _ => 1#1) (R : Fin 12288) (C : Fin 1024) : Real? (k (ix2 R C)) := by
  have h0 := congrFun h (ix2 (⟨12288 + R.val, by omega⟩ : Fin 26624) C)
  unfold fn at h0
  pointwise at h0
  exact real_of_word h0

/-- Where the precondition holds, the cached keys are real numbers. -/
theorem cached (h : fn (F := Ideal) q k v kc vc o = fun _ => 1#1) (R : Fin 2048) (C : Fin 1024) : Real? (kc (ix2 R C)) := by
  have h0 := congrFun h (ix2 (⟨24576 + R.val, by omega⟩ : Fin 26624) C)
  unfold fn at h0
  pointwise at h0
  rw [dif_neg (by omega), dif_neg (by omega)] at h0
  have e : (⟨24576 + R.val - 12288 - 12288, by omega⟩ : Fin 2048) = R := Fin.ext (by show 24576 + R.val - 12288 - 12288 = R.val; omega)
  rw [e] at h0
  exact real_of_word h0

end Cert.Pre_scores_finite.Finite

end
-- ==== Proof.Attention.Claims.lean ====
/-
  The claims about the latent attention (program `Kernel2`): the frames, and the equality of the two runs' results where
  the queries, the keys and the cached keys are real numbers.
-/
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import proofs.«01_k».proof.Proof.Attention.Value
public import proofs.«01_k».proof.Proof.Attention.Finite
public import Idealize.ShloMosaic.Lib.Quiescent

@[expose] public section

set_option maxRecDepth 16384

noncomputable section

namespace Cert.Proof.Attention

open Idealize.ShloMosaic Idealize.ShloMosaic.TcCoe Idealize.SL.Sem

/-- THE FRAMES. -/
theorem frame_kernel : quiescent_Kernel2 := fun m g _ => Cert.Kernel2.Gen.frame m g

theorem frame_kernelIdeal : quiescent_Kernel2Ideal := fun m g _ => Cert.Kernel2Ideal.Gen.frame m g

theorem frame_reference : quiescent_Reference2Ideal := fun m g _ =>
  (θ_run _ _ _).mono (fun r h => ⟨fun c => (h c).2, sem_eq_zero_of_no_sems rfl _⟩) (Cert.Reference2Ideal.Value.run m g)

theorem frame_kernelIdeal_finite : quiescent_Kernel2Ideal_pre_scores_finite := fun m g _ => Cert.Kernel2Ideal.Gen.frame m g

theorem frame_reference_finite : quiescent_Reference2Ideal_pre_scores_finite := fun m g _ =>
  (θ_run _ _ _).mono (fun r h => ⟨fun c => (h c).2, sem_eq_zero_of_no_sems rfl _⟩) (Cert.Reference2Ideal.Value.run m g)

/-- The two runs end with equal results. -/
theorem equal : algebraic_Kernel2Ideal_Reference2Ideal_pre_scores_finite := fun m g m' g' h hag => by
  refine ⟨fun c => (Cert.Kernel2Ideal.Gen.dats m 0 c).arrAt 5 Cert.Kernel2Ideal.cfg0.N, Cert.Kernel2Ideal.Value.run_blocks m g, ?_⟩
  refine (θ_run _ _ _).mono (fun r hp c => ⟨(hp c).1.trans ?_, (hp c).2⟩) (Cert.Reference2Ideal.Value.run m' g')
  obtain ⟨h0, h1, h2, h3, h4, h5⟩ := hag c
  rw [Cert.Reference2Ideal.Read.val_main_v36_eq, h0, h1, h2, h3, h4, h5]
  exact (Cert.Kernel2Ideal.Attention.final m c (Cert.Pre_scores_finite.Finite.queries _ _ _ _ _ _ (h c))
    (Cert.Pre_scores_finite.Finite.keys _ _ _ _ _ _ (h c)) (Cert.Pre_scores_finite.Finite.cached _ _ _ _ _ _ (h c))).symm

end Cert.Proof.Attention

end
-- ==== Proof.OutProj.Value.lean ====
/-
  The gated residual projection `r + gate * (x @ w)` (program `Kernel3`): the array that the call leaves, element by
  element, is the reference's expression of the same arguments.

  A grid point takes 256 tokens, the whole weight matrix and the one modulation row that its tokens share: row 0 for
  the first 16 points (the context tokens), row `1 + (t - 16) / 8` for the others (2048 tokens, 8 points, a request).
-/
module

public import proofs.«01_k».proof.Proof.Gen.Kernel3Ideal.Value
public import proofs.«01_k».proof.Proof.Gen.Reference3Ideal.Run
public import Idealize.ShloMosaic.Lib.Pipeline.ValueKit

@[expose] public section

set_option maxRecDepth 16384

noncomputable section

namespace Cert.Kernel3Ideal.OutProj

open Cert.Kernel3Ideal Cert.Kernel3Ideal.Gen Idealize.ShloMosaic Idealize.ShloMosaic.TcCoe Idealize.SL.Sem
open Idealize.ShloMosaic.Pipeline (Dat)

/-- The reference's result, as its run leaves it, of any four arguments. -/
abbrev ref (x : FVec Ideal S12288x1024 .bf16) (w : FVec Ideal S1024x1024 .bf16) (r : FVec Ideal S12288x1024 .f32)
    (g : FVec Ideal S8x1x1024 .f32) : FVec Ideal S12288x1024 .f32 :=
  addf r (mulf (concatenate Cert.Reference3Ideal.S12288x1024 0
      [⟨Cert.Reference3Ideal.S4096x1024, (broadcastInDim Cert.Reference3Ideal.S4096x1024 ![0, 1] Cert.Reference3Ideal.Gen.bcast_S1x1024_S4096x1024_0_1
          (extractStridedSlice Cert.Reference3Ideal.S1x1024 ![0, 0] (shapeCast _ g Cert.Reference3Ideal.Gen.shapeCasts_S8x1x1024_S8x1024) Cert.Reference3Ideal.Gen.slices_S8x1024_S1x1024_0_0))⟩,
       ⟨Cert.Reference3Ideal.S8192x1024, (shapeCast _ (broadcastInDim Cert.Reference3Ideal.S4x2048x1024 ![0, 1, 2] Cert.Reference3Ideal.Gen.bcast_S4x1x1024_S4x2048x1024_0_1_2
          (broadcastInDim Cert.Reference3Ideal.S4x1x1024 ![0, 2] Cert.Reference3Ideal.Gen.bcast_S4x1024_S4x1x1024_0_2
            (extractStridedSlice Cert.Reference3Ideal.S4x1024 ![1, 0] (shapeCast _ g Cert.Reference3Ideal.Gen.shapeCasts_S8x1x1024_S8x1024) Cert.Reference3Ideal.Gen.slices_S8x1024_S4x1024_1_0))) Cert.Reference3Ideal.Gen.shapeCasts_S4x2048x1024_S8192x1024)⟩]
      Cert.Reference3Ideal.Gen.concatenates_S4096x1024_S8192x1024_S12288x1024_d0)
    (Host.dotGeneral Cert.Reference3Ideal.dot_S12288x1024_S1024x1024_S12288x1024_1_0_0_1_n_n none (extf .f32 x Cert.Reference3Ideal.Gen.bitsLt_bf16_f32) (extf .f32 w Cert.Reference3Ideal.Gen.bitsLt_bf16_f32)))

variable (m : (ℓ : Loc nD τ sig) → Buf (Elt Ideal) ℓ)

/-- The block that each window is on at point `t`. -/
theorem idx : ∀ t : Fin cfg0.N, win0_0.index t = ![t.val, 0] ∧ win0_1.index t = ![0, 0] ∧ win0_2.index t = ![t.val, 0]
    ∧ win0_3.index t = ![if t.val < 16 then 0 else 1 + (t.val - 16) / 8, 0, 0] ∧ win0_4.index t = ![t.val, 0] :=
  (by decide +kernel : ∀ t : Fin grid0.N, _)

/-- What point `t` computes at a place of its block is the reference at the token it stands for. -/
theorem point (c : Dev nD) (t : Fin cfg0.N) (y) :
    k0_pay1 (iblk m c 0 t) (iblk m c 1 t) (iblk m c 2 t) (iblk m c 3 t) y
      = ref (m ((c : Thread nD τ).loc main_arg0)) (m ((c : Thread nD τ).loc main_arg1)) (m ((c : Thread nD τ).loc main_arg2))
          (m ((c : Thread nD τ).loc main_arg3)) (((cfg0.win 4).blk t).view.emb y) := by
  pointwise [k0_pay1, ref]
  blk_point [iblk, V, idx t]
  all_goals
    rename_i h hc
    blk_simp [idx t] at h
    split <;> omega

/-- The array after the run. -/
theorem final (c : Dev nD) : (dats m 0 c).arrAt 4 (cfgs 0).N
    = ref (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t _ y => ?_
  blk_simp
  rw [after0_4]; frame_out
  exact point m c t y

end Cert.Kernel3Ideal.OutProj

end
-- ==== Proof.OutProj.Claims.lean ====
/-
  The claims about the gated residual projection (program `Kernel3`): the frames, and the equality of the two runs' results.
-/
module

public import proofs.«01_k».proof.Defs
public import proofs.«01_k».proof.Proof.Gen.Kernel3.Frame
public import proofs.«01_k».proof.Proof.OutProj.Value
public import Idealize.ShloMosaic.Lib.Quiescent

@[expose] public section

set_option maxRecDepth 16384

noncomputable section

namespace Cert.Proof.OutProj

open Idealize.ShloMosaic Idealize.ShloMosaic.TcCoe Idealize.SL.Sem

/-- THE FRAMES. -/
theorem frame_kernel : quiescent_Kernel3 := fun m g _ => Cert.Kernel3.Gen.frame m g

theorem frame_kernelIdeal : quiescent_Kernel3Ideal := fun m g _ => Cert.Kernel3Ideal.Gen.frame m g

theorem frame_reference : quiescent_Reference3Ideal := fun m g _ =>
  (θ_run _ _ _).mono (fun r h => ⟨fun c => (h c).2, sem_eq_zero_of_no_sems rfl _⟩) (Cert.Reference3Ideal.Value.run m g)

/-- The two runs end with equal results. -/
theorem equal : algebraic_Kernel3Ideal_Reference3Ideal := fun m g m' g' _ hag => by
  refine ⟨fun c => (Cert.Kernel3Ideal.Gen.dats m 0 c).arrAt 4 Cert.Kernel3Ideal.cfg0.N, Cert.Kernel3Ideal.Value.run_blocks m g, ?_⟩
  refine (θ_run _ _ _).mono (fun r hp c => ⟨(hp c).1.trans ?_, (hp c).2⟩) (Cert.Reference3Ideal.Value.run m' g')
  obtain ⟨h0, h1, h2, h3⟩ := hag c
  rw [h0, h1, h2, h3]
  exact (Cert.Kernel3Ideal.OutProj.final m c).symm

end Cert.Proof.OutProj

end
-- ==== Proof.InProj.Value.lean ====
/-
  The modulated projection `(rmsnorm(x, g) * (1 + sc) + sh) @ w + b` (program `Kernel4`): the array that the call
  leaves, element by element, is the reference's expression of the same arguments.

  A grid point takes 256 tokens, the whole weight matrix and the one row of either modulation that its tokens share:
  row 0 for the first 16 points (the context tokens), row `1 + (t - 16) / 8` for the others.
-/
module

public import proofs.«01_k».proof.Proof.Gen.Kernel4Ideal.Value
public import proofs.«01_k».proof.Proof.Gen.Reference4Ideal.Run
public import Idealize.ShloMosaic.Lib.Pipeline.ValueKit

@[expose] public section

set_option maxRecDepth 16384

noncomputable section

namespace Cert.Kernel4Ideal.InProj

open Cert.Kernel4Ideal Cert.Kernel4Ideal.Gen Idealize.ShloMosaic Idealize.ShloMosaic.TcCoe Idealize.SL.Sem
open Idealize.ShloMosaic.Pipeline (Dat)

/-- A modulation's row at every token, as the reference lays it out. -/
abbrev perToken (g : FVec Ideal S8x1x1024 .f32) : FVec Ideal Cert.Reference4Ideal.S12288x1024 .f32 :=
  concatenate Cert.Reference4Ideal.S12288x1024 0
      [⟨Cert.Reference4Ideal.S4096x1024, (broadcastInDim Cert.Reference4Ideal.S4096x1024 ![0, 1] Cert.Reference4Ideal.Gen.bcast_S1x1024_S4096x1024_0_1
          (extractStridedSlice Cert.Reference4Ideal.S1x1024 ![0, 0] (shapeCast _ g Cert.Reference4Ideal.Gen.shapeCasts_S8x1x1024_S8x1024) Cert.Reference4Ideal.Gen.slices_S8x1024_S1x1024_0_0))⟩,
       ⟨Cert.Reference4Ideal.S8192x1024, (shapeCast _ (broadcastInDim Cert.Reference4Ideal.S4x2048x1024 ![0, 1, 2] Cert.Reference4Ideal.Gen.bcast_S4x1x1024_S4x2048x1024_0_1_2
          (broadcastInDim Cert.Reference4Ideal.S4x1x1024 ![0, 2] Cert.Reference4Ideal.Gen.bcast_S4x1024_S4x1x1024_0_2
            (extractStridedSlice Cert.Reference4Ideal.S4x1024 ![1, 0] (shapeCast _ g Cert.Reference4Ideal.Gen.shapeCasts_S8x1x1024_S8x1024) Cert.Reference4Ideal.Gen.slices_S8x1024_S4x1024_1_0))) Cert.Reference4Ideal.Gen.shapeCasts_S4x2048x1024_S8192x1024)⟩]
      Cert.Reference4Ideal.Gen.concatenates_S4096x1024_S8192x1024_S12288x1024_d0

/-- The reference's result, as its run leaves it, of any six arguments. -/
abbrev ref (x : FVec Ideal S12288x1024 .f32) (g : FVec Ideal S1x1024 .f32) (sc sh : FVec Ideal S8x1x1024 .f32)
    (w : FVec Ideal S1024x3072 .bf16) (b : FVec Ideal S1x3072 .f32) : FVec Ideal S12288x3072 .f32 :=
  addf (Host.dotGeneral Cert.Reference4Ideal.dot_S12288x1024_S1024x3072_S12288x3072_1_0_0_1_n_n none
      (addf (mulf (mulf (mulf x (broadcastInDim Cert.Reference4Ideal.S12288x1024 ![0, 1] Cert.Reference4Ideal.Gen.bcast_S12288x1_S12288x1024_0_1
          (Host.rsqrt (addf (Host.divf (broadcastInDim Cert.Reference4Ideal.S12288x1 ![0] Cert.Reference4Ideal.Gen.bcast_S12288_S12288x1_0
              (Host.reduceAdd (mulf x x) (constant Cert.Reference4Ideal.S_ .f32 0x00000000#32) Cert.Reference4Ideal.Gen.reducesTo_S12288x1024_S12288_d1 Cert.Reference4Ideal.Gen.h_S_))
            (broadcastInDim Cert.Reference4Ideal.S12288x1 ![] Cert.Reference4Ideal.Gen.bcast_S_S12288x1 (constant Cert.Reference4Ideal.S_ .f32 0x44800000#32)))
            (broadcastInDim Cert.Reference4Ideal.S12288x1 ![] Cert.Reference4Ideal.Gen.bcast_S_S12288x1 (constant Cert.Reference4Ideal.S_ .f32 0x358637BD#32))))))
          (broadcastInDim Cert.Reference4Ideal.S12288x1024 ![0, 1] Cert.Reference4Ideal.Gen.bcast_S1x1024_S12288x1024_0_1 g))
        (addf (broadcastInDim Cert.Reference4Ideal.S12288x1024 ![] Cert.Reference4Ideal.Gen.bcast_S_S12288x1024 (constant Cert.Reference4Ideal.S_ .f32 0x3F800000#32)) (perToken sc)))
        (perToken sh))
      (extf .f32 w Cert.Reference4Ideal.Gen.bitsLt_bf16_f32))
    (broadcastInDim Cert.Reference4Ideal.S12288x3072 ![0, 1] Cert.Reference4Ideal.Gen.bcast_S1x3072_S12288x3072_0_1 b)

variable (m : (ℓ : Loc nD τ sig) → Buf (Elt Ideal) ℓ)

/-- The block that each window is on at point `t`. -/
theorem idx : ∀ t : Fin cfg0.N, win0_0.index t = ![t.val, 0] ∧ win0_1.index t = ![0, 0]
    ∧ win0_2.index t = ![if t.val < 16 then 0 else 1 + (t.val - 16) / 8, 0, 0]
    ∧ win0_3.index t = ![if t.val < 16 then 0 else 1 + (t.val - 16) / 8, 0, 0]
    ∧ win0_4.index t = ![0, 0] ∧ win0_5.index t = ![0, 0] ∧ win0_6.index t = ![t.val, 0] :=
  (by decide +kernel : ∀ t : Fin grid0.N, _)

set_option maxHeartbeats 1600000 in
/-- What point `t` computes at a place of its block is the reference at the token it stands for. -/
theorem point (c : Dev nD) (t : Fin cfg0.N) (y) :
    k0_pay1 (iblk m c 0 t) (iblk m c 1 t) (iblk m c 2 t) (iblk m c 3 t) (iblk m c 4 t) (iblk m c 5 t) y
      = ref (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (((cfg0.win 6).blk t).view.emb y) := by
  pointwise [k0_pay1, ref, perToken]
  blk_point [iblk, V, idx t]
  all_goals
    rename_i h hc hx
    blk_simp [idx t] at h
    split <;> omega

/-- The array after the run. -/
theorem final (c : Dev nD) : (dats m 0 c).arrAt 6 (cfgs 0).N
    = ref (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]; frame_out
  exact point m c t y

end Cert.Kernel4Ideal.InProj

end
-- ==== Proof.InProj.Claims.lean ====
/-
  The claims about the normalised and modulated projection (program `Kernel4`): the frames, and the equality of the two runs' results.
-/
module

public import proofs.«01_k».proof.Defs
public import proofs.«01_k».proof.Proof.Gen.Kernel4.Frame
public import proofs.«01_k».proof.Proof.InProj.Value
public import Idealize.ShloMosaic.Lib.Quiescent

@[expose] public section

set_option maxRecDepth 16384

noncomputable section

namespace Cert.Proof.InProj

open Idealize.ShloMosaic Idealize.ShloMosaic.TcCoe Idealize.SL.Sem

/-- THE FRAMES. -/
theorem frame_kernel : quiescent_Kernel4 := fun m g _ => Cert.Kernel4.Gen.frame m g

theorem frame_kernelIdeal : quiescent_Kernel4Ideal := fun m g _ => Cert.Kernel4Ideal.Gen.frame m g

theorem frame_reference : quiescent_Reference4Ideal := fun m g _ =>
  (θ_run _ _ _).mono (fun r h => ⟨fun c => (h c).2, sem_eq_zero_of_no_sems rfl _⟩) (Cert.Reference4Ideal.Value.run m g)

/-- The two runs end with equal results. -/
theorem equal : algebraic_Kernel4Ideal_Reference4Ideal := fun m g m' g' _ hag => by
  refine ⟨fun c => (Cert.Kernel4Ideal.Gen.dats m 0 c).arrAt 6 Cert.Kernel4Ideal.cfg0.N, Cert.Kernel4Ideal.Value.run_blocks m g, ?_⟩
  refine (θ_run _ _ _).mono (fun r hp c => ⟨(hp c).1.trans ?_, (hp c).2⟩) (Cert.Reference4Ideal.Value.run m' g')
  obtain ⟨h0, h1, h2, h3, h4, h5⟩ := hag c
  rw [h0, h1, h2, h3, h4, h5]
  exact (Cert.Kernel4Ideal.InProj.final m c).symm

end Cert.Proof.InProj

end
-- ==== Proof.AttnIn.FrameIdeal.lean ====
/-
  The frame of the attention block's input call (program `Kernel5Ideal`, over the extended reals): what the body leaves in each result's
  buffer, the body's triple, the run, and that the arguments end unchanged.

  The call has 28 windows, which is more than the generated frame's budgets allow for. This module follows the generated
  one, with larger budgets where the 28 windows are taken together (`sound_body`, `body_obligation`).
-/
module

public import proofs.«01_k».proof.Proof.Gen.Kernel5Ideal.Launch
public import proofs.«01_k».proof.Proof.Gen.Kernel5Ideal.Skeleton
public import proofs.«01_k».proof.Proof.Gen.Kernel5Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl
theorem V_main_arg9 (c : Dev nD) : V m c main_arg9 = m ((c : Thread nD τ).loc main_arg9) := rfl
theorem V_main_arg10 (c : Dev nD) : V m c main_arg10 = m ((c : Thread nD τ).loc main_arg10) := rfl
theorem V_main_arg11 (c : Dev nD) : V m c main_arg11 = m ((c : Thread nD τ).loc main_arg11) := rfl
theorem V_main_arg12 (c : Dev nD) : V m c main_arg12 = m ((c : Thread nD τ).loc main_arg12) := rfl
theorem V_main_arg13 (c : Dev nD) : V m c main_arg13 = m ((c : Thread nD τ).loc main_arg13) := rfl
theorem V_main_arg14 (c : Dev nD) : V m c main_arg14 = m ((c : Thread nD τ).loc main_arg14) := rfl
theorem V_main_arg15 (c : Dev nD) : V m c main_arg15 = m ((c : Thread nD τ).loc main_arg15) := rfl
theorem V_main_arg16 (c : Dev nD) : V m c main_arg16 = m ((c : Thread nD τ).loc main_arg16) := rfl
theorem V_main_arg17 (c : Dev nD) : V m c main_arg17 = m ((c : Thread nD τ).loc main_arg17) := rfl
theorem V_main_arg18 (c : Dev nD) : V m c main_arg18 = m ((c : Thread nD τ).loc main_arg18) := rfl
theorem V_main_arg19 (c : Dev nD) : V m c main_arg19 = m ((c : Thread nD τ).loc main_arg19) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1680000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel5Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).1 8).trans (((dats 0 c).arrAt_in 8 rfl _).trans ((hA c 8).trans (V_main_arg8 m c))),
      ((h c).1 9).trans (((dats 0 c).arrAt_in 9 rfl _).trans ((hA c 9).trans (V_main_arg9 m c))),
      ((h c).1 10).trans (((dats 0 c).arrAt_in 10 rfl _).trans ((hA c 10).trans (V_main_arg10 m c))),
      ((h c).1 11).trans (((dats 0 c).arrAt_in 11 rfl _).trans ((hA c 11).trans (V_main_arg11 m c))),
      ((h c).1 12).trans (((dats 0 c).arrAt_in 12 rfl _).trans ((hA c 12).trans (V_main_arg12 m c))),
      ((h c).1 13).trans (((dats 0 c).arrAt_in 13 rfl _).trans ((hA c 13).trans (V_main_arg13 m c))),
      ((h c).1 14).trans (((dats 0 c).arrAt_in 14 rfl _).trans ((hA c 14).trans (V_main_arg14 m c))),
      ((h c).1 15).trans (((dats 0 c).arrAt_in 15 rfl _).trans ((hA c 15).trans (V_main_arg15 m c))),
      ((h c).1 16).trans (((dats 0 c).arrAt_in 16 rfl _).trans ((hA c 16).trans (V_main_arg16 m c))),
      ((h c).1 17).trans (((dats 0 c).arrAt_in 17 rfl _).trans ((hA c 17).trans (V_main_arg17 m c))),
      ((h c).1 18).trans (((dats 0 c).arrAt_in 18 rfl _).trans ((hA c 18).trans (V_main_arg18 m c))),
      ((h c).1 19).trans (((dats 0 c).arrAt_in 19 rfl _).trans ((hA c 19).trans (V_main_arg19 m c)))⟩) h

/-! ## The body's accesses -/

abbrev r0_0 : Rect S256x128 := Rect.unit (s := S256x128) ![0, 0] S256x128.size inb_S256x128_S256x128_0_0
abbrev r0_1 : Rect S256x1024 := Rect.unit (s := S256x1024) ![0, 0] S256x1024.size inb_S256x1024_S256x1024_0_0
abbrev r0_2 : Rect S1x1024 := Rect.unit (s := S1x1024) ![0, 0] S1x1024.size inb_S1x1024_S1x1024_0_0
abbrev r0_3 : Rect S1x1x1024 := Rect.unit (s := S1x1x1024) ![0, 0, 0] S1x1x1024.size inb_S1x1x1024_S1x1x1024_0_0_0
abbrev r0_4 : Rect S1024x384 := Rect.unit (s := S1024x384) ![0, 0] S1024x384.size inb_S1024x384_S1024x384_0_0
abbrev r0_5 : Rect S1024x128 := Rect.unit (s := S1024x128) ![0, 0] S1024x128.size inb_S1024x128_S1024x128_0_0
abbrev r0_6 : Rect S1024x1536 := Rect.unit (s := S1024x1536) ![0, 0] S1024x1536.size inb_S1024x1536_S1024x1536_0_0
abbrev r0_7 : Rect S1x128 := Rect.unit (s := S1x128) ![0, 0] S1x128.size inb_S1x128_S1x128_0_0
abbrev r0_8 : Rect S1x384 := Rect.unit (s := S1x384) ![0, 0] S1x384.size inb_S1x384_S1x384_0_0
abbrev r0_9 : Rect S384x1024 := Rect.unit (s := S384x1024) ![0, 0] S384x1024.size inb_S384x1024_S384x1024_0_0
abbrev r0_10 : Rect S128x1024 := Rect.unit (s := S128x1024) ![0, 0] S128x1024.size inb_S128x1024_S128x1024_0_0
abbrev r0_11 : Rect S128x512 := Rect.unit (s := S128x512) ![0, 0] S128x512.size inb_S128x512_S128x512_0_0
abbrev r0_12 : Rect S256x512 := Rect.unit (s := S256x512) ![0, 0] S256x512.size inb_S256x512_S256x512_0_0
abbrev r0_13 : Rect S256x1024 := Rect.unit (s := S256x1024) ![0, 0] S256x128.size inb_S256x1024_S256x128_0_0
abbrev r0_14 : Rect S256x1024 := Rect.unit (s := S256x1024) ![0, 128] S256x128.size inb_S256x1024_S256x128_0_128
abbrev r0_15 : Rect S256x1024 := Rect.unit (s := S256x1024) ![0, 256] S256x128.size inb_S256x1024_S256x128_0_256
abbrev r0_16 : Rect S256x1024 := Rect.unit (s := S256x1024) ![0, 384] S256x128.size inb_S256x1024_S256x128_0_384
abbrev r0_17 : Rect S256x1024 := Rect.unit (s := S256x1024) ![0, 512] S256x128.size inb_S256x1024_S256x128_0_512
abbrev r0_18 : Rect S256x1024 := Rect.unit (s := S256x1024) ![0, 640] S256x128.size inb_S256x1024_S256x128_0_640
abbrev r0_19 : Rect S256x1024 := Rect.unit (s := S256x1024) ![0, 768] S256x128.size inb_S256x1024_S256x128_0_768
abbrev r0_20 : Rect S256x1024 := Rect.unit (s := S256x1024) ![0, 896] S256x128.size inb_S256x1024_S256x128_0_896
abbrev r0_21 : Rect S256x512 := Rect.unit (s := S256x512) ![0, 0] S256x128.size inb_S256x512_S256x128_0_0
abbrev r0_22 : Rect S256x512 := Rect.unit (s := S256x512) ![0, 128] S256x128.size inb_S256x512_S256x128_0_128
abbrev r0_23 : Rect S256x512 := Rect.unit (s := S256x512) ![0, 256] S256x128.size inb_S256x512_S256x128_0_256
abbrev r0_24 : Rect S256x512 := Rect.unit (s := S256x512) ![0, 384] S256x128.size inb_S256x512_S256x128_0_384

/-! ## What the body leaves in each output window's buffer -/

/-! ### Values of the body that the stores' payloads, spelt out, would write more than once

    Each is a vector the body binds (often a part call's result), stated over the input windows' blocks and
    numbered on from the skeleton's payload functions (`k0_pay81` …, after `k0_pay80`), so that
    `out0_W` and the values after it name it instead of spelling it out (`unfold_out out0_W` opens a canon
    with them, `unfold_payloads` opens them with the payloads); the comment after each is the printed function's
    name for the value (a count appended where that name is bound again). -/

def k0_pay81 (i : grid0.Coords) (x0 : Vec F S256x1024 .f32) (x1 : Vec F S1x1024 .f32) (x2 : Vec F S1x1x1024 .f32) (x3 : Vec F S1x1x1024 .f32) (x4 : Vec F S1024x384 .bf16) (x5 : Vec F S1024x128 .bf16) (x6 : Vec F S1024x128 .bf16) (x7 : Vec F S1024x1536 .bf16) (x8 : Vec F S1x384 .f32) (x9 : Vec F S1x128 .f32) (x10 : Vec F S384x1024 .bf16) (x11 : Vec F S128x1024 .bf16) (x12 : Vec F S128x512 .bf16) (x13 : Vec F S1x128 .f32) (x14 : Vec F S1x128 .f32) (x15 : Vec F S1x128 .f32) (x16 : Vec F S1x128 .f32) (x17 : Vec F S256x128 .f32) (x18 : Vec F S256x128 .f32) (x19 : Vec F S256x128 .f32) : FVec F S256x128 .f32 :=
  k0_pay3 i (View.ld x17 r0_0) -- `v9`
def k0_pay82 (i : grid0.Coords) (x0 : Vec F S256x1024 .f32) (x1 : Vec F S1x1024 .f32) (x2 : Vec F S1x1x1024 .f32) (x3 : Vec F S1x1x1024 .f32) (x4 : Vec F S1024x384 .bf16) (x5 : Vec F S1024x128 .bf16) (x6 : Vec F S1024x128 .bf16) (x7 : Vec F S1024x1536 .bf16) (x8 : Vec F S1x384 .f32) (x9 : Vec F S1x128 .f32) (x10 : Vec F S384x1024 .bf16) (x11 : Vec F S128x1024 .bf16) (x12 : Vec F S128x512 .bf16) (x13 : Vec F S1x128 .f32) (x14 : Vec F S1x128 .f32) (x15 : Vec F S1x128 .f32) (x16 : Vec F S1x128 .f32) (x17 : Vec F S256x128 .f32) (x18 : Vec F S256x128 .f32) (x19 : Vec F S256x128 .f32) : FVec F S256x128 .f32 :=
  k0_pay4 i (View.ld x18 r0_0) -- `v12`
def k0_pay83 (i : grid0.Coords) (x0 : Vec F S256x1024 .f32) (x1 : Vec F S1x1024 .f32) (x2 : Vec F S1x1x1024 .f32) (x3 : Vec F S1x1x1024 .f32) (x4 : Vec F S1024x384 .bf16) (x5 : Vec F S1024x128 .bf16) (x6 : Vec F S1024x128 .bf16) (x7 : Vec F S1024x1536 .bf16) (x8 : Vec F S1x384 .f32) (x9 : Vec F S1x128 .f32) (x10 : Vec F S384x1024 .bf16) (x11 : Vec F S128x1024 .bf16) (x12 : Vec F S128x512 .bf16) (x13 : Vec F S1x128 .f32) (x14 : Vec F S1x128 .f32) (x15 : Vec F S1x128 .f32) (x16 : Vec F S1x128 .f32) (x17 : Vec F S256x128 .f32) (x18 : Vec F S256x128 .f32) (x19 : Vec F S256x128 .f32) : FVec F S256x128 .f32 :=
  k0_pay5 i (View.ld x19 r0_0) -- `v15`
def k0_pay84 (i : grid0.Coords) (x0 : Vec F S256x1024 .f32) (x1 : Vec F S1x1024 .f32) (x2 : Vec F S1x1x1024 .f32) (x3 : Vec F S1x1x1024 .f32) (x4 : Vec F S1024x384 .bf16) (x5 : Vec F S1024x128 .bf16) (x6 : Vec F S1024x128 .bf16) (x7 : Vec F S1024x1536 .bf16) (x8 : Vec F S1x384 .f32) (x9 : Vec F S1x128 .f32) (x10 : Vec F S384x1024 .bf16) (x11 : Vec F S128x1024 .bf16) (x12 : Vec F S128x512 .bf16) (x13 : Vec F S1x128 .f32) (x14 : Vec F S1x128 .f32) (x15 : Vec F S1x128 .f32) (x16 : Vec F S1x128 .f32) (x17 : Vec F S256x128 .f32) (x18 : Vec F S256x128 .f32) (x19 : Vec F S256x128 .f32) : FVec F S1x1024 .f32 :=
  k0_pay6 (View.ld x3 r0_3) -- `v21`
def k0_pay85 (i : grid0.Coords) (x0 : Vec F S256x1024 .f32) (x1 : Vec F S1x1024 .f32) (x2 : Vec F S1x1x1024 .f32) (x3 : Vec F S1x1x1024 .f32) (x4 : Vec F S1024x384 .bf16) (x5 : Vec F S1024x128 .bf16) (x6 : Vec F S1024x128 .bf16) (x7 : Vec F S1024x1536 .bf16) (x8 : Vec F S1x384 .f32) (x9 : Vec F S1x128 .f32) (x10 : Vec F S384x1024 .bf16) (x11 : Vec F S128x1024 .bf16) (x12 : Vec F S128x512 .bf16) (x13 : Vec F S1x128 .f32) (x14 : Vec F S1x128 .f32) (x15 : Vec F S1x128 .f32) (x16 : Vec F S1x128 .f32) (x17 : Vec F S256x128 .f32) (x18 : Vec F S256x128 .f32) (x19 : Vec F S256x128 .f32) : FVec F S256x1024 .f32 :=
  k0_pay7 (View.ld x0 r0_1) (View.ld x1 r0_2) -- `v33`
def k0_pay86 (i : grid0.Coords) (x0 : Vec F S256x1024 .f32) (x1 : Vec F S1x1024 .f32) (x2 : Vec F S1x1x1024 .f32) (x3 : Vec F S1x1x1024 .f32) (x4 : Vec F S1024x384 .bf16) (x5 : Vec F S1024x128 .bf16) (x6 : Vec F S1024x128 .bf16) (x7 : Vec F S1024x1536 .bf16) (x8 : Vec F S1x384 .f32) (x9 : Vec F S1x128 .f32) (x10 : Vec F S384x1024 .bf16) (x11 : Vec F S128x1024 .bf16) (x12 : Vec F S128x512 .bf16) (x13 : Vec F S1x128 .f32) (x14 : Vec F S1x128 .f32) (x15 : Vec F S1x128 .f32) (x16 : Vec F S1x128 .f32) (x17 : Vec F S256x128 .f32) (x18 : Vec F S256x128 .f32) (x19 : Vec F S256x128 .f32) : FVec F S1x1024 .f32 :=
  k0_pay8 (View.ld x2 r0_3) -- `v35`
def k0_pay87 (i : grid0.Coords) (x0 : Vec F S256x1024 .f32) (x1 : Vec F S1x1024 .f32) (x2 : Vec F S1x1x1024 .f32) (x3 : Vec F S1x1x1024 .f32) (x4 : Vec F S1024x384 .bf16) (x5 : Vec F S1024x128 .bf16) (x6 : Vec F S1024x128 .bf16) (x7 : Vec F S1024x1536 .bf16) (x8 : Vec F S1x384 .f32) (x9 : Vec F S1x128 .f32) (x10 : Vec F S384x1024 .bf16) (x11 : Vec F S128x1024 .bf16) (x12 : Vec F S128x512 .bf16) (x13 : Vec F S1x128 .f32) (x14 : Vec F S1x128 .f32) (x15 : Vec F S1x128 .f32) (x16 : Vec F S1x128 .f32) (x17 : Vec F S256x128 .f32) (x18 : Vec F S256x128 .f32) (x19 : Vec F S256x128 .f32) : FVec F S256x384 .f32 :=
  k0_pay10 (k0_pay84 i x0 x1 x2 x3 x4 x5 x6 x7 x8 x9 x10 x11 x12 x13 x14 x15 x16 x17 x18 x19) (k0_pay85 i x0 x1 x2 x3 x4 x5 x6 x7 x8 x9 x10 x11 x12 x13 x14 x15 x16 x17 x18 x19) (k0_pay86 i x0 x1 x2 x3 x4 x5 x6 x7 x8 x9 x10 x11 x12 x13 x14 x15 x16 x17 x18 x19) (View.ld x4 r0_4) -- `v42`
def k0_pay88 (i : grid0.Coords) (x0 : Vec F S256x1024 .f32) (x1 : Vec F S1x1024 .f32) (x2 : Vec F S1x1x1024 .f32) (x3 : Vec F S1x1x1024 .f32) (x4 : Vec F S1024x384 .bf16) (x5 : Vec F S1024x128 .bf16) (x6 : Vec F S1024x128 .bf16) (x7 : Vec F S1024x1536 .bf16) (x8 : Vec F S1x384 .f32) (x9 : Vec F S1x128 .f32) (x10 : Vec F S384x1024 .bf16) (x11 : Vec F S128x1024 .bf16) (x12 : Vec F S128x512 .bf16) (x13 : Vec F S1x128 .f32) (x14 : Vec F S1x128 .f32) (x15 : Vec F S1x128 .f32) (x16 : Vec F S1x128 .f32) (x17 : Vec F S256x128 .f32) (x18 : Vec F S256x128 .f32) (x19 : Vec F S256x128 .f32) : FVec F S256x128 .f32 :=
  k0_pay11 (k0_pay84 i x0 x1 x2 x3 x4 x5 x6 x7 x8 x9 x10 x11 x12 x13 x14 x15 x16 x17 x18 x19) (k0_pay85 i x0 x1 x2 x3 x4 x5 x6 x7 x8 x9 x10 x11 x12 x13 x14 x15 x16 x17 x18 x19) (k0_pay86 i x0 x1 x2 x3 x4 x5 x6 x7 x8 x9 x10 x11 x12 x13 x14 x15 x16 x17 x18 x19) (View.ld x6 r0_5) -- `v46`
def k0_pay89 (i : grid0.Coords) (x0 : Vec F S256x1024 .f32) (x1 : Vec F S1x1024 .f32) (x2 : Vec F S1x1x1024 .f32) (x3 : Vec F S1x1x1024 .f32) (x4 : Vec F S1024x384 .bf16) (x5 : Vec F S1024x128 .bf16) (x6 : Vec F S1024x128 .bf16) (x7 : Vec F S1024x1536 .bf16) (x8 : Vec F S1x384 .f32) (x9 : Vec F S1x128 .f32) (x10 : Vec F S384x1024 .bf16) (x11 : Vec F S128x1024 .bf16) (x12 : Vec F S128x512 .bf16) (x13 : Vec F S1x128 .f32) (x14 : Vec F S1x128 .f32) (x15 : Vec F S1x128 .f32) (x16 : Vec F S1x128 .f32) (x17 : Vec F S256x128 .f32) (x18 : Vec F S256x128 .f32) (x19 : Vec F S256x128 .f32) : FVec F S256x1536 .f32 :=
  k0_pay12 (k0_pay84 i x0 x1 x2 x3 x4 x5 x6 x7 x8 x9 x10 x11 x12 x13 x14 x15 x16 x17 x18 x19) (k0_pay85 i x0 x1 x2 x3 x4 x5 x6 x7 x8 x9 x10 x11 x12 x13 x14 x15 x16 x17 x18 x19) (k0_pay86 i x0 x1 x2 x3 x4 x5 x6 x7 x8 x9 x10 x11 x12 x13 x14 x15 x16 x17 x18 x19) (View.ld x7 r0_6) -- `v48`
def k0_pay90 (i : grid0.Coords) (x0 : Vec F S256x1024 .f32) (x1 : Vec F S1x1024 .f32) (x2 : Vec F S1x1x1024 .f32) (x3 : Vec F S1x1x1024 .f32) (x4 : Vec F S1024x384 .bf16) (x5 : Vec F S1024x128 .bf16) (x6 : Vec F S1024x128 .bf16) (x7 : Vec F S1024x1536 .bf16) (x8 : Vec F S1x384 .f32) (x9 : Vec F S1x128 .f32) (x10 : Vec F S384x1024 .bf16) (x11 : Vec F S128x1024 .bf16) (x12 : Vec F S128x512 .bf16) (x13 : Vec F S1x128 .f32) (x14 : Vec F S1x128 .f32) (x15 : Vec F S1x128 .f32) (x16 : Vec F S1x128 .f32) (x17 : Vec F S256x128 .f32) (x18 : Vec F S256x128 .f32) (x19 : Vec F S256x128 .f32) : FVec F S256x128 .f32 :=
  k0_pay13 (k0_pay84 i x0 x1 x2 x3 x4 x5 x6 x7 x8 x9 x10 x11 x12 x13 x14 x15 x16 x17 x18 x19) (k0_pay85 i x0 x1 x2 x3 x4 x5 x6 x7 x8 x9 x10 x11 x12 x13 x14 x15 x16 x17 x18 x19) (k0_pay86 i x0 x1 x2 x3 x4 x5 x6 x7 x8 x9 x10 x11 x12 x13 x14 x15 x16 x17 x18 x19) (View.ld x5 r0_5) (View.ld x9 r0_7) -- `v61`
def k0_pay91 (i : grid0.Coords) (x0 : Vec F S256x1024 .f32) (x1 : Vec F S1x1024 .f32) (x2 : Vec F S1x1x1024 .f32) (x3 : Vec F S1x1x1024 .f32) (x4 : Vec F S1024x384 .bf16) (x5 : Vec F S1024x128 .bf16) (x6 : Vec F S1024x128 .bf16) (x7 : Vec F S1024x1536 .bf16) (x8 : Vec F S1x384 .f32) (x9 : Vec F S1x128 .f32) (x10 : Vec F S384x1024 .bf16) (x11 : Vec F S128x1024 .bf16) (x12 : Vec F S128x512 .bf16) (x13 : Vec F S1x128 .f32) (x14 : Vec F S1x128 .f32) (x15 : Vec F S1x128 .f32) (x16 : Vec F S1x128 .f32) (x17 : Vec F S256x128 .f32) (x18 : Vec F S256x128 .f32) (x19 : Vec F S256x128 .f32) : FVec F S256x1 .f32 :=
  k0_pay14 (k0_pay84 i x0 x1 x2 x3 x4 x5 x6 x7 x8 x9 x10 x11 x12 x13 x14 x15 x16 x17 x18 x19) (k0_pay85 i x0 x1 x2 x3 x4 x5 x6 x7 x8 x9 x10 x11 x12 x13 x14 x15 x16 x17 x18 x19) (k0_pay86 i x0 x1 x2 x3 x4 x5 x6 x7 x8 x9 x10 x11 x12 x13 x14 x15 x16 x17 x18 x19) (View.ld x4 r0_4) -- `v67`
def k0_pay92 (i : grid0.Coords) (x0 : Vec F S256x1024 .f32) (x1 : Vec F S1x1024 .f32) (x2 : Vec F S1x1x1024 .f32) (x3 : Vec F S1x1x1024 .f32) (x4 : Vec F S1024x384 .bf16) (x5 : Vec F S1024x128 .bf16) (x6 : Vec F S1024x128 .bf16) (x7 : Vec F S1024x1536 .bf16) (x8 : Vec F S1x384 .f32) (x9 : Vec F S1x128 .f32) (x10 : Vec F S384x1024 .bf16) (x11 : Vec F S128x1024 .bf16) (x12 : Vec F S128x512 .bf16) (x13 : Vec F S1x128 .f32) (x14 : Vec F S1x128 .f32) (x15 : Vec F S1x128 .f32) (x16 : Vec F S1x128 .f32) (x17 : Vec F S256x128 .f32) (x18 : Vec F S256x128 .f32) (x19 : Vec F S256x128 .f32) : FVec F S256x1 .f32 :=
  k0_pay15 (F := F) -- `v68`
def k0_pay93 (i : grid0.Coords) (x0 : Vec F S256x1024 .f32) (x1 : Vec F S1x1024 .f32) (x2 : Vec F S1x1x1024 .f32) (x3 : Vec F S1x1x1024 .f32) (x4 : Vec F S1024x384 .bf16) (x5 : Vec F S1024x128 .bf16) (x6 : Vec F S1024x128 .bf16) (x7 : Vec F S1024x1536 .bf16) (x8 : Vec F S1x384 .f32) (x9 : Vec F S1x128 .f32) (x10 : Vec F S384x1024 .bf16) (x11 : Vec F S128x1024 .bf16) (x12 : Vec F S128x512 .bf16) (x13 : Vec F S1x128 .f32) (x14 : Vec F S1x128 .f32) (x15 : Vec F S1x128 .f32) (x16 : Vec F S1x128 .f32) (x17 : Vec F S256x128 .f32) (x18 : Vec F S256x128 .f32) (x19 : Vec F S256x128 .f32) : FVec F S256x1024 .f32 :=
  k0_pay16 (k0_pay87 i x0 x1 x2 x3 x4 x5 x6 x7 x8 x9 x10 x11 x12 x13 x14 x15 x16 x17 x18 x19) (View.ld x8 r0_8) (k0_pay91 i x0 x1 x2 x3 x4 x5 x6 x7 x8 x9 x10 x11 x12 x13 x14 x15 x16 x17 x18 x19) (k0_pay92 i x0 x1 x2 x3 x4 x5 x6 x7 x8 x9 x10 x11 x12 x13 x14 x15 x16 x17 x18 x19) (View.ld x10 r0_9) -- `v79`
def k0_pay94 (i : grid0.Coords) (x0 : Vec F S256x1024 .f32) (x1 : Vec F S1x1024 .f32) (x2 : Vec F S1x1x1024 .f32) (x3 : Vec F S1x1x1024 .f32) (x4 : Vec F S1024x384 .bf16) (x5 : Vec F S1024x128 .bf16) (x6 : Vec F S1024x128 .bf16) (x7 : Vec F S1024x1536 .bf16) (x8 : Vec F S1x384 .f32) (x9 : Vec F S1x128 .f32) (x10 : Vec F S384x1024 .bf16) (x11 : Vec F S128x1024 .bf16) (x12 : Vec F S128x512 .bf16) (x13 : Vec F S1x128 .f32) (x14 : Vec F S1x128 .f32) (x15 : Vec F S1x128 .f32) (x16 : Vec F S1x128 .f32) (x17 : Vec F S256x128 .f32) (x18 : Vec F S256x128 .f32) (x19 : Vec F S256x128 .f32) : FVec F S256x1024 .f32 :=
  k0_pay17 (k0_pay90 i x0 x1 x2 x3 x4 x5 x6 x7 x8 x9 x10 x11 x12 x13 x14 x15 x16 x17 x18 x19) (View.ld x11 r0_10) -- `v82`

/-- Window 20's staging buffer after the body, from the input windows' blocks: its 8 stores as pieces, LAST
    FIRST (Lib/Pipeline/FrameBody.lean `View.canon`; the payloads are the skeleton's and the values stated above). -/
def out0_20 (i : grid0.Coords) (x0 : Vec F S256x1024 .f32) (x1 : Vec F S1x1024 .f32) (x2 : Vec F S1x1x1024 .f32) (x3 : Vec F S1x1x1024 .f32) (x4 : Vec F S1024x384 .bf16) (x5 : Vec F S1024x128 .bf16) (x6 : Vec F S1024x128 .bf16) (x7 : Vec F S1024x1536 .bf16) (x8 : Vec F S1x384 .f32) (x9 : Vec F S1x128 .f32) (x10 : Vec F S384x1024 .bf16) (x11 : Vec F S128x1024 .bf16) (x12 : Vec F S128x512 .bf16) (x13 : Vec F S1x128 .f32) (x14 : Vec F S1x128 .f32) (x15 : Vec F S1x128 .f32) (x16 : Vec F S1x128 .f32) (x17 : Vec F S256x128 .f32) (x18 : Vec F S256x128 .f32) (x19 : Vec F S256x128 .f32) : Vec F S256x1024 .bf16 :=
  View.canon [⟨r0_20, k0_pay50 (k0_pay81 i x0 x1 x2 x3 x4 x5 x6 x7 x8 x9 x10 x11 x12 x13 x14 x15 x16 x17 x18 x19) (k0_pay82 i x0 x1 x2 x3 x4 x5 x6 x7 x8 x9 x10 x11 x12 x13 x14 x15 x16 x17 x18 x19) (k0_pay83 i x0 x1 x2 x3 x4 x5 x6 x7 x8 x9 x10 x11 x12 x13 x14 x15 x16 x17 x18 x19) (k0_pay48 (k0_pay93 i x0 x1 x2 x3 x4 x5 x6 x7 x8 x9 x10 x11 x12 x13 x14 x15 x16 x17 x18 x19)) (k0_pay49 (View.ld x13 r0_7))⟩,
    ⟨r0_19, k0_pay46 (k0_pay81 i x0 x1 x2 x3 x4 x5 x6 x7 x8 x9 x10 x11 x12 x13 x14 x15 x16 x17 x18 x19) (k0_pay82 i x0 x1 x2 x3 x4 x5 x6 x7 x8 x9 x10 x11 x12 x13 x14 x15 x16 x17 x18 x19) (k0_pay83 i x0 x1 x2 x3 x4 x5 x6 x7 x8 x9 x10 x11 x12 x13 x14 x15 x16 x17 x18 x19) (k0_pay45 (k0_pay93 i x0 x1 x2 x3 x4 x5 x6 x7 x8 x9 x10 x11 x12 x13 x14 x15 x16 x17 x18 x19) (View.ld x13 r0_7))⟩,
    ⟨r0_18, k0_pay43 (k0_pay82 i x0 x1 x2 x3 x4 x5 x6 x7 x8 x9 x10 x11 x12 x13 x14 x15 x16 x17 x18 x19) (k0_pay83 i x0 x1 x2 x3 x4 x5 x6 x7 x8 x9 x10 x11 x12 x13 x14 x15 x16 x17 x18 x19) (k0_pay41 (k0_pay93 i x0 x1 x2 x3 x4 x5 x6 x7 x8 x9 x10 x11 x12 x13 x14 x15 x16 x17 x18 x19) (View.ld x13 r0_7)) (k0_pay42 (k0_pay81 i x0 x1 x2 x3 x4 x5 x6 x7 x8 x9 x10 x11 x12 x13 x14 x15 x16 x17 x18 x19) (k0_pay93 i x0 x1 x2 x3 x4 x5 x6 x7 x8 x9 x10 x11 x12 x13 x14 x15 x16 x17 x18 x19) (View.ld x13 r0_7))⟩,
    ⟨r0_17, k0_pay39 (k0_pay82 i x0 x1 x2 x3 x4 x5 x6 x7 x8 x9 x10 x11 x12 x13 x14 x15 x16 x17 x18 x19) (k0_pay83 i x0 x1 x2 x3 x4 x5 x6 x7 x8 x9 x10 x11 x12 x13 x14 x15 x16 x17 x18 x19) (k0_pay37 (k0_pay93 i x0 x1 x2 x3 x4 x5 x6 x7 x8 x9 x10 x11 x12 x13 x14 x15 x16 x17 x18 x19) (View.ld x13 r0_7)) (k0_pay38 (k0_pay81 i x0 x1 x2 x3 x4 x5 x6 x7 x8 x9 x10 x11 x12 x13 x14 x15 x16 x17 x18 x19) (k0_pay93 i x0 x1 x2 x3 x4 x5 x6 x7 x8 x9 x10 x11 x12 x13 x14 x15 x16 x17 x18 x19) (View.ld x13 r0_7)) 120#32⟩,
    ⟨r0_16, k0_pay35 (k0_pay82 i x0 x1 x2 x3 x4 x5 x6 x7 x8 x9 x10 x11 x12 x13 x14 x15 x16 x17 x18 x19) (k0_pay83 i x0 x1 x2 x3 x4 x5 x6 x7 x8 x9 x10 x11 x12 x13 x14 x15 x16 x17 x18 x19) (k0_pay32 (k0_pay93 i x0 x1 x2 x3 x4 x5 x6 x7 x8 x9 x10 x11 x12 x13 x14 x15 x16 x17 x18 x19) (View.ld x13 r0_7)) (k0_pay33 (k0_pay81 i x0 x1 x2 x3 x4 x5 x6 x7 x8 x9 x10 x11 x12 x13 x14 x15 x16 x17 x18 x19) (k0_pay93 i x0 x1 x2 x3 x4 x5 x6 x7 x8 x9 x10 x11 x12 x13 x14 x15 x16 x17 x18 x19) (View.ld x13 r0_7)) (k0_pay34 (k0_pay93 i x0 x1 x2 x3 x4 x5 x6 x7 x8 x9 x10 x11 x12 x13 x14 x15 x16 x17 x18 x19) (View.ld x13 r0_7))⟩,
    ⟨r0_15, k0_pay30 (k0_pay83 i x0 x1 x2 x3 x4 x5 x6 x7 x8 x9 x10 x11 x12 x13 x14 x15 x16 x17 x18 x19) (k0_pay27 (k0_pay93 i x0 x1 x2 x3 x4 x5 x6 x7 x8 x9 x10 x11 x12 x13 x14 x15 x16 x17 x18 x19) (View.ld x13 r0_7)) (k0_pay28 (k0_pay81 i x0 x1 x2 x3 x4 x5 x6 x7 x8 x9 x10 x11 x12 x13 x14 x15 x16 x17 x18 x19) (k0_pay93 i x0 x1 x2 x3 x4 x5 x6 x7 x8 x9 x10 x11 x12 x13 x14 x15 x16 x17 x18 x19) (View.ld x13 r0_7)) (k0_pay29 (k0_pay82 i x0 x1 x2 x3 x4 x5 x6 x7 x8 x9 x10 x11 x12 x13 x14 x15 x16 x17 x18 x19) (k0_pay93 i x0 x1 x2 x3 x4 x5 x6 x7 x8 x9 x10 x11 x12 x13 x14 x15 x16 x17 x18 x19) (View.ld x13 r0_7))⟩,
    ⟨r0_14, k0_pay25 (k0_pay83 i x0 x1 x2 x3 x4 x5 x6 x7 x8 x9 x10 x11 x12 x13 x14 x15 x16 x17 x18 x19) (k0_pay23 (k0_pay93 i x0 x1 x2 x3 x4 x5 x6 x7 x8 x9 x10 x11 x12 x13 x14 x15 x16 x17 x18 x19) (View.ld x13 r0_7)) (k0_pay24 (k0_pay81 i x0 x1 x2 x3 x4 x5 x6 x7 x8 x9 x10 x11 x12 x13 x14 x15 x16 x17 x18 x19) (k0_pay82 i x0 x1 x2 x3 x4 x5 x6 x7 x8 x9 x10 x11 x12 x13 x14 x15 x16 x17 x18 x19) (k0_pay93 i x0 x1 x2 x3 x4 x5 x6 x7 x8 x9 x10 x11 x12 x13 x14 x15 x16 x17 x18 x19) (View.ld x13 r0_7))⟩,
    ⟨r0_13, k0_pay21 (k0_pay83 i x0 x1 x2 x3 x4 x5 x6 x7 x8 x9 x10 x11 x12 x13 x14 x15 x16 x17 x18 x19) (k0_pay19 (k0_pay87 i x0 x1 x2 x3 x4 x5 x6 x7 x8 x9 x10 x11 x12 x13 x14 x15 x16 x17 x18 x19) (View.ld x8 r0_8) (k0_pay91 i x0 x1 x2 x3 x4 x5 x6 x7 x8 x9 x10 x11 x12 x13 x14 x15 x16 x17 x18 x19) (k0_pay92 i x0 x1 x2 x3 x4 x5 x6 x7 x8 x9 x10 x11 x12 x13 x14 x15 x16 x17 x18 x19) (View.ld x10 r0_9) (View.ld x13 r0_7)) (k0_pay20 (k0_pay81 i x0 x1 x2 x3 x4 x5 x6 x7 x8 x9 x10 x11 x12 x13 x14 x15 x16 x17 x18 x19) (k0_pay82 i x0 x1 x2 x3 x4 x5 x6 x7 x8 x9 x10 x11 x12 x13 x14 x15 x16 x17 x18 x19) (k0_pay87 i x0 x1 x2 x3 x4 x5 x6 x7 x8 x9 x10 x11 x12 x13 x14 x15 x16 x17 x18 x19) (View.ld x8 r0_8) (k0_pay91 i x0 x1 x2 x3 x4 x5 x6 x7 x8 x9 x10 x11 x12 x13 x14 x15 x16 x17 x18 x19) (k0_pay92 i x0 x1 x2 x3 x4 x5 x6 x7 x8 x9 x10 x11 x12 x13 x14 x15 x16 x17 x18 x19) (View.ld x10 r0_9) (View.ld x13 r0_7)) 8#32⟩]

/-- Its stores tile the buffer (checked by evaluation), so they cover it. -/
theorem cover0_20 (p0 : Vec F S256x128 .bf16) (p1 : Vec F S256x128 .bf16) (p2 : Vec F S256x128 .bf16) (p3 : Vec F S256x128 .bf16) (p4 : Vec F S256x128 .bf16) (p5 : Vec F S256x128 .bf16) (p6 : Vec F S256x128 .bf16) (p7 : Vec F S256x128 .bf16) (y : S256x1024.Idx) :
    ∃ pc ∈ ([⟨r0_20, p0⟩, ⟨r0_19, p1⟩, ⟨r0_18, p2⟩, ⟨r0_17, p3⟩, ⟨r0_16, p4⟩, ⟨r0_15, p5⟩, ⟨r0_14, p6⟩, ⟨r0_13, p7⟩] : List (View.Piece (Elt F) S256x1024 .bf16)), y ∈ pc.1.set :=
  View.cover_of_tiled [⟨r0_20, p0⟩, ⟨r0_19, p1⟩, ⟨r0_18, p2⟩, ⟨r0_17, p3⟩, ⟨r0_16, p4⟩, ⟨r0_15, p5⟩, ⟨r0_14, p6⟩, ⟨r0_13, p7⟩] S256x128.size (by rfl) y

/-- Window 21's staging buffer after the body, from the input windows' blocks: its 8 stores as pieces, LAST
    FIRST (Lib/Pipeline/FrameBody.lean `View.canon`; the payloads are the skeleton's and the values stated above). -/
def out0_21 (i : grid0.Coords) (x0 : Vec F S256x1024 .f32) (x1 : Vec F S1x1024 .f32) (x2 : Vec F S1x1x1024 .f32) (x3 : Vec F S1x1x1024 .f32) (x4 : Vec F S1024x384 .bf16) (x5 : Vec F S1024x128 .bf16) (x6 : Vec F S1024x128 .bf16) (x7 : Vec F S1024x1536 .bf16) (x8 : Vec F S1x384 .f32) (x9 : Vec F S1x128 .f32) (x10 : Vec F S384x1024 .bf16) (x11 : Vec F S128x1024 .bf16) (x12 : Vec F S128x512 .bf16) (x13 : Vec F S1x128 .f32) (x14 : Vec F S1x128 .f32) (x15 : Vec F S1x128 .f32) (x16 : Vec F S1x128 .f32) (x17 : Vec F S256x128 .f32) (x18 : Vec F S256x128 .f32) (x19 : Vec F S256x128 .f32) : Vec F S256x1024 .bf16 :=
  View.canon [⟨r0_20, k0_pay51 (k0_pay81 i x0 x1 x2 x3 x4 x5 x6 x7 x8 x9 x10 x11 x12 x13 x14 x15 x16 x17 x18 x19) (k0_pay82 i x0 x1 x2 x3 x4 x5 x6 x7 x8 x9 x10 x11 x12 x13 x14 x15 x16 x17 x18 x19) (k0_pay83 i x0 x1 x2 x3 x4 x5 x6 x7 x8 x9 x10 x11 x12 x13 x14 x15 x16 x17 x18 x19) (k0_pay88 i x0 x1 x2 x3 x4 x5 x6 x7 x8 x9 x10 x11 x12 x13 x14 x15 x16 x17 x18 x19) (k0_pay94 i x0 x1 x2 x3 x4 x5 x6 x7 x8 x9 x10 x11 x12 x13 x14 x15 x16 x17 x18 x19) (View.ld x14 r0_7)⟩,
    ⟨r0_19, k0_pay47 (k0_pay81 i x0 x1 x2 x3 x4 x5 x6 x7 x8 x9 x10 x11 x12 x13 x14 x15 x16 x17 x18 x19) (k0_pay82 i x0 x1 x2 x3 x4 x5 x6 x7 x8 x9 x10 x11 x12 x13 x14 x15 x16 x17 x18 x19) (k0_pay83 i x0 x1 x2 x3 x4 x5 x6 x7 x8 x9 x10 x11 x12 x13 x14 x15 x16 x17 x18 x19) (k0_pay88 i x0 x1 x2 x3 x4 x5 x6 x7 x8 x9 x10 x11 x12 x13 x14 x15 x16 x17 x18 x19) (k0_pay94 i x0 x1 x2 x3 x4 x5 x6 x7 x8 x9 x10 x11 x12 x13 x14 x15 x16 x17 x18 x19) (View.ld x14 r0_7)⟩,
    ⟨r0_18, k0_pay44 (k0_pay81 i x0 x1 x2 x3 x4 x5 x6 x7 x8 x9 x10 x11 x12 x13 x14 x15 x16 x17 x18 x19) (k0_pay82 i x0 x1 x2 x3 x4 x5 x6 x7 x8 x9 x10 x11 x12 x13 x14 x15 x16 x17 x18 x19) (k0_pay83 i x0 x1 x2 x3 x4 x5 x6 x7 x8 x9 x10 x11 x12 x13 x14 x15 x16 x17 x18 x19) (k0_pay88 i x0 x1 x2 x3 x4 x5 x6 x7 x8 x9 x10 x11 x12 x13 x14 x15 x16 x17 x18 x19) (k0_pay94 i x0 x1 x2 x3 x4 x5 x6 x7 x8 x9 x10 x11 x12 x13 x14 x15 x16 x17 x18 x19) (View.ld x14 r0_7)⟩,
    ⟨r0_17, k0_pay40 (k0_pay81 i x0 x1 x2 x3 x4 x5 x6 x7 x8 x9 x10 x11 x12 x13 x14 x15 x16 x17 x18 x19) (k0_pay82 i x0 x1 x2 x3 x4 x5 x6 x7 x8 x9 x10 x11 x12 x13 x14 x15 x16 x17 x18 x19) (k0_pay83 i x0 x1 x2 x3 x4 x5 x6 x7 x8 x9 x10 x11 x12 x13 x14 x15 x16 x17 x18 x19) (k0_pay88 i x0 x1 x2 x3 x4 x5 x6 x7 x8 x9 x10 x11 x12 x13 x14 x15 x16 x17 x18 x19) (k0_pay94 i x0 x1 x2 x3 x4 x5 x6 x7 x8 x9 x10 x11 x12 x13 x14 x15 x16 x17 x18 x19) (View.ld x14 r0_7)⟩,
    ⟨r0_16, k0_pay36 (k0_pay81 i x0 x1 x2 x3 x4 x5 x6 x7 x8 x9 x10 x11 x12 x13 x14 x15 x16 x17 x18 x19) (k0_pay82 i x0 x1 x2 x3 x4 x5 x6 x7 x8 x9 x10 x11 x12 x13 x14 x15 x16 x17 x18 x19) (k0_pay83 i x0 x1 x2 x3 x4 x5 x6 x7 x8 x9 x10 x11 x12 x13 x14 x15 x16 x17 x18 x19) (k0_pay88 i x0 x1 x2 x3 x4 x5 x6 x7 x8 x9 x10 x11 x12 x13 x14 x15 x16 x17 x18 x19) (k0_pay94 i x0 x1 x2 x3 x4 x5 x6 x7 x8 x9 x10 x11 x12 x13 x14 x15 x16 x17 x18 x19) (View.ld x14 r0_7)⟩,
    ⟨r0_15, k0_pay31 (k0_pay81 i x0 x1 x2 x3 x4 x5 x6 x7 x8 x9 x10 x11 x12 x13 x14 x15 x16 x17 x18 x19) (k0_pay82 i x0 x1 x2 x3 x4 x5 x6 x7 x8 x9 x10 x11 x12 x13 x14 x15 x16 x17 x18 x19) (k0_pay83 i x0 x1 x2 x3 x4 x5 x6 x7 x8 x9 x10 x11 x12 x13 x14 x15 x16 x17 x18 x19) (k0_pay88 i x0 x1 x2 x3 x4 x5 x6 x7 x8 x9 x10 x11 x12 x13 x14 x15 x16 x17 x18 x19) (k0_pay94 i x0 x1 x2 x3 x4 x5 x6 x7 x8 x9 x10 x11 x12 x13 x14 x15 x16 x17 x18 x19) (View.ld x14 r0_7)⟩,
    ⟨r0_14, k0_pay26 (k0_pay81 i x0 x1 x2 x3 x4 x5 x6 x7 x8 x9 x10 x11 x12 x13 x14 x15 x16 x17 x18 x19) (k0_pay82 i x0 x1 x2 x3 x4 x5 x6 x7 x8 x9 x10 x11 x12 x13 x14 x15 x16 x17 x18 x19) (k0_pay83 i x0 x1 x2 x3 x4 x5 x6 x7 x8 x9 x10 x11 x12 x13 x14 x15 x16 x17 x18 x19) (k0_pay88 i x0 x1 x2 x3 x4 x5 x6 x7 x8 x9 x10 x11 x12 x13 x14 x15 x16 x17 x18 x19) (k0_pay94 i x0 x1 x2 x3 x4 x5 x6 x7 x8 x9 x10 x11 x12 x13 x14 x15 x16 x17 x18 x19) (View.ld x14 r0_7)⟩,
    ⟨r0_13, k0_pay22 (k0_pay81 i x0 x1 x2 x3 x4 x5 x6 x7 x8 x9 x10 x11 x12 x13 x14 x15 x16 x17 x18 x19) (k0_pay82 i x0 x1 x2 x3 x4 x5 x6 x7 x8 x9 x10 x11 x12 x13 x14 x15 x16 x17 x18 x19) (k0_pay83 i x0 x1 x2 x3 x4 x5 x6 x7 x8 x9 x10 x11 x12 x13 x14 x15 x16 x17 x18 x19) (k0_pay88 i x0 x1 x2 x3 x4 x5 x6 x7 x8 x9 x10 x11 x12 x13 x14 x15 x16 x17 x18 x19) (k0_pay94 i x0 x1 x2 x3 x4 x5 x6 x7 x8 x9 x10 x11 x12 x13 x14 x15 x16 x17 x18 x19) (View.ld x14 r0_7)⟩]

/-- Its stores tile the buffer (checked by evaluation), so they cover it. -/
theorem cover0_21 (p0 : Vec F S256x128 .bf16) (p1 : Vec F S256x128 .bf16) (p2 : Vec F S256x128 .bf16) (p3 : Vec F S256x128 .bf16) (p4 : Vec F S256x128 .bf16) (p5 : Vec F S256x128 .bf16) (p6 : Vec F S256x128 .bf16) (p7 : Vec F S256x128 .bf16) (y : S256x1024.Idx) :
    ∃ pc ∈ ([⟨r0_20, p0⟩, ⟨r0_19, p1⟩, ⟨r0_18, p2⟩, ⟨r0_17, p3⟩, ⟨r0_16, p4⟩, ⟨r0_15, p5⟩, ⟨r0_14, p6⟩, ⟨r0_13, p7⟩] : List (View.Piece (Elt F) S256x1024 .bf16)), y ∈ pc.1.set :=
  View.cover_of_tiled [⟨r0_20, p0⟩, ⟨r0_19, p1⟩, ⟨r0_18, p2⟩, ⟨r0_17, p3⟩, ⟨r0_16, p4⟩, ⟨r0_15, p5⟩, ⟨r0_14, p6⟩, ⟨r0_13, p7⟩] S256x128.size (by rfl) y

/-- Window 22's staging buffer after the body, from the input windows' blocks: its 1 store as pieces, LAST
    FIRST (Lib/Pipeline/FrameBody.lean `View.canon`; the payloads are the skeleton's and the values stated above). -/
def out0_22 (i : grid0.Coords) (x0 : Vec F S256x1024 .f32) (x1 : Vec F S1x1024 .f32) (x2 : Vec F S1x1x1024 .f32) (x3 : Vec F S1x1x1024 .f32) (x4 : Vec F S1024x384 .bf16) (x5 : Vec F S1024x128 .bf16) (x6 : Vec F S1024x128 .bf16) (x7 : Vec F S1024x1536 .bf16) (x8 : Vec F S1x384 .f32) (x9 : Vec F S1x128 .f32) (x10 : Vec F S384x1024 .bf16) (x11 : Vec F S128x1024 .bf16) (x12 : Vec F S128x512 .bf16) (x13 : Vec F S1x128 .f32) (x14 : Vec F S1x128 .f32) (x15 : Vec F S1x128 .f32) (x16 : Vec F S1x128 .f32) (x17 : Vec F S256x128 .f32) (x18 : Vec F S256x128 .f32) (x19 : Vec F S256x128 .f32) : Vec F S256x512 .bf16 :=
  View.canon [⟨r0_12, k0_pay18 (k0_pay90 i x0 x1 x2 x3 x4 x5 x6 x7 x8 x9 x10 x11 x12 x13 x14 x15 x16 x17 x18 x19) (View.ld x12 r0_11)⟩]

/-- Its stores tile the buffer (checked by evaluation), so they cover it. -/
theorem cover0_22 (p0 : Vec F S256x512 .bf16) (y : S256x512.Idx) :
    ∃ pc ∈ ([⟨r0_12, p0⟩] : List (View.Piece (Elt F) S256x512 .bf16)), y ∈ pc.1.set :=
  View.cover_of_tiled [⟨r0_12, p0⟩] S256x512.size (by rfl) y

/-- Window 23's staging buffer after the body, from the input windows' blocks: its 4 stores as pieces, LAST
    FIRST (Lib/Pipeline/FrameBody.lean `View.canon`; the payloads are the skeleton's and the values stated above). -/
def out0_23 (i : grid0.Coords) (x0 : Vec F S256x1024 .f32) (x1 : Vec F S1x1024 .f32) (x2 : Vec F S1x1x1024 .f32) (x3 : Vec F S1x1x1024 .f32) (x4 : Vec F S1024x384 .bf16) (x5 : Vec F S1024x128 .bf16) (x6 : Vec F S1024x128 .bf16) (x7 : Vec F S1024x1536 .bf16) (x8 : Vec F S1x384 .f32) (x9 : Vec F S1x128 .f32) (x10 : Vec F S384x1024 .bf16) (x11 : Vec F S128x1024 .bf16) (x12 : Vec F S128x512 .bf16) (x13 : Vec F S1x128 .f32) (x14 : Vec F S1x128 .f32) (x15 : Vec F S1x128 .f32) (x16 : Vec F S1x128 .f32) (x17 : Vec F S256x128 .f32) (x18 : Vec F S256x128 .f32) (x19 : Vec F S256x128 .f32) : Vec F S256x512 .bf16 :=
  View.canon [⟨r0_24, k0_pay79 (k0_pay89 i x0 x1 x2 x3 x4 x5 x6 x7 x8 x9 x10 x11 x12 x13 x14 x15 x16 x17 x18 x19) (View.ld x15 r0_7)⟩,
    ⟨r0_23, k0_pay72 (View.ld x15 r0_7) (k0_pay68 (k0_pay89 i x0 x1 x2 x3 x4 x5 x6 x7 x8 x9 x10 x11 x12 x13 x14 x15 x16 x17 x18 x19)) k0_pay69 (k0_pay70 (k0_pay89 i x0 x1 x2 x3 x4 x5 x6 x7 x8 x9 x10 x11 x12 x13 x14 x15 x16 x17 x18 x19)) (k0_pay71 (k0_pay89 i x0 x1 x2 x3 x4 x5 x6 x7 x8 x9 x10 x11 x12 x13 x14 x15 x16 x17 x18 x19))⟩,
    ⟨r0_22, k0_pay66 (k0_pay64 (k0_pay89 i x0 x1 x2 x3 x4 x5 x6 x7 x8 x9 x10 x11 x12 x13 x14 x15 x16 x17 x18 x19)) (k0_pay65 (View.ld x15 r0_7))⟩,
    ⟨r0_21, k0_pay56 (View.ld x15 r0_7) (k0_pay52 (k0_pay89 i x0 x1 x2 x3 x4 x5 x6 x7 x8 x9 x10 x11 x12 x13 x14 x15 x16 x17 x18 x19)) k0_pay53 (k0_pay54 (k0_pay89 i x0 x1 x2 x3 x4 x5 x6 x7 x8 x9 x10 x11 x12 x13 x14 x15 x16 x17 x18 x19)) (k0_pay55 (F := F))⟩]

/-- Its stores tile the buffer (checked by evaluation), so they cover it. -/
theorem cover0_23 (p0 : Vec F S256x128 .bf16) (p1 : Vec F S256x128 .bf16) (p2 : Vec F S256x128 .bf16) (p3 : Vec F S256x128 .bf16) (y : S256x512.Idx) :
    ∃ pc ∈ ([⟨r0_24, p0⟩, ⟨r0_23, p1⟩, ⟨r0_22, p2⟩, ⟨r0_21, p3⟩] : List (View.Piece (Elt F) S256x512 .bf16)), y ∈ pc.1.set :=
  View.cover_of_tiled [⟨r0_24, p0⟩, ⟨r0_23, p1⟩, ⟨r0_22, p2⟩, ⟨r0_21, p3⟩] S256x128.size (by rfl) y

/-- Window 24's staging buffer after the body, from the input windows' blocks: its 4 stores as pieces, LAST
    FIRST (Lib/Pipeline/FrameBody.lean `View.canon`; the payloads are the skeleton's and the values stated above). -/
def out0_24 (i : grid0.Coords) (x0 : Vec F S256x1024 .f32) (x1 : Vec F S1x1024 .f32) (x2 : Vec F S1x1x1024 .f32) (x3 : Vec F S1x1x1024 .f32) (x4 : Vec F S1024x384 .bf16) (x5 : Vec F S1024x128 .bf16) (x6 : Vec F S1024x128 .bf16) (x7 : Vec F S1024x1536 .bf16) (x8 : Vec F S1x384 .f32) (x9 : Vec F S1x128 .f32) (x10 : Vec F S384x1024 .bf16) (x11 : Vec F S128x1024 .bf16) (x12 : Vec F S128x512 .bf16) (x13 : Vec F S1x128 .f32) (x14 : Vec F S1x128 .f32) (x15 : Vec F S1x128 .f32) (x16 : Vec F S1x128 .f32) (x17 : Vec F S256x128 .f32) (x18 : Vec F S256x128 .f32) (x19 : Vec F S256x128 .f32) : Vec F S256x512 .f32 :=
  View.canon [⟨r0_24, k0_pay80 (k0_pay89 i x0 x1 x2 x3 x4 x5 x6 x7 x8 x9 x10 x11 x12 x13 x14 x15 x16 x17 x18 x19) (View.ld x16 r0_7)⟩,
    ⟨r0_23, k0_pay78 (View.ld x16 r0_7) (k0_pay73 (k0_pay89 i x0 x1 x2 x3 x4 x5 x6 x7 x8 x9 x10 x11 x12 x13 x14 x15 x16 x17 x18 x19)) k0_pay74 (k0_pay76 (k0_pay89 i x0 x1 x2 x3 x4 x5 x6 x7 x8 x9 x10 x11 x12 x13 x14 x15 x16 x17 x18 x19)) (k0_pay77 (k0_pay89 i x0 x1 x2 x3 x4 x5 x6 x7 x8 x9 x10 x11 x12 x13 x14 x15 x16 x17 x18 x19)) (Scalar.ofBits .f32 0x358637BD#32)⟩,
    ⟨r0_22, k0_pay67 (k0_pay89 i x0 x1 x2 x3 x4 x5 x6 x7 x8 x9 x10 x11 x12 x13 x14 x15 x16 x17 x18 x19) (View.ld x16 r0_7)⟩,
    ⟨r0_21, k0_pay63 (View.ld x16 r0_7) (k0_pay57 (k0_pay89 i x0 x1 x2 x3 x4 x5 x6 x7 x8 x9 x10 x11 x12 x13 x14 x15 x16 x17 x18 x19)) k0_pay58 (k0_pay60 (k0_pay89 i x0 x1 x2 x3 x4 x5 x6 x7 x8 x9 x10 x11 x12 x13 x14 x15 x16 x17 x18 x19)) (k0_pay61 (k0_pay89 i x0 x1 x2 x3 x4 x5 x6 x7 x8 x9 x10 x11 x12 x13 x14 x15 x16 x17 x18 x19)) (k0_pay62 (F := F))⟩]

/-- Its stores tile the buffer (checked by evaluation), so they cover it. -/
theorem cover0_24 (p0 : Vec F S256x128 .f32) (p1 : Vec F S256x128 .f32) (p2 : Vec F S256x128 .f32) (p3 : Vec F S256x128 .f32) (y : S256x512.Idx) :
    ∃ pc ∈ ([⟨r0_24, p0⟩, ⟨r0_23, p1⟩, ⟨r0_22, p2⟩, ⟨r0_21, p3⟩] : List (View.Piece (Elt F) S256x512 .f32)), y ∈ pc.1.set :=
  View.cover_of_tiled [⟨r0_24, p0⟩, ⟨r0_23, p1⟩, ⟨r0_22, p2⟩, ⟨r0_21, p3⟩] S256x128.size (by rfl) y

/-- Window 25's staging buffer after the body, from the input windows' blocks: its 1 store as pieces, LAST
    FIRST (Lib/Pipeline/FrameBody.lean `View.canon`; the payloads are the skeleton's and the values stated above). -/
def out0_25 (i : grid0.Coords) (x0 : Vec F S256x1024 .f32) (x1 : Vec F S1x1024 .f32) (x2 : Vec F S1x1x1024 .f32) (x3 : Vec F S1x1x1024 .f32) (x4 : Vec F S1024x384 .bf16) (x5 : Vec F S1024x128 .bf16) (x6 : Vec F S1024x128 .bf16) (x7 : Vec F S1024x1536 .bf16) (x8 : Vec F S1x384 .f32) (x9 : Vec F S1x128 .f32) (x10 : Vec F S384x1024 .bf16) (x11 : Vec F S128x1024 .bf16) (x12 : Vec F S128x512 .bf16) (x13 : Vec F S1x128 .f32) (x14 : Vec F S1x128 .f32) (x15 : Vec F S1x128 .f32) (x16 : Vec F S1x128 .f32) (x17 : Vec F S256x128 .f32) (x18 : Vec F S256x128 .f32) (x19 : Vec F S256x128 .f32) : Vec F S256x512 .f32 :=
  View.canon [⟨r0_12, k0_pay1 (k0_pay89 i x0 x1 x2 x3 x4 x5 x6 x7 x8 x9 x10 x11 x12 x13 x14 x15 x16 x17 x18 x19)⟩]

/-- Its stores tile the buffer (checked by evaluation), so they cover it. -/
theorem cover0_25 (p0 : Vec F S256x512 .f32) (y : S256x512.Idx) :
    ∃ pc ∈ ([⟨r0_12, p0⟩] : List (View.Piece (Elt F) S256x512 .f32)), y ∈ pc.1.set :=
  View.cover_of_tiled [⟨r0_12, p0⟩] S256x512.size (by rfl) y

/-- Window 26's staging buffer after the body, from the input windows' blocks: its 1 store as pieces, LAST
    FIRST (Lib/Pipeline/FrameBody.lean `View.canon`; the payloads are the skeleton's and the values stated above). -/
def out0_26 (i : grid0.Coords) (x0 : Vec F S256x1024 .f32) (x1 : Vec F S1x1024 .f32) (x2 : Vec F S1x1x1024 .f32) (x3 : Vec F S1x1x1024 .f32) (x4 : Vec F S1024x384 .bf16) (x5 : Vec F S1024x128 .bf16) (x6 : Vec F S1024x128 .bf16) (x7 : Vec F S1024x1536 .bf16) (x8 : Vec F S1x384 .f32) (x9 : Vec F S1x128 .f32) (x10 : Vec F S384x1024 .bf16) (x11 : Vec F S128x1024 .bf16) (x12 : Vec F S128x512 .bf16) (x13 : Vec F S1x128 .f32) (x14 : Vec F S1x128 .f32) (x15 : Vec F S1x128 .f32) (x16 : Vec F S1x128 .f32) (x17 : Vec F S256x128 .f32) (x18 : Vec F S256x128 .f32) (x19 : Vec F S256x128 .f32) : Vec F S256x128 .f32 :=
  View.canon [⟨r0_0, k0_pay13 (k0_pay84 i x0 x1 x2 x3 x4 x5 x6 x7 x8 x9 x10 x11 x12 x13 x14 x15 x16 x17 x18 x19) (k0_pay85 i x0 x1 x2 x3 x4 x5 x6 x7 x8 x9 x10 x11 x12 x13 x14 x15 x16 x17 x18 x19) (k0_pay86 i x0 x1 x2 x3 x4 x5 x6 x7 x8 x9 x10 x11 x12 x13 x14 x15 x16 x17 x18 x19) (View.ld x5 r0_5) (View.ld x9 r0_7)⟩]

/-- Its stores tile the buffer (checked by evaluation), so they cover it. -/
theorem cover0_26 (p0 : Vec F S256x128 .f32) (y : S256x128.Idx) :
    ∃ pc ∈ ([⟨r0_0, p0⟩] : List (View.Piece (Elt F) S256x128 .f32)), y ∈ pc.1.set :=
  View.cover_of_tiled [⟨r0_0, p0⟩] S256x128.size (by rfl) y

/-- Window 27's staging buffer after the body, from the input windows' blocks: its 1 store as pieces, LAST
    FIRST (Lib/Pipeline/FrameBody.lean `View.canon`; the payloads are the skeleton's and the values stated above). -/
def out0_27 (i : grid0.Coords) (x0 : Vec F S256x1024 .f32) (x1 : Vec F S1x1024 .f32) (x2 : Vec F S1x1x1024 .f32) (x3 : Vec F S1x1x1024 .f32) (x4 : Vec F S1024x384 .bf16) (x5 : Vec F S1024x128 .bf16) (x6 : Vec F S1024x128 .bf16) (x7 : Vec F S1024x1536 .bf16) (x8 : Vec F S1x384 .f32) (x9 : Vec F S1x128 .f32) (x10 : Vec F S384x1024 .bf16) (x11 : Vec F S128x1024 .bf16) (x12 : Vec F S128x512 .bf16) (x13 : Vec F S1x128 .f32) (x14 : Vec F S1x128 .f32) (x15 : Vec F S1x128 .f32) (x16 : Vec F S1x128 .f32) (x17 : Vec F S256x128 .f32) (x18 : Vec F S256x128 .f32) (x19 : Vec F S256x128 .f32) : Vec F S256x128 .f32 :=
  View.canon [⟨r0_0, k0_pay11 (k0_pay84 i x0 x1 x2 x3 x4 x5 x6 x7 x8 x9 x10 x11 x12 x13 x14 x15 x16 x17 x18 x19) (k0_pay85 i x0 x1 x2 x3 x4 x5 x6 x7 x8 x9 x10 x11 x12 x13 x14 x15 x16 x17 x18 x19) (k0_pay86 i x0 x1 x2 x3 x4 x5 x6 x7 x8 x9 x10 x11 x12 x13 x14 x15 x16 x17 x18 x19) (View.ld x6 r0_5)⟩]

/-- Its stores tile the buffer (checked by evaluation), so they cover it. -/
theorem cover0_27 (p0 : Vec F S256x128 .f32) (y : S256x128.Idx) :
    ∃ pc ∈ ([⟨r0_0, p0⟩] : List (View.Piece (Elt F) S256x128 .f32)), y ∈ pc.1.set :=
  View.cover_of_tiled [⟨r0_0, p0⟩] S256x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S256x1024 .f32) (harg1 : arg1.IsWhole) (arg2 : Memref sig .tc .vmem S1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1024x384 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x1536 .bf16) (harg8 : arg8.IsWhole) (arg9 : Memref sig .tc .vmem S1x384 .f32) (harg9 : arg9.IsWhole) (arg10 : Memref sig .tc .vmem S1x128 .f32) (harg10 : arg10.IsWhole) (arg11 : Memref sig .tc .vmem S384x1024 .bf16) (harg11 : arg11.IsWhole) (arg12 : Memref sig .tc .vmem S128x1024 .bf16) (harg12 : arg12.IsWhole) (arg13 : Memref sig .tc .vmem S128x512 .bf16) (harg13 : arg13.IsWhole) (arg14 : Memref sig .tc .vmem S1x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x1024 .bf16) (harg21 : arg21.IsWhole) (arg22 : Memref sig .tc .vmem S256x1024 .bf16) (harg22 : arg22.IsWhole) (arg23 : Memref sig .tc .vmem S256x512 .bf16) (harg23 : arg23.IsWhole) (arg24 : Memref sig .tc .vmem S256x512 .bf16) (harg24 : arg24.IsWhole) (arg25 : Memref sig .tc .vmem S256x512 .f32) (harg25 : arg25.IsWhole) (arg26 : Memref sig .tc .vmem S256x512 .f32) (harg26 : arg26.IsWhole) (arg27 : Memref sig .tc .vmem S256x128 .f32) (harg27 : arg27.IsWhole) (arg28 : Memref sig .tc .vmem S256x128 .f32) (harg28 : arg28.IsWhole)
    (x0 : Vec F S256x1024 .f32) (x1 : Vec F S1x1024 .f32) (x2 : Vec F S1x1x1024 .f32) (x3 : Vec F S1x1x1024 .f32) (x4 : Vec F S1024x384 .bf16) (x5 : Vec F S1024x128 .bf16) (x6 : Vec F S1024x128 .bf16) (x7 : Vec F S1024x1536 .bf16) (x8 : Vec F S1x384 .f32) (x9 : Vec F S1x128 .f32) (x10 : Vec F S384x1024 .bf16) (x11 : Vec F S128x1024 .bf16) (x12 : Vec F S128x512 .bf16) (x13 : Vec F S1x128 .f32) (x14 : Vec F S1x128 .f32) (x15 : Vec F S1x128 .f32) (x16 : Vec F S1x128 .f32) (x17 : Vec F S256x128 .f32) (x18 : Vec F S256x128 .f32) (x19 : Vec F S256x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare (out0_20 i x0 x1 x2 x3 x4 x5 x6 x7 x8 x9 x10 x11 x12 x13 x14 x15 x16 x17 x18 x19) ∗ owns (c : Thread nD τ) arg22 fullShare (out0_21 i x0 x1 x2 x3 x4 x5 x6 x7 x8 x9 x10 x11 x12 x13 x14 x15 x16 x17 x18 x19) ∗ owns (c : Thread nD τ) arg23 fullShare (out0_22 i x0 x1 x2 x3 x4 x5 x6 x7 x8 x9 x10 x11 x12 x13 x14 x15 x16 x17 x18 x19) ∗ owns (c : Thread nD τ) arg24 fullShare (out0_23 i x0 x1 x2 x3 x4 x5 x6 x7 x8 x9 x10 x11 x12 x13 x14 x15 x16 x17 x18 x19) ∗ owns (c : Thread nD τ) arg25 fullShare (out0_24 i x0 x1 x2 x3 x4 x5 x6 x7 x8 x9 x10 x11 x12 x13 x14 x15 x16 x17 x18 x19) ∗ owns (c : Thread nD τ) arg26 fullShare (out0_25 i x0 x1 x2 x3 x4 x5 x6 x7 x8 x9 x10 x11 x12 x13 x14 x15 x16 x17 x18 x19) ∗ owns (c : Thread nD τ) arg27 fullShare (out0_26 i x0 x1 x2 x3 x4 x5 x6 x7 x8 x9 x10 x11 x12 x13 x14 x15 x16 x17 x18 x19) ∗ owns (c : Thread nD τ) arg28 fullShare (out0_27 i x0 x1 x2 x3 x4 x5 x6 x7 x8 x9 x10 x11 x12 x13 x14 x15 x16 x17 x18 x19)) -∗ K ⟨⟩))
      ⊢ wp frame (wpE (defs₀ (F := F)) Variants.none c none) E (cc0_attn_in i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  simp only [cc0_attn_in_eq_skeleton]; unfold cc0_attn_in_skel
  simp only [k0_part17_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, Hk⟩
  subst hf0 hf1 hf2 hf3 hf4 hf5 hf6 hf7 hf8 hf9 hf10 hf11 hf12 hf13 hf14 hf15 hf16 hf17 hf18 hf19
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists _; isplitr
    swap; · iexact H20
    ipureintro
    refine (View.read_writes_eq_canon _ _ _ (cover0_20 _ _ _ _ _ _ _ _)).trans ?_
    rfl
  isplitl [H21]
  · iexists _; isplitr
    swap; · iexact H21
    ipureintro
    refine (View.read_writes_eq_canon _ _ _ (cover0_21 _ _ _ _ _ _ _ _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _ _ _ _)).trans ?_
    rfl
  isplitl [H24]
  · iexists _; isplitr
    swap; · iexact H24
    ipureintro
    refine (View.read_writes_eq_canon _ _ _ (cover0_24 _ _ _ _)).trans ?_
    rfl
  isplitl [H25]
  · iexists _; isplitr
    swap; · iexact H25
    ipureintro
    refine (View.read_writes_eq_canon _ _ _ (cover0_25 _)).trans ?_
    rfl
  isplitl [H26]
  · iexists _; isplitr
    swap; · iexact H26
    ipureintro
    refine (View.read_writes_eq_canon _ _ _ (cover0_26 _)).trans ?_
    rfl
  iexists _; isplitr
  swap; · iexact H27
  ipureintro
  refine (View.read_writes_eq_canon _ _ _ (cover0_27 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => out0_20 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨21, _⟩ => out0_21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨22, _⟩ => out0_22 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨23, _⟩ => out0_23 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨24, _⟩ => out0_24 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨25, _⟩ => out0_25 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨26, _⟩ => out0_26 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨27, _⟩ => out0_27 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨_ + 28, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = out0_20 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_21 (c : Dev nD) (t : Fin cfg0.N) : (dats m 0 c).after 21 t = out0_21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_22 (c : Dev nD) (t : Fin cfg0.N) : (dats m 0 c).after 22 t = out0_22 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_23 (c : Dev nD) (t : Fin cfg0.N) : (dats m 0 c).after 23 t = out0_23 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_24 (c : Dev nD) (t : Fin cfg0.N) : (dats m 0 c).after 24 t = out0_24 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_25 (c : Dev nD) (t : Fin cfg0.N) : (dats m 0 c).after 25 t = out0_25 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_26 (c : Dev nD) (t : Fin cfg0.N) : (dats m 0 c).after 26 t = out0_26 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_27 (c : Dev nD) (t : Fin cfg0.N) : (dats m 0 c).after 27 t = out0_27 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t))

set_option maxHeartbeats 2400000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  iintro ⟨H0, H1, H2, H3, H4, H5, H6, H7, H8, H9, H10, H11, H12, H13, H14, H15, H16, H17, H18, H19, H20, H21, H22, H23, H24, H25, H26, H27⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexact H27

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 2400000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  frame_of m ρ (dats m) (A_eq m) (run_main m ρ)

/-- THE FRAME: `Cert.quiescent_Kernel5Ideal`'s statement (Defs.lean) at any `F` — Proof.lean cites it at `Bits`:
    `theorem Cert.Proof.claim : Cert.Claim := ⟨Cert.Kernel5Ideal.Gen.facts, fun m ρ _ => Cert.Kernel5Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  θ_run_and (unchanged m ρ) ((θ_run defs _ _).mono (fun _ h => h.2) (run_main_quiescent m ρ))

end Cert.Kernel5Ideal.Gen

end
-- ==== Proof.AttnIn.Products.lean ====
/-
  The input of the attention block (program `Kernel5`): what the kernel's body computes from a block of modulated tokens,
  before it looks at single heads — the latents of the queries, of the keys and values, the shared rotary key, the
  neighbourhood attention's heads —, row by row against the reference.
-/
module

public import proofs.«01_k».proof.Proof.Gen.Kernel5Ideal.Skeleton
public import proofs.«01_k».proof.Proof.Gen.Reference5Ideal.Read
public import Idealize.ShloMosaic.Lib.Pipeline.ValueKit

@[expose] public section

set_option maxRecDepth 16384

noncomputable section

namespace Cert.Kernel5Ideal.AttnIn

open Cert.Kernel5Ideal Cert.Kernel5Ideal.Gen Idealize.ShloMosaic Idealize.ShloMosaic.TcCoe Idealize.SL.Sem
open Idealize.ShloMosaic.Pipeline (Dat)
open Cert.Reference5Ideal.Read

/-- The token of row `r` of block `t`. -/
abbrev tok {t : ℕ} (ht : t < 48) (r : Fin 256) : Fin 12288 := ⟨t * 256 + r.val, by omega⟩

section products
variable {t : ℕ} (ht : t < 48) (v21 : FVec Ideal S1x1024 .f32) (v33 : FVec Ideal S256x1024 .f32) (v35 : FVec Ideal S1x1024 .f32)
  (x0 : FVec Ideal S12288x1024 .f32) (x1 : FVec Ideal S1x1024 .f32) (x2 x3 : FVec Ideal S8x1x1024 .f32)
  (h : ∀ r k, k0_pay9 v21 v33 v35 (ix2 r k) = val_main_v31 (F := Ideal) x0 x1 x2 x3 (ix2 (tok ht r) k))
include h

/-- The latent of the keys and values. -/
theorem ckv_at (w : FVec Ideal S1024x128 .bf16) (g : FVec Ideal S1x128 .f32) (r : Fin 256) (j : Fin 128) :
    k0_pay13 v21 v33 v35 w g (ix2 r j) = val_main_v45 (F := Ideal) x0 x1 x2 x3 w g (ix2 (tok ht r) j) := by
  pointwise [k0_pay13, val_main_v45, val_main_v43, val_main_v44, val_main_v42, val_main_v41, val_main_v40, val_main_v39,
    val_main_v38, val_main_v37, val_main_v36, val_main_v35, val_main_v34, val_main_v33, val_main_v32, val_main_cst_3,
    val_main_cst_4, val_main_cst_5]
  simp only [h]
  blk_ext

/-- The keys' part that is shared by the heads. -/
theorem krope_at (w : FVec Ideal S1024x128 .bf16) (r : Fin 256) (j : Fin 128) :
    k0_pay11 v21 v33 v35 w (ix2 r j) = val_main_v47 (F := Ideal) x0 x1 x2 x3 w (ix2 (tok ht r) j) := by
  pointwise [k0_pay11, val_main_v47, val_main_v46]
  simp only [h]
  blk_ext

/-- The neighbourhood attention's queries, keys and values, side by side. -/
theorem na_at (w : FVec Ideal S1024x1536 .bf16) (r : Fin 256) (j : Fin 1536) :
    k0_pay12 v21 v33 v35 w (ix2 r j) = val_main_v138 (F := Ideal) x0 x1 x2 x3 w (ix2 (tok ht r) j) := by
  pointwise [k0_pay12, val_main_v138, val_main_v137]
  simp only [h]
  blk_ext

/-- The queries' latent before its normalisation. -/
theorem qlat_at (w : FVec Ideal S1024x384 .bf16) (r : Fin 256) (j : Fin 384) :
    k0_pay10 v21 v33 v35 w (ix2 r j) = val_main_v49 (F := Ideal) x0 x1 x2 x3 w (ix2 (tok ht r) j) := by
  pointwise [k0_pay10, val_main_v49, val_main_v48]
  simp only [h]
  blk_ext

/-- The queries of all heads. -/
theorem qup_at (w : FVec Ideal S1024x384 .bf16) (g : FVec Ideal S1x384 .f32) (u : FVec Ideal S384x1024 .bf16) (r : Fin 256)
    (j : Fin 1024) :
    k0_pay16 (k0_pay10 v21 v33 v35 w) g (k0_pay14 v21 v33 v35 w) k0_pay15 u (ix2 r j)
      = val_main_v63 (F := Ideal) x0 x1 x2 x3 w g u (ix2 (tok ht r) j) := by
  have hq := qlat_at ht v21 v33 v35 x0 x1 x2 x3 h w
  pointwise [k0_pay16, k0_pay14, k0_pay15, val_main_v63, val_main_v62, val_main_v61, val_main_v60, val_main_v59, val_main_v58,
    val_main_v57, val_main_v56, val_main_v55, val_main_v54, val_main_v53, val_main_v52, val_main_v51, val_main_v50,
    val_main_cst_6, val_main_cst_7, val_main_cst_8]
  simp only [hq]
  blk_ext

/-- The keys of all heads, without the shared part. -/
theorem kup_at (w : FVec Ideal S1024x128 .bf16) (g : FVec Ideal S1x128 .f32) (u : FVec Ideal S128x1024 .bf16) (r : Fin 256)
    (j : Fin 1024) :
    k0_pay17 (k0_pay13 v21 v33 v35 w g) u (ix2 r j)
      = val_main_v66 (F := Ideal) x0 x1 x2 x3 w g u (ix2 (tok ht r) j) := by
  have hc := ckv_at ht v21 v33 v35 x0 x1 x2 x3 h w g
  pointwise [k0_pay17, val_main_v66, val_main_v65]
  simp only [hc]
  blk_ext

/-- The values of all heads. -/
theorem v_at (w : FVec Ideal S1024x128 .bf16) (g : FVec Ideal S1x128 .f32) (u : FVec Ideal S128x512 .bf16) (r : Fin 256)
    (j : Fin 512) :
    k0_pay18 (k0_pay13 v21 v33 v35 w g) u (ix2 r j)
      = val_main_v179 (F := Ideal) x0 x1 x2 x3 w g u (ix2 (tok ht r) j) := by
  have hc := ckv_at ht v21 v33 v35 x0 x1 x2 x3 h w g
  pointwise [k0_pay18, val_main_v179, val_main_v72, val_main_v71]
  simp only [hc]
  blk_ext

/-- The neighbourhood attention's values. -/
theorem nv_at (w : FVec Ideal S1024x1536 .bf16) (r : Fin 256) (j : Fin 512) :
    k0_pay1 (k0_pay12 v21 v33 v35 w) (ix2 r j) = val_main_v176 (F := Ideal) x0 x1 x2 x3 w (ix2 (tok ht r) j) := by
  have hn := na_at ht v21 v33 v35 x0 x1 x2 x3 h w
  pointwise [k0_pay1, val_main_v176, val_main_v175, val_main_v174, val_main_v139]
  simp only [hn]
  blk_ext

end products

end Cert.Kernel5Ideal.AttnIn

end
-- ==== Proof.AttnIn.Hidden.lean ====
/-
  The input of the attention block (program `Kernel5`), first stage: the normalised and modulated tokens
  `h = rmsnorm(x, g) * (1 + sc) + sh`. A row of a grid point's block is the reference's row at the token it stands for.
-/
module

public import proofs.«01_k».proof.Proof.AttnIn.FrameIdeal
public import proofs.«01_k».proof.Proof.AttnIn.Products
public import Idealize.ShloMosaic.Lib.Pipeline.ValueKit

@[expose] public section

set_option maxRecDepth 16384

noncomputable section

namespace Cert.Kernel5Ideal.AttnIn

open Cert.Kernel5Ideal Cert.Kernel5Ideal.Gen Idealize.ShloMosaic Idealize.ShloMosaic.TcCoe Idealize.SL.Sem
open Idealize.ShloMosaic.Pipeline (Dat)
open Cert.Reference5Ideal.Read

variable (m : (ℓ : Loc nD τ sig) → Buf (Elt Ideal) ℓ)

/-- The block that each window is on at point `t`. -/
theorem idx : ∀ t : Fin cfg0.N, win0_0.index t = ![t.val, 0] ∧ win0_1.index t = ![0, 0]
    ∧ win0_2.index t = ![if t.val < 16 then 0 else 1 + (t.val - 16) / 8, 0, 0]
    ∧ win0_3.index t = ![if t.val < 16 then 0 else 1 + (t.val - 16) / 8, 0, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![0, 0] ∧ win0_13.index t = ![0, 0] ∧ win0_14.index t = ![0, 0] ∧ win0_15.index t = ![0, 0]
    ∧ win0_16.index t = ![0, 0] :=
  (by decide +kernel : ∀ t : Fin grid0.N, _)

/-- The block of the rotation tables: irrelevant for the context's points, the place in its sequence for the others. -/
theorem idx_tables : ∀ t : Fin cfg0.N, (16 ≤ t.val → win0_17.index t = ![(t.val - 16) % 8, 0])
    ∧ (16 ≤ t.val → win0_18.index t = ![(t.val - 16) % 8, 0]) ∧ (16 ≤ t.val → win0_19.index t = ![(t.val - 16) % 8, 0]) :=
  (by decide +kernel : ∀ t : Fin grid0.N, _)

/-- The block of each result. -/
theorem idx_out : ∀ t : Fin cfg0.N, win0_20.index t = ![t.val, 0] ∧ win0_21.index t = ![t.val, 0]
    ∧ win0_22.index t = ![t.val, 0] ∧ win0_23.index t = ![t.val, 0] ∧ win0_24.index t = ![t.val, 0]
    ∧ win0_25.index t = ![t.val, 0] ∧ win0_26.index t = ![t.val, 0] ∧ win0_27.index t = ![t.val, 0] :=
  (by decide +kernel : ∀ t : Fin grid0.N, _)

/-- There are 48 grid points. -/
theorem lt48 (t : Fin cfg0.N) : t.val < 48 := t.isLt

set_option maxHeartbeats 3200000 in
/-- The modulated tokens of a block are the reference's. -/
theorem hidden_at (c : Dev nD) (t : Fin cfg0.N) (r : Fin 256) (k : Fin 1024) :
    k0_pay9 (k0_pay6 (iblk m c 3 t)) (k0_pay7 (iblk m c 0 t) (iblk m c 1 t)) (k0_pay8 (iblk m c 2 t)) (ix2 r k)
      = val_main_v31 (F := Ideal) (m ((c : Thread nD τ).loc main_arg0)) (m ((c : Thread nD τ).loc main_arg1)) (m ((c : Thread nD τ).loc main_arg2))
          (m ((c : Thread nD τ).loc main_arg3)) (ix2 (tok (lt48 t) r) k) := by
  pointwise [k0_pay6, k0_pay7, k0_pay8, k0_pay9, val_main_v31, val_main_v22, val_main_v11, val_main_v9, val_main_v8, val_main_v7, val_main_v6, val_main_v5,
    val_main_v4, val_main_v3, val_main_v2, val_main_v1, val_main_v0, val_main_v10, val_main_v21, val_main_v20, val_main_v19,
    val_main_v18, val_main_v17, val_main_v16, val_main_v15, val_main_v14, val_main_v13, val_main_v12, val_main_v30,
    val_main_v29, val_main_v28, val_main_v27, val_main_v26, val_main_v25, val_main_v24, val_main_v23, val_main_cst,
    val_main_cst_0, val_main_cst_1, val_main_cst_2]
  blk_point [iblk, V, idx t]
  all_goals
    rename_i h hc hx
    blk_simp [idx t] at h
    split <;> omega

end Cert.Kernel5Ideal.AttnIn

end
-- ==== Proof.AttnIn.Heads.lean ====
/-
  The input of the attention block (program `Kernel5`), head by head: a head's 128 columns are normalised over their own
  mean square, scaled, and rotated within its rotary columns; the context's tokens are not rotated. The kernel blends the
  rotation in (`1 + latent * (cos - 1)`, `latent * sin`, with `latent` 0 or 1), the reference rotates the latent tokens
  alone and puts them behind the context's.
-/
module

public import proofs.«01_k».proof.Proof.AttnIn.Products

@[expose] public section

set_option maxRecDepth 16384

noncomputable section

namespace Cert.Kernel5Ideal.AttnIn

open Cert.Kernel5Ideal Cert.Kernel5Ideal.Gen Idealize.ShloMosaic Idealize.ShloMosaic.TcCoe Idealize.SL.Sem
open Cert.Reference5Ideal.Read

/-- One head's columns, normalised and scaled. -/
def headNorm (u : FVec Ideal S256x128 .f32) (g : FVec Ideal S1x128 .f32) : FVec Ideal S256x128 .f32 :=
  mulf (mulf u (broadcastTo S256x128 (rsqrt (addf
      (mulf (shapeCast S256x1 (multiReduction .add [1] S256 (mulf u u) 0x00000000#32 reduces_S256x128_S256 (.inl rfl) rfl) shapeCasts_S256_S256x1)
        (broadcast S256x1 (Scalar.ofBits .f32 0x3C2AAAAB#32)))
      (broadcast S256x1 (Scalar.ofBits .f32 0x358637BD#32)))) broadcasts_S256x1_S256x128))
    (broadcastTo S256x128 g broadcasts_S1x128_S256x128)

/-- One head's columns, rotated by the three tables. -/
def headTurn (a rc rlo rhi : FVec Ideal S256x128 .f32) : FVec Ideal S256x128 .bf16 :=
  truncf .bf16 (addf (addf (mulf a rc) (mulf (dynamicRotate 1 120#32 none a rotates_S256x128_d1) rlo))
    (mulf (dynamicRotate 1 8#32 none a rotates_S256x128_d1) rhi)) bitsLt_bf16_f32

/-- A rotated head at an element: its own column and the two that stand 8 columns after and before it. -/
theorem headTurn_at (a rc rlo rhi : FVec Ideal S256x128 .f32) (r : Fin 256) (j : Fin 128) :
    headTurn a rc rlo rhi (ix2 r j)
      = a (ix2 r j) * rc (ix2 r j) + a (ix2 r ⟨(j.val + 8) % 128, by omega⟩) * rlo (ix2 r j)
        + a (ix2 r ⟨(j.val + 120) % 128, by omega⟩) * rhi (ix2 r j) := by
  have e1 : (j.val + 128 - 120) % 128 = (j.val + 8) % 128 := by omega
  have e2 : (j.val + 128 - 8) % 128 = (j.val + 120) % 128 := by omega
  pointwise [headTurn]
  simp only [e1, e2]

/-- A blend with weight one is what is blended in. -/
theorem blend_one (x : EReal) : 1 + 1 * (x - 1) = x := by
  rw [one_mul]
  induction x with
  | bot => rfl
  | top => rfl
  | coe x =>
    rw [← EReal.coe_one, ← EReal.coe_sub, ← EReal.coe_add]
    congr 1
    ring

/-- The weight of the rotation: none for the context's points. -/
theorem latent_lo (i : grid0.Coords) (h : (i 0).val < 16) : k0_pay2 (F := Ideal) i = 0 := by
  have hw : ∀ n : Fin 48, n.val < 16 → Scalar.extui (Scalar.cmpi .sge (BitVec.ofNat 32 n.val) 16#32) = (0#32 : BitVec 32) := by decide
  have := hw (i 0) h
  unfold k0_pay2
  simp only [this]
  pointwise []
  have e : (0#32 : BitVec 32).toInt = 0 := by decide
  rw [e]; simp

/-- All of it for the others. -/
theorem latent_hi (i : grid0.Coords) (h : 16 ≤ (i 0).val) : k0_pay2 (F := Ideal) i = 1 := by
  have hw : ∀ n : Fin 48, 16 ≤ n.val → Scalar.extui (Scalar.cmpi .sge (BitVec.ofNat 32 n.val) 16#32) = (1#32 : BitVec 32) := by decide
  have := hw (i 0) h
  unfold k0_pay2
  simp only [this]
  pointwise []
  have e : (1#32 : BitVec 32).toInt = 1 := by decide
  rw [e]; simp

/-- The context's heads are not rotated. -/
theorem turn_lo (i : grid0.Coords) (hi : (i 0).val < 16) (a c l h : FVec Ideal S256x128 .f32) (r : Fin 256) (j : Fin 128) :
    headTurn a (k0_pay3 i c) (k0_pay4 i l) (k0_pay5 i h) (ix2 r j) = a (ix2 r j) := by
  rw [headTurn_at]
  pointwise [k0_pay3, k0_pay4, k0_pay5]
  simp only [latent_lo i hi]
  simp

/-- The latent tokens' heads are rotated by the tables. -/
theorem turn_hi (i : grid0.Coords) (hi : 16 ≤ (i 0).val) (a c l h : FVec Ideal S256x128 .f32) (r : Fin 256) (j : Fin 128) :
    headTurn a (k0_pay3 i c) (k0_pay4 i l) (k0_pay5 i h) (ix2 r j)
      = a (ix2 r j) * c (ix2 r j) + a (ix2 r ⟨(j.val + 8) % 128, by omega⟩) * l (ix2 r j)
        + a (ix2 r ⟨(j.val + 120) % 128, by omega⟩) * h (ix2 r j) := by
  rw [headTurn_at]
  pointwise [k0_pay3, k0_pay4, k0_pay5]
  simp only [latent_hi i hi]
  rw [blend_one, one_mul, one_mul]

section norm
variable {t : ℕ} (ht : t < 48) (hd : Fin 8) (u : FVec Ideal S256x128 .f32)
  (x0 : FVec Ideal S12288x1024 .f32) (x1 : FVec Ideal S1x1024 .f32) (x2 x3 : FVec Ideal S8x1x1024 .f32)

/-- A head of the queries. -/
theorem qnorm_at (w : FVec Ideal S1024x384 .bf16) (g : FVec Ideal S1x384 .f32) (up : FVec Ideal S384x1024 .bf16) (q : FVec Ideal S1x128 .f32)
    (h : ∀ r j, u (ix2 r j) = val_main_v63 (F := Ideal) x0 x1 x2 x3 w g up (ix2 (tok ht r) ⟨hd.val * 128 + j.val, by omega⟩))
    (r : Fin 256) (j : Fin 128) :
    headNorm u q (ix2 r j) = val_main_v85 (F := Ideal) x0 x1 x2 x3 w g up q (ix3 (tok ht r) hd j) := by
  pointwise [headNorm, val_main_v85, val_main_v84, val_main_v83, val_main_v82, val_main_v81, val_main_v80, val_main_v79,
    val_main_v78, val_main_v77, val_main_v76, val_main_v75, val_main_v74, val_main_v73, val_main_v64, val_main_cst_9,
    val_main_cst_10, val_main_cst_11]
  simp only [h]
  blk_ext

/-- A head of the keys. -/
theorem knorm_at (w w' : FVec Ideal S1024x128 .bf16) (g : FVec Ideal S1x128 .f32) (up : FVec Ideal S128x1024 .bf16) (q : FVec Ideal S1x128 .f32)
    (h : ∀ r j, u (ix2 r j) = val_main_v66 (F := Ideal) x0 x1 x2 x3 w g up (ix2 (tok ht r) ⟨hd.val * 128 + j.val, by omega⟩)
      + val_main_v47 (F := Ideal) x0 x1 x2 x3 w' (ix2 (tok ht r) j))
    (r : Fin 256) (j : Fin 128) :
    headNorm u q (ix2 r j) = val_main_v117 (F := Ideal) x0 x1 x2 x3 w w' g up q (ix3 (tok ht r) hd j) := by
  pointwise [headNorm, val_main_v117, val_main_v116, val_main_v115, val_main_v114, val_main_v113, val_main_v112, val_main_v111,
    val_main_v110, val_main_v109, val_main_v108, val_main_v107, val_main_v106, val_main_v105, val_main_v70, val_main_v69,
    val_main_v68, val_main_v67, val_main_cst_12, val_main_cst_13, val_main_cst_14]
  simp only [h]
  blk_ext

end norm

section turned
variable (hd : Fin 8) (x0 : FVec Ideal S12288x1024 .f32) (x1 : FVec Ideal S1x1024 .f32) (x2 x3 : FVec Ideal S8x1x1024 .f32)
  (c l h : FVec Ideal S2048x128 .f32)

/-- The latent tokens' queries, sequence by sequence. -/
theorem qlate_at (w : FVec Ideal S1024x384 .bf16) (g : FVec Ideal S1x384 .f32) (up : FVec Ideal S384x1024 .bf16) (q : FVec Ideal S1x128 .f32) (b : Fin 4) (s : Fin 2048) (j : Fin 128) :
    val_main_v87 (F := Ideal) x0 x1 x2 x3 w g up q (ix4 b s hd j) = val_main_v85 (F := Ideal) x0 x1 x2 x3 w g up q (ix3 ⟨4096 + (b.val * 2048 + s.val), by omega⟩ hd j) := by
  pointwise [val_main_v87, val_main_v86]

/-- The queries' columns moved 8 to the left. -/
theorem qleft_at (w : FVec Ideal S1024x384 .bf16) (g : FVec Ideal S1x384 .f32) (up : FVec Ideal S384x1024 .bf16) (q : FVec Ideal S1x128 .f32) (b : Fin 4) (s : Fin 2048) (j : Fin 128) :
    val_main_v91 (F := Ideal) x0 x1 x2 x3 w g up q (ix4 b s hd j) = val_main_v87 (F := Ideal) x0 x1 x2 x3 w g up q (ix4 b s hd ⟨(j.val + 8) % 128, by omega⟩) := by
  pointwise [val_main_v91, val_main_call0_v0, val_main_call0_v1]
  blk_point []

/-- The queries' columns moved 8 to the right. -/
theorem qright_at (w : FVec Ideal S1024x384 .bf16) (g : FVec Ideal S1x384 .f32) (up : FVec Ideal S384x1024 .bf16) (q : FVec Ideal S1x128 .f32) (b : Fin 4) (s : Fin 2048) (j : Fin 128) :
    val_main_v96 (F := Ideal) x0 x1 x2 x3 w g up q (ix4 b s hd j) = val_main_v87 (F := Ideal) x0 x1 x2 x3 w g up q (ix4 b s hd ⟨(j.val + 120) % 128, by omega⟩) := by
  pointwise [val_main_v96, val_main_call1_v0, val_main_call1_v1]
  blk_point []

/-- The latent tokens' queries after the rotation, sequence by sequence. -/
theorem qturned_at (w : FVec Ideal S1024x384 .bf16) (g : FVec Ideal S1x384 .f32) (up : FVec Ideal S384x1024 .bf16) (q : FVec Ideal S1x128 .f32) (b : Fin 4) (s : Fin 2048) (j : Fin 128) :
    val_main_v100 (F := Ideal) x0 x1 x2 x3 w g up q c l h (ix4 b s hd j)
      = val_main_v87 (F := Ideal) x0 x1 x2 x3 w g up q (ix4 b s hd j) * c (ix2 s j) + val_main_v91 (F := Ideal) x0 x1 x2 x3 w g up q (ix4 b s hd j) * l (ix2 s j)
        + val_main_v96 (F := Ideal) x0 x1 x2 x3 w g up q (ix4 b s hd j) * h (ix2 s j) := by
  pointwise [val_main_v100, val_main_v99, val_main_v98, val_main_v97, val_main_v95, val_main_v94, val_main_v93, val_main_v92, val_main_v90, val_main_v89, val_main_v88]

/-- The reference's queries of a context token: as normalised. -/
theorem qref_lo (w : FVec Ideal S1024x384 .bf16) (g : FVec Ideal S1x384 .f32) (up : FVec Ideal S384x1024 .bf16) (q : FVec Ideal S1x128 .f32) (n : Fin 12288) (hn : n.val < 4096) (j : Fin 128) :
    val_main_v104 (F := Ideal) x0 x1 x2 x3 w g up q c l h (ix2 n ⟨hd.val * 128 + j.val, by omega⟩)
      = val_main_v85 (F := Ideal) x0 x1 x2 x3 w g up q (ix3 n hd j) := by
  pointwise [val_main_v104, val_main_v103, val_main_v101]
  blk_point []
  exact absurd hn (by assumption)

/-- The reference's queries of a latent token: rotated. -/
theorem qref_hi (w : FVec Ideal S1024x384 .bf16) (g : FVec Ideal S1x384 .f32) (up : FVec Ideal S384x1024 .bf16) (q : FVec Ideal S1x128 .f32) (n : Fin 12288) (hn : 4096 ≤ n.val) (j : Fin 128) :
    val_main_v104 (F := Ideal) x0 x1 x2 x3 w g up q c l h (ix2 n ⟨hd.val * 128 + j.val, by omega⟩)
      = val_main_v85 (F := Ideal) x0 x1 x2 x3 w g up q (ix3 n hd j) * c (ix2 ⟨(n.val - 4096) % 2048, by omega⟩ j)
        + val_main_v85 (F := Ideal) x0 x1 x2 x3 w g up q (ix3 n hd ⟨(j.val + 8) % 128, by omega⟩) * l (ix2 ⟨(n.val - 4096) % 2048, by omega⟩ j)
        + val_main_v85 (F := Ideal) x0 x1 x2 x3 w g up q (ix3 n hd ⟨(j.val + 120) % 128, by omega⟩) * h (ix2 ⟨(n.val - 4096) % 2048, by omega⟩ j) := by
  have key : val_main_v104 (F := Ideal) x0 x1 x2 x3 w g up q c l h (ix2 n ⟨hd.val * 128 + j.val, by omega⟩)
      = val_main_v100 (F := Ideal) x0 x1 x2 x3 w g up q c l h (ix4 ⟨(n.val - 4096) / 2048, by omega⟩ ⟨(n.val - 4096) % 2048, by omega⟩ hd j) := by
    pointwise [val_main_v104, val_main_v103, val_main_v102]
    blk_point []
    exact absurd hn (by omega)
  have e : (⟨4096 + ((n.val - 4096) / 2048 * 2048 + (n.val - 4096) % 2048), by omega⟩ : Fin 12288) = n := Fin.ext (by simp only; omega)
  rw [key, qturned_at, qleft_at, qright_at, qlate_at, qlate_at, qlate_at]
  simp only [e]

/-- The latent tokens' keys, sequence by sequence. -/
theorem klate_at (w w' : FVec Ideal S1024x128 .bf16) (g : FVec Ideal S1x128 .f32) (up : FVec Ideal S128x1024 .bf16) (q : FVec Ideal S1x128 .f32) (b : Fin 4) (s : Fin 2048) (j : Fin 128) :
    val_main_v119 (F := Ideal) x0 x1 x2 x3 w w' g up q (ix4 b s hd j) = val_main_v117 (F := Ideal) x0 x1 x2 x3 w w' g up q (ix3 ⟨4096 + (b.val * 2048 + s.val), by omega⟩ hd j) := by
  pointwise [val_main_v119, val_main_v118]

/-- The keys' columns moved 8 to the left. -/
theorem kleft_at (w w' : FVec Ideal S1024x128 .bf16) (g : FVec Ideal S1x128 .f32) (up : FVec Ideal S128x1024 .bf16) (q : FVec Ideal S1x128 .f32) (b : Fin 4) (s : Fin 2048) (j : Fin 128) :
    val_main_v123 (F := Ideal) x0 x1 x2 x3 w w' g up q (ix4 b s hd j) = val_main_v119 (F := Ideal) x0 x1 x2 x3 w w' g up q (ix4 b s hd ⟨(j.val + 8) % 128, by omega⟩) := by
  pointwise [val_main_v123, val_main_call2_v0, val_main_call2_v1]
  blk_point []

/-- The keys' columns moved 8 to the right. -/
theorem kright_at (w w' : FVec Ideal S1024x128 .bf16) (g : FVec Ideal S1x128 .f32) (up : FVec Ideal S128x1024 .bf16) (q : FVec Ideal S1x128 .f32) (b : Fin 4) (s : Fin 2048) (j : Fin 128) :
    val_main_v128 (F := Ideal) x0 x1 x2 x3 w w' g up q (ix4 b s hd j) = val_main_v119 (F := Ideal) x0 x1 x2 x3 w w' g up q (ix4 b s hd ⟨(j.val + 120) % 128, by omega⟩) := by
  pointwise [val_main_v128, val_main_call3_v0, val_main_call3_v1]
  blk_point []

/-- The latent tokens' keys after the rotation, sequence by sequence. -/
theorem kturned_at (w w' : FVec Ideal S1024x128 .bf16) (g : FVec Ideal S1x128 .f32) (up : FVec Ideal S128x1024 .bf16) (q : FVec Ideal S1x128 .f32) (b : Fin 4) (s : Fin 2048) (j : Fin 128) :
    val_main_v132 (F := Ideal) x0 x1 x2 x3 w w' g up q c l h (ix4 b s hd j)
      = val_main_v119 (F := Ideal) x0 x1 x2 x3 w w' g up q (ix4 b s hd j) * c (ix2 s j) + val_main_v123 (F := Ideal) x0 x1 x2 x3 w w' g up q (ix4 b s hd j) * l (ix2 s j)
        + val_main_v128 (F := Ideal) x0 x1 x2 x3 w w' g up q (ix4 b s hd j) * h (ix2 s j) := by
  pointwise [val_main_v132, val_main_v131, val_main_v130, val_main_v129, val_main_v127, val_main_v126, val_main_v125, val_main_v124, val_main_v122, val_main_v121, val_main_v120]

/-- The reference's keys of a context token: as normalised. -/
theorem kref_lo (w w' : FVec Ideal S1024x128 .bf16) (g : FVec Ideal S1x128 .f32) (up : FVec Ideal S128x1024 .bf16) (q : FVec Ideal S1x128 .f32) (n : Fin 12288) (hn : n.val < 4096) (j : Fin 128) :
    val_main_v136 (F := Ideal) x0 x1 x2 x3 w w' g up q c l h (ix2 n ⟨hd.val * 128 + j.val, by omega⟩)
      = val_main_v117 (F := Ideal) x0 x1 x2 x3 w w' g up q (ix3 n hd j) := by
  pointwise [val_main_v136, val_main_v135, val_main_v133]
  blk_point []
  exact absurd hn (by assumption)

/-- The reference's keys of a latent token: rotated. -/
theorem kref_hi (w w' : FVec Ideal S1024x128 .bf16) (g : FVec Ideal S1x128 .f32) (up : FVec Ideal S128x1024 .bf16) (q : FVec Ideal S1x128 .f32) (n : Fin 12288) (hn : 4096 ≤ n.val) (j : Fin 128) :
    val_main_v136 (F := Ideal) x0 x1 x2 x3 w w' g up q c l h (ix2 n ⟨hd.val * 128 + j.val, by omega⟩)
      = val_main_v117 (F := Ideal) x0 x1 x2 x3 w w' g up q (ix3 n hd j) * c (ix2 ⟨(n.val - 4096) % 2048, by omega⟩ j)
        + val_main_v117 (F := Ideal) x0 x1 x2 x3 w w' g up q (ix3 n hd ⟨(j.val + 8) % 128, by omega⟩) * l (ix2 ⟨(n.val - 4096) % 2048, by omega⟩ j)
        + val_main_v117 (F := Ideal) x0 x1 x2 x3 w w' g up q (ix3 n hd ⟨(j.val + 120) % 128, by omega⟩) * h (ix2 ⟨(n.val - 4096) % 2048, by omega⟩ j) := by
  have key : val_main_v136 (F := Ideal) x0 x1 x2 x3 w w' g up q c l h (ix2 n ⟨hd.val * 128 + j.val, by omega⟩)
      = val_main_v132 (F := Ideal) x0 x1 x2 x3 w w' g up q c l h (ix4 ⟨(n.val - 4096) / 2048, by omega⟩ ⟨(n.val - 4096) % 2048, by omega⟩ hd j) := by
    pointwise [val_main_v136, val_main_v135, val_main_v134]
    blk_point []
    exact absurd hn (by omega)
  have e : (⟨4096 + ((n.val - 4096) / 2048 * 2048 + (n.val - 4096) % 2048), by omega⟩ : Fin 12288) = n := Fin.ext (by simp only; omega)
  rw [key, kturned_at, kleft_at, kright_at, klate_at, klate_at, klate_at]
  simp only [e]

end turned

end Cert.Kernel5Ideal.AttnIn

end
-- ==== Proof.AttnIn.Neighbours.lean ====
/-
  The input of the attention block (program `Kernel5`), the neighbourhood attention's queries and keys: heads of 64
  columns, two to a block of 128, each normalised over its own mean square. The kernel sums the squares of all 128 columns
  with the other head's masked out and multiplies by 1/64; the reference takes the mean of the 64.
-/
module

public import proofs.«01_k».proof.Proof.AttnIn.Products

@[expose] public section

set_option maxRecDepth 16384

noncomputable section

namespace Cert.Kernel5Ideal.AttnIn

open Cert.Kernel5Ideal Cert.Kernel5Ideal.Gen Idealize.ShloMosaic Idealize.ShloMosaic.TcCoe Idealize.SL.Sem
open Cert.Reference5Ideal.Read

/-- The columns of the first of two heads. -/
def firstHalf : IVec S256x128 1 := cmpi .slt (iota .tc S256x128 32 [1] iota_S256x128_d1_w32) (broadcast S256x128 64#32)

/-- One over the root of a masked mean square, for every row. -/
def invRoot (u : FVec Ideal S256x128 .f32) : FVec Ideal S256x1 .f32 :=
  rsqrt (addf (mulf (shapeCast S256x1 (multiReduction .add [1] S256 u 0x00000000#32 reduces_S256x128_S256 (.inl rfl) rfl) shapeCasts_S256_S256x1)
    (broadcast S256x1 (Scalar.ofBits .f32 0x3C800000#32))) (broadcast S256x1 (Scalar.ofBits .f32 0x358637BD#32)))

/-- Two heads side by side, each normalised over its own columns, and scaled. -/
def pairNorm (u : FVec Ideal S256x128 .f32) (g : FVec Ideal S1x128 .f32) : FVec Ideal S256x128 .f32 :=
  mulf (mulf u (select firstHalf
      (broadcastTo S256x128 (shapeCast S256x1 (invRoot (select firstHalf (mulf u u) (broadcast S256x128 (Scalar.ofBits .f32 0x00000000#32)))) shapeCasts_S256x1_S256x1) broadcasts_S256x1_S256x128)
      (broadcastTo S256x128 (shapeCast S256x1 (invRoot (select firstHalf (broadcast S256x128 (Scalar.ofBits .f32 0x00000000#32)) (mulf u u))) shapeCasts_S256x1_S256x1) broadcasts_S256x1_S256x128)))
    (broadcastTo S256x128 g broadcasts_S1x128_S256x128)

/-- Below 64 the comparison with 64 says yes. -/
theorem half_lo (n : ℕ) (h : n < 64) : IntOp.cmpi .slt (BitVec.ofNat 32 n) 64#32 = (1#1 : BitVec 1) := by
  have := (by decide : ∀ k : Fin 64, IntOp.cmpi .slt (BitVec.ofNat 32 k.val) 64#32 = (1#1 : BitVec 1))
  exact this ⟨n, h⟩

/-- From 64 on it says no. -/
theorem half_hi (n : ℕ) (h : 64 ≤ n) (h' : n < 128) : IntOp.cmpi .slt (BitVec.ofNat 32 n) 64#32 = (0#1 : BitVec 1) := by
  have := (by decide : ∀ k : Fin 64, IntOp.cmpi .slt (BitVec.ofNat 32 (64 + k.val)) 64#32 = (0#1 : BitVec 1))
  have := this ⟨n - 64, by omega⟩
  simpa [show 64 + (n - 64) = n by omega] using this

/-- A sum over 128 columns with the second half masked out is the sum over the first. -/
theorem sum_lo (f : Fin 128 → EReal) :
    (∑ x : Fin 128, Scalar.select (IntOp.cmpi .slt (BitVec.ofNat 32 x.val) 64#32) (f x) 0)
      = ∑ x : Fin 64, f ⟨x.val, by omega⟩ := by
  rw [Fin.sum_univ_add (a := 64) (b := 64)]
  have h0 : ∀ x : Fin 64, Scalar.select (IntOp.cmpi .slt (BitVec.ofNat 32 (Fin.castAdd 64 x).val) 64#32) (f (Fin.castAdd 64 x)) 0
      = f ⟨x.val, by omega⟩ := fun x => by
    rw [half_lo _ (by simp)]; rfl
  have h1 : ∀ x : Fin 64, Scalar.select (IntOp.cmpi .slt (BitVec.ofNat 32 (Fin.natAdd 64 x).val) 64#32) (f (Fin.natAdd 64 x)) 0
      = 0 := fun x => by
    rw [half_hi _ (by simp) (Fin.isLt _)]; rfl
  rw [Finset.sum_congr rfl fun x _ => h0 x, Finset.sum_congr rfl fun x _ => h1 x, Finset.sum_const_zero, add_zero]

/-- And with the first half masked out it is the sum over the second. -/
theorem sum_hi (f : Fin 128 → EReal) :
    (∑ x : Fin 128, Scalar.select (IntOp.cmpi .slt (BitVec.ofNat 32 x.val) 64#32) 0 (f x))
      = ∑ x : Fin 64, f ⟨64 + x.val, by omega⟩ := by
  rw [Fin.sum_univ_add (a := 64) (b := 64)]
  have h0 : ∀ x : Fin 64, Scalar.select (IntOp.cmpi .slt (BitVec.ofNat 32 (Fin.castAdd 64 x).val) 64#32) 0 (f (Fin.castAdd 64 x))
      = 0 := fun x => by
    rw [half_lo _ (by simp)]; rfl
  have h1 : ∀ x : Fin 64, Scalar.select (IntOp.cmpi .slt (BitVec.ofNat 32 (Fin.natAdd 64 x).val) 64#32) 0 (f (Fin.natAdd 64 x))
      = f ⟨64 + x.val, by omega⟩ := fun x => by
    rw [half_hi _ (by simp) (Fin.isLt _)]; rfl
  rw [Finset.sum_congr rfl fun x _ => h0 x, Finset.sum_congr rfl fun x _ => h1 x, Finset.sum_const_zero, zero_add]

/-- Dividing by 64 is multiplying by its reciprocal's word. -/
theorem div_64 (x : EReal) : Ideal.div x (Ideal.ofBits .f32 0x42800000#32) = x * Ideal.ofBits .f32 0x3C800000#32 := by
  have e : Ideal.ofBits .f32 0x42800000#32 = ((64 : ℝ) : EReal) := by
    simp [Ideal.ofBits, Ideal.ieee]
    rw [← EReal.coe_mul]
    congr 1
    norm_num
  have e' : Ideal.ofBits .f32 0x3C800000#32 = (((64 : ℝ)⁻¹ : ℝ) : EReal) := by
    simp [Ideal.ofBits, Ideal.ieee]
    rw [← EReal.coe_mul]
    congr 1
    norm_num
  rw [e, e']
  unfold Ideal.div
  rw [if_neg (by simp)]
  rfl

/-- A pair of heads at an element. -/
theorem pairNorm_at (u : FVec Ideal S256x128 .f32) (g : FVec Ideal S1x128 .f32) (r : Fin 256) (e : Fin 2) (j : Fin 64) :
    pairNorm u g (ix2 r ⟨e.val * 64 + j.val, by omega⟩)
      = u (ix2 r ⟨e.val * 64 + j.val, by omega⟩)
        * Ideal.rsqrt (Ideal.div (∑ x : Fin 64, u (ix2 r ⟨e.val * 64 + x.val, by omega⟩) * u (ix2 r ⟨e.val * 64 + x.val, by omega⟩))
            (Ideal.ofBits .f32 0x42800000#32) + Ideal.ofBits .f32 0x358637BD#32)
        * g (ix2 0 ⟨e.val * 64 + j.val, by omega⟩) := by
  pointwise [pairNorm, firstHalf, invRoot]
  rw [sum_lo fun x => u (ix2 r x) * u (ix2 r x), sum_hi fun x => u (ix2 r x) * u (ix2 r x), div_64]
  obtain he | he : e.val = 0 ∨ e.val = 1 := by omega
  · rw [half_lo (e.val * 64 + j.val) (by omega)]
    simp only [he]
    simp [Scalar.select]
  · rw [half_hi (e.val * 64 + j.val) (by omega) (by omega)]
    simp only [he]
    simp [Scalar.select]

section heads
variable {t : ℕ} (ht : t < 48) (p : Fin 4) (u : FVec Ideal S256x128 .f32) (x0 : FVec Ideal S12288x1024 .f32) (x1 : FVec Ideal S1x1024 .f32)
  (x2 x3 : FVec Ideal S8x1x1024 .f32) (w : FVec Ideal S1024x1536 .bf16) (g : FVec Ideal S1x128 .f32)

/-- Two heads of the queries. -/
theorem nq_pair (h : ∀ r j, u (ix2 r j) = val_main_v138 (F := Ideal) x0 x1 x2 x3 w (ix2 (tok ht r) ⟨p.val * 128 + j.val, by omega⟩))
    (r : Fin 256) (e : Fin 2) (j : Fin 64) :
    pairNorm u g (ix2 r ⟨e.val * 64 + j.val, by omega⟩)
      = val_main_v156 (F := Ideal) x0 x1 x2 x3 w g (ix2 (tok ht r) ⟨p.val * 128 + (e.val * 64 + j.val), by omega⟩) := by
  rw [pairNorm_at]
  pointwise [val_main_v156, val_main_v155, val_main_v154, val_main_v153, val_main_v152, val_main_v151, val_main_v150,
    val_main_v149, val_main_v148, val_main_v147, val_main_v146, val_main_v145, val_main_v144, val_main_v143, val_main_v142,
    val_main_v141, val_main_v140, val_main_v139, val_main_cst_15, val_main_cst_16, val_main_cst_17]
  simp only [h, ← add_assoc, tok]
  all_goals blk_ext

/-- Two heads of the keys. -/
theorem nk_pair (h : ∀ r j, u (ix2 r j) = val_main_v138 (F := Ideal) x0 x1 x2 x3 w (ix2 (tok ht r) ⟨512 + (p.val * 128 + j.val), by omega⟩))
    (r : Fin 256) (e : Fin 2) (j : Fin 64) :
    pairNorm u g (ix2 r ⟨e.val * 64 + j.val, by omega⟩)
      = val_main_v173 (F := Ideal) x0 x1 x2 x3 w g (ix2 (tok ht r) ⟨p.val * 128 + (e.val * 64 + j.val), by omega⟩) := by
  rw [pairNorm_at]
  pointwise [val_main_v173, val_main_v172, val_main_v171, val_main_v170, val_main_v169, val_main_v168, val_main_v167,
    val_main_v166, val_main_v165, val_main_v164, val_main_v163, val_main_v162, val_main_v161, val_main_v160, val_main_v159,
    val_main_v158, val_main_v157, val_main_v139, val_main_cst_18, val_main_cst_19, val_main_cst_20]
  simp only [h, ← add_assoc, tok]
  all_goals blk_ext

/-- Two heads of the queries, at any column of the block of 128. -/
theorem nq_at (h : ∀ r j, u (ix2 r j) = val_main_v138 (F := Ideal) x0 x1 x2 x3 w (ix2 (tok ht r) ⟨p.val * 128 + j.val, by omega⟩))
    (r : Fin 256) (j : Fin 128) :
    pairNorm u g (ix2 r j) = val_main_v156 (F := Ideal) x0 x1 x2 x3 w g (ix2 (tok ht r) ⟨p.val * 128 + j.val, by omega⟩) := by
  have := nq_pair ht p u x0 x1 x2 x3 w g h r ⟨j.val / 64, by omega⟩ ⟨j.val % 64, by omega⟩
  simpa only [show j.val / 64 * 64 + j.val % 64 = j.val by omega] using this

/-- Two heads of the keys, at any column of the block of 128. -/
theorem nk_at (h : ∀ r j, u (ix2 r j) = val_main_v138 (F := Ideal) x0 x1 x2 x3 w (ix2 (tok ht r) ⟨512 + (p.val * 128 + j.val), by omega⟩))
    (r : Fin 256) (j : Fin 128) :
    pairNorm u g (ix2 r j) = val_main_v173 (F := Ideal) x0 x1 x2 x3 w g (ix2 (tok ht r) ⟨p.val * 128 + j.val, by omega⟩) := by
  have := nk_pair ht p u x0 x1 x2 x3 w g h r ⟨j.val / 64, by omega⟩ ⟨j.val % 64, by omega⟩
  simpa only [show j.val / 64 * 64 + j.val % 64 = j.val by omega] using this

end heads

end Cert.Kernel5Ideal.AttnIn

end
-- ==== Proof.AttnIn.Value.lean ====
/-
  The input of the attention block (program `Kernel5`): each array that the call leaves is the reference's. The pieces of
  the other modules, put at the places where a grid point's blocks stand.
-/
module

public import proofs.«01_k».proof.Proof.AttnIn.Hidden
public import proofs.«01_k».proof.Proof.AttnIn.Heads
public import proofs.«01_k».proof.Proof.AttnIn.Neighbours

@[expose] public section

set_option maxRecDepth 16384

noncomputable section

namespace Cert.Kernel5Ideal.AttnIn

open Cert.Kernel5Ideal Cert.Kernel5Ideal.Gen Idealize.ShloMosaic Idealize.ShloMosaic.TcCoe Idealize.SL.Sem
open Idealize.ShloMosaic.Pipeline (Dat)
open Cert.Reference5Ideal.Read

variable (m : (ℓ : Loc nD τ sig) → Buf (Elt Ideal) ℓ)

/-- Argument 0: the tokens. -/
abbrev arg0 (c : Dev nD) : FVec Ideal S12288x1024 .f32 := m ((c : Thread nD τ).loc main_arg0)
/-- Argument 1: their norm's gain. -/
abbrev arg1 (c : Dev nD) : FVec Ideal S1x1024 .f32 := m ((c : Thread nD τ).loc main_arg1)
/-- Argument 2: the modulation's scale. -/
abbrev arg2 (c : Dev nD) : FVec Ideal S8x1x1024 .f32 := m ((c : Thread nD τ).loc main_arg2)
/-- Argument 3: the modulation's shift. -/
abbrev arg3 (c : Dev nD) : FVec Ideal S8x1x1024 .f32 := m ((c : Thread nD τ).loc main_arg3)
/-- Argument 4: the queries' first weight. -/
abbrev arg4 (c : Dev nD) : FVec Ideal S1024x384 .bf16 := m ((c : Thread nD τ).loc main_arg4)
/-- Argument 5: the latent's weight. -/
abbrev arg5 (c : Dev nD) : FVec Ideal S1024x128 .bf16 := m ((c : Thread nD τ).loc main_arg5)
/-- Argument 6: the shared keys' weight. -/
abbrev arg6 (c : Dev nD) : FVec Ideal S1024x128 .bf16 := m ((c : Thread nD τ).loc main_arg6)
/-- Argument 7: the neighbourhood attention's weight. -/
abbrev arg7 (c : Dev nD) : FVec Ideal S1024x1536 .bf16 := m ((c : Thread nD τ).loc main_arg7)
/-- Argument 8: the queries' latent's gain. -/
abbrev arg8 (c : Dev nD) : FVec Ideal S1x384 .f32 := m ((c : Thread nD τ).loc main_arg8)
/-- Argument 9: the latent's gain. -/
abbrev arg9 (c : Dev nD) : FVec Ideal S1x128 .f32 := m ((c : Thread nD τ).loc main_arg9)
/-- Argument 10: the queries' second weight. -/
abbrev arg10 (c : Dev nD) : FVec Ideal S384x1024 .bf16 := m ((c : Thread nD τ).loc main_arg10)
/-- Argument 11: the keys' weight. -/
abbrev arg11 (c : Dev nD) : FVec Ideal S128x1024 .bf16 := m ((c : Thread nD τ).loc main_arg11)
/-- Argument 12: the values' weight. -/
abbrev arg12 (c : Dev nD) : FVec Ideal S128x512 .bf16 := m ((c : Thread nD τ).loc main_arg12)
/-- Argument 13: the query heads' gain. -/
abbrev arg13 (c : Dev nD) : FVec Ideal S1x128 .f32 := m ((c : Thread nD τ).loc main_arg13)
/-- Argument 14: the key heads' gain. -/
abbrev arg14 (c : Dev nD) : FVec Ideal S1x128 .f32 := m ((c : Thread nD τ).loc main_arg14)
/-- Argument 15: the neighbourhood queries' gain. -/
abbrev arg15 (c : Dev nD) : FVec Ideal S1x128 .f32 := m ((c : Thread nD τ).loc main_arg15)
/-- Argument 16: the neighbourhood keys' gain. -/
abbrev arg16 (c : Dev nD) : FVec Ideal S1x128 .f32 := m ((c : Thread nD τ).loc main_arg16)
/-- Argument 17: the cosines. -/
abbrev arg17 (c : Dev nD) : FVec Ideal S2048x128 .f32 := m ((c : Thread nD τ).loc main_arg17)
/-- Argument 18: the sines towards the left. -/
abbrev arg18 (c : Dev nD) : FVec Ideal S2048x128 .f32 := m ((c : Thread nD τ).loc main_arg18)
/-- Argument 19: the sines towards the right. -/
abbrev arg19 (c : Dev nD) : FVec Ideal S2048x128 .f32 := m ((c : Thread nD τ).loc main_arg19)

/-- A weight's block is the whole weight. -/
theorem weights (c : Dev nD) (t : Fin cfg0.N) :
    iblk m c 4 t = arg4 m c ∧ iblk m c 5 t = arg5 m c ∧ iblk m c 6 t = arg6 m c ∧ iblk m c 7 t = arg7 m c
    ∧ iblk m c 8 t = arg8 m c ∧ iblk m c 9 t = arg9 m c ∧ iblk m c 10 t = arg10 m c ∧ iblk m c 11 t = arg11 m c
    ∧ iblk m c 12 t = arg12 m c ∧ iblk m c 13 t = arg13 m c ∧ iblk m c 14 t = arg14 m c ∧ iblk m c 15 t = arg15 m c ∧ iblk m c 16 t = arg16 m c := by
  refine ⟨?_, ?_, ?_, ?_, ?_, ?_, ?_, ?_, ?_, ?_, ?_, ?_, ?_⟩ <;> (funext y; blk_point [iblk, V, idx t])

/-- A latent token's row of the three tables. -/
theorem tables (c : Dev nD) (t : Fin cfg0.N) (ht : 16 ≤ t.val) (r : Fin 256) (j : Fin 128) :
    iblk m c 17 t (ix2 r j) = arg17 m c (ix2 ⟨((tok (lt48 t) r).val - 4096) % 2048, by omega⟩ j)
    ∧ iblk m c 18 t (ix2 r j) = arg18 m c (ix2 ⟨((tok (lt48 t) r).val - 4096) % 2048, by omega⟩ j)
    ∧ iblk m c 19 t (ix2 r j) = arg19 m c (ix2 ⟨((tok (lt48 t) r).val - 4096) % 2048, by omega⟩ j) := by
  obtain ⟨e1, e2, e3⟩ := idx_tables t
  refine ⟨?_, ?_, ?_⟩ <;> blk_point [iblk, V, e1 ht, e2 ht, e3 ht]

/-- A grid point's own coordinate is its number. -/
theorem coord_val : ∀ t : Fin cfg0.N, ((grid0.coords t) 0).val = t.val :=
  (by decide +kernel : ∀ t : Fin grid0.N, _)

/-- A head of the queries. -/
theorem q_piece (c : Dev nD) (t : Fin cfg0.N) (hd : Fin 8) (u : FVec Ideal S256x128 .f32)
    (hu : ∀ r j, u (ix2 r j) = val_main_v63 (F := Ideal) (arg0 m c) (arg1 m c) (arg2 m c) (arg3 m c) (arg4 m c) (arg8 m c) (arg10 m c) (ix2 (tok (lt48 t) r) ⟨hd.val * 128 + j.val, by omega⟩))
    (r : Fin 256) (j : Fin 128) :
    headTurn (headNorm u (iblk m c 13 t)) (k0_pay3 (grid0.coords t) (iblk m c 17 t)) (k0_pay4 (grid0.coords t) (iblk m c 18 t))
        (k0_pay5 (grid0.coords t) (iblk m c 19 t)) (ix2 r j)
      = val_main_v104 (F := Ideal) (arg0 m c) (arg1 m c) (arg2 m c) (arg3 m c) (arg4 m c) (arg8 m c) (arg10 m c) (arg13 m c) (arg17 m c) (arg18 m c) (arg19 m c) (ix2 (tok (lt48 t) r) ⟨hd.val * 128 + j.val, by omega⟩) := by
  obtain ⟨h4, h5, h6, h7, h8, h9, h10, h11, h12, h13, h14, h15, h16⟩ := weights m c t
  rw [h13]
  by_cases ht : t.val < 16
  · refine (turn_lo _ ((coord_val t).trans_lt ht) _ _ _ _ r j).trans ?_
    refine (qnorm_at (lt48 t) hd u (arg0 m c) (arg1 m c) (arg2 m c) (arg3 m c) (arg4 m c) (arg8 m c) (arg10 m c) (arg13 m c) hu r j).trans ?_
    exact (qref_lo hd (arg0 m c) (arg1 m c) (arg2 m c) (arg3 m c) _ _ _ (arg4 m c) (arg8 m c) (arg10 m c) (arg13 m c) (tok (lt48 t) r) (by show t.val * 256 + r.val < 4096; omega) j).symm
  · have ht : 16 ≤ t.val := by omega
    refine (turn_hi _ (ht.trans_eq (coord_val t).symm) _ _ _ _ r j).trans ?_
    obtain ⟨e1, e2, e3⟩ := tables m c t ht r j
    rw [e1, e2, e3]
    refine Eq.trans ?_ (qref_hi hd (arg0 m c) (arg1 m c) (arg2 m c) (arg3 m c) _ _ _ (arg4 m c) (arg8 m c) (arg10 m c) (arg13 m c) (tok (lt48 t) r) (by show 4096 ≤ t.val * 256 + r.val; omega) j).symm
    rw [qnorm_at (lt48 t) hd u (arg0 m c) (arg1 m c) (arg2 m c) (arg3 m c) (arg4 m c) (arg8 m c) (arg10 m c) (arg13 m c) hu, qnorm_at (lt48 t) hd u (arg0 m c) (arg1 m c) (arg2 m c) (arg3 m c) (arg4 m c) (arg8 m c) (arg10 m c) (arg13 m c) hu, qnorm_at (lt48 t) hd u (arg0 m c) (arg1 m c) (arg2 m c) (arg3 m c) (arg4 m c) (arg8 m c) (arg10 m c) (arg13 m c) hu]

/-- A head of the keys. -/
theorem k_piece (c : Dev nD) (t : Fin cfg0.N) (hd : Fin 8) (u : FVec Ideal S256x128 .f32)
    (hu : ∀ r j, u (ix2 r j) = val_main_v66 (F := Ideal) (arg0 m c) (arg1 m c) (arg2 m c) (arg3 m c) (arg5 m c) (arg9 m c) (arg11 m c) (ix2 (tok (lt48 t) r) ⟨hd.val * 128 + j.val, by omega⟩)
      + val_main_v47 (F := Ideal) (arg0 m c) (arg1 m c) (arg2 m c) (arg3 m c) (arg6 m c) (ix2 (tok (lt48 t) r) j))
    (r : Fin 256) (j : Fin 128) :
    headTurn (headNorm u (iblk m c 14 t)) (k0_pay3 (grid0.coords t) (iblk m c 17 t)) (k0_pay4 (grid0.coords t) (iblk m c 18 t))
        (k0_pay5 (grid0.coords t) (iblk m c 19 t)) (ix2 r j)
      = val_main_v136 (F := Ideal) (arg0 m c) (arg1 m c) (arg2 m c) (arg3 m c) (arg5 m c) (arg6 m c) (arg9 m c) (arg11 m c) (arg14 m c) (arg17 m c) (arg18 m c) (arg19 m c) (ix2 (tok (lt48 t) r) ⟨hd.val * 128 + j.val, by omega⟩) := by
  obtain ⟨h4, h5, h6, h7, h8, h9, h10, h11, h12, h13, h14, h15, h16⟩ := weights m c t
  rw [h14]
  by_cases ht : t.val < 16
  · refine (turn_lo _ ((coord_val t).trans_lt ht) _ _ _ _ r j).trans ?_
    refine (knorm_at (lt48 t) hd u (arg0 m c) (arg1 m c) (arg2 m c) (arg3 m c) (arg5 m c) (arg6 m c) (arg9 m c) (arg11 m c) (arg14 m c) hu r j).trans ?_
    exact (kref_lo hd (arg0 m c) (arg1 m c) (arg2 m c) (arg3 m c) _ _ _ (arg5 m c) (arg6 m c) (arg9 m c) (arg11 m c) (arg14 m c) (tok (lt48 t) r) (by show t.val * 256 + r.val < 4096; omega) j).symm
  · have ht : 16 ≤ t.val := by omega
    refine (turn_hi _ (ht.trans_eq (coord_val t).symm) _ _ _ _ r j).trans ?_
    obtain ⟨e1, e2, e3⟩ := tables m c t ht r j
    rw [e1, e2, e3]
    refine Eq.trans ?_ (kref_hi hd (arg0 m c) (arg1 m c) (arg2 m c) (arg3 m c) _ _ _ (arg5 m c) (arg6 m c) (arg9 m c) (arg11 m c) (arg14 m c) (tok (lt48 t) r) (by show 4096 ≤ t.val * 256 + r.val; omega) j).symm
    rw [knorm_at (lt48 t) hd u (arg0 m c) (arg1 m c) (arg2 m c) (arg3 m c) (arg5 m c) (arg6 m c) (arg9 m c) (arg11 m c) (arg14 m c) hu, knorm_at (lt48 t) hd u (arg0 m c) (arg1 m c) (arg2 m c) (arg3 m c) (arg5 m c) (arg6 m c) (arg9 m c) (arg11 m c) (arg14 m c) hu, knorm_at (lt48 t) hd u (arg0 m c) (arg1 m c) (arg2 m c) (arg3 m c) (arg5 m c) (arg6 m c) (arg9 m c) (arg11 m c) (arg14 m c) hu]

/-- The keys' shared part. -/
theorem final27 (c : Dev nD) : (dats m 0 c).arrAt 27 cfg0.N = val_main_v47 (F := Ideal) (arg0 m c) (arg1 m c) (arg2 m c) (arg3 m c) (arg6 m c) := by
  refine (dats m 0 c).arrAt_eq_of_covers 27 _ (by decide +kernel) fun t _ y => ?_
  obtain ⟨h4, h5, h6, h7, h8, h9, h10, h11, h12, h13, h14, h15, h16⟩ := weights m c t
  blk_simp
  rw [after0_27]
  unfold out0_27 k0_pay84 k0_pay85 k0_pay86
  frame_out
  rw [h6]
  obtain ⟨r, j, rfl⟩ : ∃ r j, y = ix2 r j := ⟨y 0, y 1, by blk_ext⟩
  refine (krope_at (lt48 t) _ _ _ (arg0 m c) (arg1 m c) (arg2 m c) (arg3 m c) (hidden_at m c t) (arg6 m c) r j).trans ?_
  blk_ext [idx_out t]

/-- The latent of the keys and values. -/
theorem final26 (c : Dev nD) : (dats m 0 c).arrAt 26 cfg0.N = val_main_v45 (F := Ideal) (arg0 m c) (arg1 m c) (arg2 m c) (arg3 m c) (arg5 m c) (arg9 m c) := by
  refine (dats m 0 c).arrAt_eq_of_covers 26 _ (by decide +kernel) fun t _ y => ?_
  obtain ⟨h4, h5, h6, h7, h8, h9, h10, h11, h12, h13, h14, h15, h16⟩ := weights m c t
  blk_simp
  rw [after0_26]
  unfold out0_26 k0_pay84 k0_pay85 k0_pay86
  frame_out
  rw [h5, h9]
  obtain ⟨r, j, rfl⟩ : ∃ r j, y = ix2 r j := ⟨y 0, y 1, by blk_ext⟩
  refine (ckv_at (lt48 t) _ _ _ (arg0 m c) (arg1 m c) (arg2 m c) (arg3 m c) (hidden_at m c t) (arg5 m c) (arg9 m c) r j).trans ?_
  blk_ext [idx_out t]

/-- The neighbourhood attention's values. -/
theorem final25 (c : Dev nD) : (dats m 0 c).arrAt 25 cfg0.N = val_main_v176 (F := Ideal) (arg0 m c) (arg1 m c) (arg2 m c) (arg3 m c) (arg7 m c) := by
  refine (dats m 0 c).arrAt_eq_of_covers 25 _ (by decide +kernel) fun t _ y => ?_
  obtain ⟨h4, h5, h6, h7, h8, h9, h10, h11, h12, h13, h14, h15, h16⟩ := weights m c t
  blk_simp
  rw [after0_25]
  unfold out0_25 k0_pay89 k0_pay84 k0_pay85 k0_pay86
  frame_out
  rw [h7]
  obtain ⟨r, j, rfl⟩ : ∃ r j, y = ix2 r j := ⟨y 0, y 1, by blk_ext⟩
  refine (nv_at (lt48 t) _ _ _ (arg0 m c) (arg1 m c) (arg2 m c) (arg3 m c) (hidden_at m c t) (arg7 m c) r j).trans ?_
  blk_ext [idx_out t]

/-- The values. -/
theorem final22 (c : Dev nD) : (dats m 0 c).arrAt 22 cfg0.N = val_main_v179 (F := Ideal) (arg0 m c) (arg1 m c) (arg2 m c) (arg3 m c) (arg5 m c) (arg9 m c) (arg12 m c) := by
  refine (dats m 0 c).arrAt_eq_of_covers 22 _ (by decide +kernel) fun t _ y => ?_
  obtain ⟨h4, h5, h6, h7, h8, h9, h10, h11, h12, h13, h14, h15, h16⟩ := weights m c t
  blk_simp
  rw [after0_22]
  unfold out0_22 k0_pay90 k0_pay84 k0_pay85 k0_pay86
  frame_out
  rw [h5, h9, h12]
  obtain ⟨r, j, rfl⟩ : ∃ r j, y = ix2 r j := ⟨y 0, y 1, by blk_ext⟩
  refine (v_at (lt48 t) _ _ _ (arg0 m c) (arg1 m c) (arg2 m c) (arg3 m c) (hidden_at m c t) (arg5 m c) (arg9 m c) (arg12 m c) r j).trans ?_
  blk_ext [idx_out t]

end Cert.Kernel5Ideal.AttnIn

end
-- ==== Proof.AttnIn.Pieces.lean ====
/-
  The input of the attention block (program `Kernel5`): what each of the stores of a grid point puts down is one of the
  two forms of the other modules, a rotated head or a pair of neighbourhood heads, of a block of 128 columns.
-/
module

public import proofs.«01_k».proof.Proof.AttnIn.Heads
public import proofs.«01_k».proof.Proof.AttnIn.Neighbours

@[expose] public section

set_option maxRecDepth 16384

noncomputable section

namespace Cert.Kernel5Ideal.AttnIn

open Cert.Kernel5Ideal Cert.Kernel5Ideal.Gen Idealize.ShloMosaic Idealize.ShloMosaic.TcCoe Idealize.SL.Sem

/-- 128 columns of the heads' 1024, from column `o` on. -/
abbrev head (v : FVec Ideal S256x1024 .f32) (o : ℕ) (h : S256x1024.Slices ![0, o] S256x128) : FVec Ideal S256x128 .f32 :=
  extractStridedSlice S256x128 ![0, o] v h

/-- 128 columns of the neighbourhood attention's 1536, from column `o` on. -/
abbrev pair (v : FVec Ideal S256x1536 .f32) (o : ℕ) (h : S256x1536.Slices ![0, o] S256x128) : FVec Ideal S256x128 .f32 :=
  extractStridedSlice S256x128 ![0, o] v h

/-- A column of the 128. -/
theorem head_at (v : FVec Ideal S256x1024 .f32) (o : ℕ) (h : S256x1024.Slices ![0, o] S256x128) (ho : o + 128 ≤ 1024) (r : Fin 256) (j : Fin 128) :
    head v o h (ix2 r j) = v (ix2 r ⟨o + j.val, by omega⟩) := by
  pointwise [head]

/-- A column of the 128. -/
theorem pair_at (v : FVec Ideal S256x1536 .f32) (o : ℕ) (h : S256x1536.Slices ![0, o] S256x128) (ho : o + 128 ≤ 1536) (r : Fin 256) (j : Fin 128) :
    pair v o h (ix2 r j) = v (ix2 r ⟨o + j.val, by omega⟩) := by
  pointwise [pair]

variable (rc rlo rhi kr : FVec Ideal S256x128 .f32) (g : FVec Ideal S1x128 .f32)

/-- The stores of the queries. -/
theorem q_stores (ql : FVec Ideal S256x384 .f32) (qg : FVec Ideal S1x384 .f32) (qs qd : FVec Ideal S256x1 .f32)
    (qw : FVec Ideal S384x1024 .bf16) :
    k0_pay50 rc rlo rhi (k0_pay48 (k0_pay16 ql qg qs qd qw)) (k0_pay49 g) = headTurn (headNorm (head (k0_pay16 ql qg qs qd qw) 896 slices_S256x1024_o0_896_S256x128) g) rc rlo rhi
    ∧ k0_pay46 rc rlo rhi (k0_pay45 (k0_pay16 ql qg qs qd qw) g) = headTurn (headNorm (head (k0_pay16 ql qg qs qd qw) 768 slices_S256x1024_o0_768_S256x128) g) rc rlo rhi
    ∧ k0_pay43 rlo rhi (k0_pay41 (k0_pay16 ql qg qs qd qw) g) (k0_pay42 rc (k0_pay16 ql qg qs qd qw) g) = headTurn (headNorm (head (k0_pay16 ql qg qs qd qw) 640 slices_S256x1024_o0_640_S256x128) g) rc rlo rhi
    ∧ k0_pay39 rlo rhi (k0_pay37 (k0_pay16 ql qg qs qd qw) g) (k0_pay38 rc (k0_pay16 ql qg qs qd qw) g) 120#32 = headTurn (headNorm (head (k0_pay16 ql qg qs qd qw) 512 slices_S256x1024_o0_512_S256x128) g) rc rlo rhi
    ∧ k0_pay35 rlo rhi (k0_pay32 (k0_pay16 ql qg qs qd qw) g) (k0_pay33 rc (k0_pay16 ql qg qs qd qw) g) (k0_pay34 (k0_pay16 ql qg qs qd qw) g) = headTurn (headNorm (head (k0_pay16 ql qg qs qd qw) 384 slices_S256x1024_o0_384_S256x128) g) rc rlo rhi
    ∧ k0_pay30 rhi (k0_pay27 (k0_pay16 ql qg qs qd qw) g) (k0_pay28 rc (k0_pay16 ql qg qs qd qw) g) (k0_pay29 rlo (k0_pay16 ql qg qs qd qw) g) = headTurn (headNorm (head (k0_pay16 ql qg qs qd qw) 256 slices_S256x1024_o0_256_S256x128) g) rc rlo rhi
    ∧ k0_pay25 rhi (k0_pay23 (k0_pay16 ql qg qs qd qw) g) (k0_pay24 rc rlo (k0_pay16 ql qg qs qd qw) g) = headTurn (headNorm (head (k0_pay16 ql qg qs qd qw) 128 slices_S256x1024_o0_128_S256x128) g) rc rlo rhi
    ∧ k0_pay21 rhi (k0_pay19 ql qg qs qd qw g) (k0_pay20 rc rlo ql qg qs qd qw g) 8#32 = headTurn (headNorm (head (k0_pay16 ql qg qs qd qw) 0 slices_S256x1024_o0_0_S256x128) g) rc rlo rhi :=
  ⟨rfl, rfl, rfl, rfl, rfl, rfl, rfl, rfl⟩

/-- The stores of the keys. -/
theorem k_stores (v : FVec Ideal S256x1024 .f32) :
    k0_pay51 rc rlo rhi kr v g = headTurn (headNorm (addf (head v 896 slices_S256x1024_o0_896_S256x128) kr) g) rc rlo rhi
    ∧ k0_pay47 rc rlo rhi kr v g = headTurn (headNorm (addf (head v 768 slices_S256x1024_o0_768_S256x128) kr) g) rc rlo rhi
    ∧ k0_pay44 rc rlo rhi kr v g = headTurn (headNorm (addf (head v 640 slices_S256x1024_o0_640_S256x128) kr) g) rc rlo rhi
    ∧ k0_pay40 rc rlo rhi kr v g = headTurn (headNorm (addf (head v 512 slices_S256x1024_o0_512_S256x128) kr) g) rc rlo rhi
    ∧ k0_pay36 rc rlo rhi kr v g = headTurn (headNorm (addf (head v 384 slices_S256x1024_o0_384_S256x128) kr) g) rc rlo rhi
    ∧ k0_pay31 rc rlo rhi kr v g = headTurn (headNorm (addf (head v 256 slices_S256x1024_o0_256_S256x128) kr) g) rc rlo rhi
    ∧ k0_pay26 rc rlo rhi kr v g = headTurn (headNorm (addf (head v 128 slices_S256x1024_o0_128_S256x128) kr) g) rc rlo rhi
    ∧ k0_pay22 rc rlo rhi kr v g = headTurn (headNorm (addf (head v 0 slices_S256x1024_o0_0_S256x128) kr) g) rc rlo rhi :=
  ⟨rfl, rfl, rfl, rfl, rfl, rfl, rfl, rfl⟩

/-- The stores of the neighbourhood attention's queries. -/
theorem nq_stores (v : FVec Ideal S256x1536 .f32) :
    k0_pay79 v g = truncf .bf16 (pairNorm (pair v 384 slices_S256x1536_o0_384_S256x128) g) bitsLt_bf16_f32
    ∧ k0_pay72 g (k0_pay68 v) k0_pay69 (k0_pay70 v) (k0_pay71 v) = truncf .bf16 (pairNorm (pair v 256 slices_S256x1536_o0_256_S256x128) g) bitsLt_bf16_f32
    ∧ k0_pay66 (k0_pay64 v) (k0_pay65 g) = truncf .bf16 (pairNorm (pair v 128 slices_S256x1536_o0_128_S256x128) g) bitsLt_bf16_f32
    ∧ k0_pay56 g (k0_pay52 v) k0_pay53 (k0_pay54 v) (k0_pay55 (F := Ideal)) = truncf .bf16 (pairNorm (pair v 0 slices_S256x1536_o0_0_S256x128) g) bitsLt_bf16_f32 :=
  ⟨rfl, rfl, rfl, rfl⟩

/-- The stores of the neighbourhood attention's keys. -/
theorem nk_stores (v : FVec Ideal S256x1536 .f32) :
    k0_pay80 v g = pairNorm (pair v 896 slices_S256x1536_o0_896_S256x128) g
    ∧ k0_pay78 g (k0_pay73 v) k0_pay74 (k0_pay76 v) (k0_pay77 v) (Scalar.ofBits .f32 0x358637BD#32) = pairNorm (pair v 768 slices_S256x1536_o0_768_S256x128) g
    ∧ k0_pay67 v g = pairNorm (pair v 640 slices_S256x1536_o0_640_S256x128) g
    ∧ k0_pay63 g (k0_pay57 v) k0_pay58 (k0_pay60 v) (k0_pay61 v) (k0_pay62 (F := Ideal)) = pairNorm (pair v 512 slices_S256x1536_o0_512_S256x128) g :=
  ⟨rfl, rfl, rfl, rfl⟩

end Cert.Kernel5Ideal.AttnIn

end
-- ==== Proof.AttnIn.Tiles.lean ====
/-
  The input of the attention block (program `Kernel5`), the four arrays that a grid point stores head by head: queries,
  keys, and the neighbourhood attention's queries and keys.
-/
module

public import proofs.«01_k».proof.Proof.AttnIn.Value
public import proofs.«01_k».proof.Proof.AttnIn.Pieces

@[expose] public section

set_option maxRecDepth 16384

noncomputable section

namespace Cert.Kernel5Ideal.AttnIn

open Cert.Kernel5Ideal Cert.Kernel5Ideal.Gen Idealize.ShloMosaic Idealize.ShloMosaic.TcCoe Idealize.SL.Sem
open Idealize.ShloMosaic.Pipeline (Dat)
open Cert.Reference5Ideal.Read

variable (m : (ℓ : Loc nD τ sig) → Buf (Elt Ideal) ℓ)

/-- A block's queries of all heads, before their normalisation. -/
abbrev qUp (c : Dev nD) (t : Fin cfg0.N) : FVec Ideal S256x1024 .f32 :=
  k0_pay16 (k0_pay10 (k0_pay6 (iblk m c 3 t)) (k0_pay7 (iblk m c 0 t) (iblk m c 1 t)) (k0_pay8 (iblk m c 2 t)) (arg4 m c)) (arg8 m c)
    (k0_pay14 (k0_pay6 (iblk m c 3 t)) (k0_pay7 (iblk m c 0 t) (iblk m c 1 t)) (k0_pay8 (iblk m c 2 t)) (arg4 m c)) k0_pay15 (arg10 m c)

/-- A block's keys of all heads, without the shared part. -/
abbrev kUp (c : Dev nD) (t : Fin cfg0.N) : FVec Ideal S256x1024 .f32 :=
  k0_pay17 (k0_pay13 (k0_pay6 (iblk m c 3 t)) (k0_pay7 (iblk m c 0 t) (iblk m c 1 t)) (k0_pay8 (iblk m c 2 t)) (arg5 m c) (arg9 m c)) (arg11 m c)

/-- A block's shared part of the keys. -/
abbrev kShared (c : Dev nD) (t : Fin cfg0.N) : FVec Ideal S256x128 .f32 :=
  k0_pay11 (k0_pay6 (iblk m c 3 t)) (k0_pay7 (iblk m c 0 t) (iblk m c 1 t)) (k0_pay8 (iblk m c 2 t)) (arg6 m c)

/-- A block's neighbourhood queries, keys and values. -/
abbrev naUp (c : Dev nD) (t : Fin cfg0.N) : FVec Ideal S256x1536 .f32 :=
  k0_pay12 (k0_pay6 (iblk m c 3 t)) (k0_pay7 (iblk m c 0 t) (iblk m c 1 t)) (k0_pay8 (iblk m c 2 t)) (arg7 m c)

/-- A block's neighbourhood keys, two heads. -/
theorem nk_tile (c : Dev nD) (t : Fin cfg0.N) (p : Fin 4) (u : FVec Ideal S256x128 .f32)
    (hu : ∀ r j, u (ix2 r j) = naUp m c t (ix2 r ⟨512 + (p.val * 128 + j.val), by omega⟩))
    (x : S256x128.Idx) (i : S12288x512.Idx) (h0 : (i 0 : ℕ) = t.val * 256 + x 0) (h1 : (i 1 : ℕ) = p.val * 128 + x 1) :
    pairNorm u (arg16 m c) x = val_main_v173 (F := Ideal) (arg0 m c) (arg1 m c) (arg2 m c) (arg3 m c) (arg7 m c) (arg16 m c) i := by
  obtain ⟨r, j, rfl⟩ : ∃ r j, x = ix2 r j := ⟨x 0, x 1, by blk_ext⟩
  have h0 : (i 0 : ℕ) = t.val * 256 + r.val := h0
  have e : i = ix2 (tok (lt48 t) r) ⟨p.val * 128 + j.val, by clear h0 h1; omega⟩ := by
    have h1 : (i 1 : ℕ) = p.val * 128 + j.val := h1
    blk_ext
  rw [e]
  exact nk_at (lt48 t) p u (arg0 m c) (arg1 m c) (arg2 m c) (arg3 m c) (arg7 m c) (arg16 m c) (fun r j => (hu r j).trans (na_at (lt48 t) _ _ _ (arg0 m c) (arg1 m c) (arg2 m c) (arg3 m c) (hidden_at m c t) (arg7 m c) r _)) r j

/-- A block's neighbourhood queries, two heads. -/
theorem nq_tile (c : Dev nD) (t : Fin cfg0.N) (p : Fin 4) (u : FVec Ideal S256x128 .f32)
    (hu : ∀ r j, u (ix2 r j) = naUp m c t (ix2 r ⟨p.val * 128 + j.val, by omega⟩))
    (x : S256x128.Idx) (i : S12288x512.Idx) (h0 : (i 0 : ℕ) = t.val * 256 + x 0) (h1 : (i 1 : ℕ) = p.val * 128 + x 1) :
    truncf .bf16 (pairNorm u (arg15 m c)) bitsLt_bf16_f32 x = val_main_v180 (F := Ideal) (arg0 m c) (arg1 m c) (arg2 m c) (arg3 m c) (arg7 m c) (arg15 m c) i := by
  obtain ⟨r, j, rfl⟩ : ∃ r j, x = ix2 r j := ⟨x 0, x 1, by blk_ext⟩
  have h0 : (i 0 : ℕ) = t.val * 256 + r.val := h0
  have e : i = ix2 (tok (lt48 t) r) ⟨p.val * 128 + j.val, by clear h0 h1; omega⟩ := by
    have h1 : (i 1 : ℕ) = p.val * 128 + j.val := h1
    blk_ext
  rw [e]
  exact nq_at (lt48 t) p u (arg0 m c) (arg1 m c) (arg2 m c) (arg3 m c) (arg7 m c) (arg15 m c) (fun r j => (hu r j).trans (na_at (lt48 t) _ _ _ (arg0 m c) (arg1 m c) (arg2 m c) (arg3 m c) (hidden_at m c t) (arg7 m c) r _)) r j

/-- A block's queries, one head. -/
theorem q_tile (c : Dev nD) (t : Fin cfg0.N) (hd : Fin 8) (u : FVec Ideal S256x128 .f32)
    (hu : ∀ r j, u (ix2 r j) = qUp m c t (ix2 r ⟨hd.val * 128 + j.val, by omega⟩))
    (x : S256x128.Idx) (i : S12288x1024.Idx) (h0 : (i 0 : ℕ) = t.val * 256 + x 0) (h1 : (i 1 : ℕ) = hd.val * 128 + x 1) :
    headTurn (headNorm u (arg13 m c)) (k0_pay3 (grid0.coords t) (iblk m c 17 t)) (k0_pay4 (grid0.coords t) (iblk m c 18 t))
        (k0_pay5 (grid0.coords t) (iblk m c 19 t)) x = val_main_v177 (F := Ideal) (arg0 m c) (arg1 m c) (arg2 m c) (arg3 m c) (arg4 m c) (arg8 m c) (arg10 m c) (arg13 m c) (arg17 m c) (arg18 m c) (arg19 m c) i := by
  obtain ⟨r, j, rfl⟩ : ∃ r j, x = ix2 r j := ⟨x 0, x 1, by blk_ext⟩
  have h0 : (i 0 : ℕ) = t.val * 256 + r.val := h0
  have e : i = ix2 (tok (lt48 t) r) ⟨hd.val * 128 + j.val, by clear h0 h1; omega⟩ := by
    have h1 : (i 1 : ℕ) = hd.val * 128 + j.val := h1
    blk_ext
  rw [e]
  have := q_piece m c t hd u (fun r j => (hu r j).trans (qup_at (lt48 t) _ _ _ (arg0 m c) (arg1 m c) (arg2 m c) (arg3 m c) (hidden_at m c t) (arg4 m c) (arg8 m c) (arg10 m c) r _)) r j
  rw [(weights m c t).2.2.2.2.2.2.2.2.2.1] at this
  exact this

/-- A block's keys, one head. -/
theorem k_tile (c : Dev nD) (t : Fin cfg0.N) (hd : Fin 8) (u : FVec Ideal S256x128 .f32)
    (hu : ∀ r j, u (ix2 r j) = kUp m c t (ix2 r ⟨hd.val * 128 + j.val, by omega⟩))
    (x : S256x128.Idx) (i : S12288x1024.Idx) (h0 : (i 0 : ℕ) = t.val * 256 + x 0) (h1 : (i 1 : ℕ) = hd.val * 128 + x 1) :
    headTurn (headNorm (addf u (kShared m c t)) (arg14 m c)) (k0_pay3 (grid0.coords t) (iblk m c 17 t)) (k0_pay4 (grid0.coords t) (iblk m c 18 t))
        (k0_pay5 (grid0.coords t) (iblk m c 19 t)) x = val_main_v178 (F := Ideal) (arg0 m c) (arg1 m c) (arg2 m c) (arg3 m c) (arg5 m c) (arg6 m c) (arg9 m c) (arg11 m c) (arg14 m c) (arg17 m c) (arg18 m c) (arg19 m c) i := by
  obtain ⟨r, j, rfl⟩ : ∃ r j, x = ix2 r j := ⟨x 0, x 1, by blk_ext⟩
  have h0 : (i 0 : ℕ) = t.val * 256 + r.val := h0
  have e : i = ix2 (tok (lt48 t) r) ⟨hd.val * 128 + j.val, by clear h0 h1; omega⟩ := by
    have h1 : (i 1 : ℕ) = hd.val * 128 + j.val := h1
    blk_ext
  rw [e]
  have := k_piece m c t hd (addf u (kShared m c t)) (fun r j => congrArg₂ (· + ·) ((hu r j).trans (kup_at (lt48 t) _ _ _ (arg0 m c) (arg1 m c) (arg2 m c) (arg3 m c) (hidden_at m c t) (arg5 m c) (arg9 m c) (arg11 m c) r _)) (krope_at (lt48 t) _ _ _ (arg0 m c) (arg1 m c) (arg2 m c) (arg3 m c) (hidden_at m c t) (arg6 m c) r j)) r j
  rw [(weights m c t).2.2.2.2.2.2.2.2.2.2.1] at this
  exact this

/-- The neighbourhood attention's keys. -/
theorem final24 (c : Dev nD) : (dats m 0 c).arrAt 24 cfg0.N
    = val_main_v173 (F := Ideal) (arg0 m c) (arg1 m c) (arg2 m c) (arg3 m c) (arg7 m c) (arg16 m c) := by
  refine (dats m 0 c).arrAt_eq_of_covers 24 _ (by decide +kernel) fun t _ y => ?_
  obtain ⟨h4, h5, h6, h7, h8, h9, h10, h11, h12, h13, h14, h15, h16⟩ := weights m c t
  blk_simp
  rw [after0_24]
  unfold out0_24 k0_pay89 k0_pay84 k0_pay85 k0_pay86
  rw [h7, h16]
  clear h4 h5 h6 h7 h8 h9 h10 h11 h12 h13 h14 h15 h16
  canon_tiles x h
  case piece0 =>
    frame_out
    refine (congrFun (nk_stores _ _).1 x).trans ?_
    exact nk_tile m c t 3 _ (fun r j => (pair_at _ _ _ (by decide) r j).trans (by blk_ext)) x _ (by blk_simp [idx_out t]; omega) (by blk_simp [idx_out t]; omega)
  case piece1 =>
    frame_out
    refine (congrFun (nk_stores _ _).2.1 x).trans ?_
    exact nk_tile m c t 2 _ (fun r j => (pair_at _ _ _ (by decide) r j).trans (by blk_ext)) x _ (by blk_simp [idx_out t]; omega) (by blk_simp [idx_out t]; omega)
  case piece2 =>
    frame_out
    refine (congrFun (nk_stores _ _).2.2.1 x).trans ?_
    exact nk_tile m c t 1 _ (fun r j => (pair_at _ _ _ (by decide) r j).trans (by blk_ext)) x _ (by blk_simp [idx_out t]; omega) (by blk_simp [idx_out t]; omega)
  case piece3 =>
    frame_out
    refine (congrFun (nk_stores _ _).2.2.2 x).trans ?_
    exact nk_tile m c t 0 _ (fun r j => (pair_at _ _ _ (by decide) r j).trans (by blk_ext)) x _ (by blk_simp [idx_out t]; omega) (by blk_simp [idx_out t]; omega)

/-- The neighbourhood attention's queries. -/
theorem final23 (c : Dev nD) : (dats m 0 c).arrAt 23 cfg0.N
    = val_main_v180 (F := Ideal) (arg0 m c) (arg1 m c) (arg2 m c) (arg3 m c) (arg7 m c) (arg15 m c) := by
  refine (dats m 0 c).arrAt_eq_of_covers 23 _ (by decide +kernel) fun t _ y => ?_
  obtain ⟨h4, h5, h6, h7, h8, h9, h10, h11, h12, h13, h14, h15, h16⟩ := weights m c t
  blk_simp
  rw [after0_23]
  unfold out0_23 k0_pay89 k0_pay84 k0_pay85 k0_pay86
  rw [h7, h15]
  clear h4 h5 h6 h7 h8 h9 h10 h11 h12 h13 h14 h15 h16
  canon_tiles x h
  case piece0 =>
    frame_out
    refine (congrFun (nq_stores _ _).1 x).trans ?_
    exact nq_tile m c t 3 _ (fun r j => (pair_at _ _ _ (by decide) r j).trans (by blk_ext)) x _ (by blk_simp [idx_out t]; omega) (by blk_simp [idx_out t]; omega)
  case piece1 =>
    frame_out
    refine (congrFun (nq_stores _ _).2.1 x).trans ?_
    exact nq_tile m c t 2 _ (fun r j => (pair_at _ _ _ (by decide) r j).trans (by blk_ext)) x _ (by blk_simp [idx_out t]; omega) (by blk_simp [idx_out t]; omega)
  case piece2 =>
    frame_out
    refine (congrFun (nq_stores _ _).2.2.1 x).trans ?_
    exact nq_tile m c t 1 _ (fun r j => (pair_at _ _ _ (by decide) r j).trans (by blk_ext)) x _ (by blk_simp [idx_out t]; omega) (by blk_simp [idx_out t]; omega)
  case piece3 =>
    frame_out
    refine (congrFun (nq_stores _ _).2.2.2 x).trans ?_
    exact nq_tile m c t 0 _ (fun r j => (pair_at _ _ _ (by decide) r j).trans (by blk_ext)) x _ (by blk_simp [idx_out t]; omega) (by blk_simp [idx_out t]; omega)

/-- The queries. -/
theorem final20 (c : Dev nD) : (dats m 0 c).arrAt 20 cfg0.N
    = val_main_v177 (F := Ideal) (arg0 m c) (arg1 m c) (arg2 m c) (arg3 m c) (arg4 m c) (arg8 m c) (arg10 m c) (arg13 m c) (arg17 m c) (arg18 m c) (arg19 m c) := by
  refine (dats m 0 c).arrAt_eq_of_covers 20 _ (by decide +kernel) fun t _ y => ?_
  obtain ⟨h4, h5, h6, h7, h8, h9, h10, h11, h12, h13, h14, h15, h16⟩ := weights m c t
  blk_simp
  rw [after0_20]
  unfold out0_20 k0_pay93 k0_pay92 k0_pay91 k0_pay87 k0_pay81 k0_pay82 k0_pay83 k0_pay84 k0_pay85 k0_pay86
  rw [h4, h8, h10, h13]
  clear h4 h5 h6 h7 h8 h9 h10 h11 h12 h13 h14 h15 h16
  canon_tiles x h
  case piece0 =>
    frame_out
    refine (congrFun (q_stores _ _ _ _ _ _ _ _ _).1 x).trans ?_
    exact q_tile m c t 7 _ (fun r j => (head_at _ _ _ (by decide) r j).trans (by blk_ext)) x _ (by blk_simp [idx_out t]; omega) (by blk_simp [idx_out t]; omega)
  case piece1 =>
    frame_out
    refine (congrFun (q_stores _ _ _ _ _ _ _ _ _).2.1 x).trans ?_
    exact q_tile m c t 6 _ (fun r j => (head_at _ _ _ (by decide) r j).trans (by blk_ext)) x _ (by blk_simp [idx_out t]; omega) (by blk_simp [idx_out t]; omega)
  case piece2 =>
    frame_out
    refine (congrFun (q_stores _ _ _ _ _ _ _ _ _).2.2.1 x).trans ?_
    exact q_tile m c t 5 _ (fun r j => (head_at _ _ _ (by decide) r j).trans (by blk_ext)) x _ (by blk_simp [idx_out t]; omega) (by blk_simp [idx_out t]; omega)
  case piece3 =>
    frame_out
    refine (congrFun (q_stores _ _ _ _ _ _ _ _ _).2.2.2.1 x).trans ?_
    exact q_tile m c t 4 _ (fun r j => (head_at _ _ _ (by decide) r j).trans (by blk_ext)) x _ (by blk_simp [idx_out t]; omega) (by blk_simp [idx_out t]; omega)
  case piece4 =>
    frame_out
    refine (congrFun (q_stores _ _ _ _ _ _ _ _ _).2.2.2.2.1 x).trans ?_
    exact q_tile m c t 3 _ (fun r j => (head_at _ _ _ (by decide) r j).trans (by blk_ext)) x _ (by blk_simp [idx_out t]; omega) (by blk_simp [idx_out t]; omega)
  case piece5 =>
    frame_out
    refine (congrFun (q_stores _ _ _ _ _ _ _ _ _).2.2.2.2.2.1 x).trans ?_
    exact q_tile m c t 2 _ (fun r j => (head_at _ _ _ (by decide) r j).trans (by blk_ext)) x _ (by blk_simp [idx_out t]; omega) (by blk_simp [idx_out t]; omega)
  case piece6 =>
    frame_out
    refine (congrFun (q_stores _ _ _ _ _ _ _ _ _).2.2.2.2.2.2.1 x).trans ?_
    exact q_tile m c t 1 _ (fun r j => (head_at _ _ _ (by decide) r j).trans (by blk_ext)) x _ (by blk_simp [idx_out t]; omega) (by blk_simp [idx_out t]; omega)
  case piece7 =>
    frame_out
    refine (congrFun (q_stores _ _ _ _ _ _ _ _ _).2.2.2.2.2.2.2 x).trans ?_
    exact q_tile m c t 0 _ (fun r j => (head_at _ _ _ (by decide) r j).trans (by blk_ext)) x _ (by blk_simp [idx_out t]; omega) (by blk_simp [idx_out t]; omega)

/-- The keys. -/
theorem final21 (c : Dev nD) : (dats m 0 c).arrAt 21 cfg0.N
    = val_main_v178 (F := Ideal) (arg0 m c) (arg1 m c) (arg2 m c) (arg3 m c) (arg5 m c) (arg6 m c) (arg9 m c) (arg11 m c) (arg14 m c) (arg17 m c) (arg18 m c) (arg19 m c) := by
  refine (dats m 0 c).arrAt_eq_of_covers 21 _ (by decide +kernel) fun t _ y => ?_
  obtain ⟨h4, h5, h6, h7, h8, h9, h10, h11, h12, h13, h14, h15, h16⟩ := weights m c t
  blk_simp
  rw [after0_21]
  unfold out0_21 k0_pay94 k0_pay90 k0_pay88 k0_pay81 k0_pay82 k0_pay83 k0_pay84 k0_pay85 k0_pay86
  rw [h5, h6, h9, h11, h14]
  clear h4 h5 h6 h7 h8 h9 h10 h11 h12 h13 h14 h15 h16
  canon_tiles x h
  case piece0 =>
    frame_out
    refine (congrFun (k_stores _ _ _ _ _ _).1 x).trans ?_
    exact k_tile m c t 7 _ (fun r j => (head_at _ _ _ (by decide) r j).trans (by blk_ext)) x _ (by blk_simp [idx_out t]; omega) (by blk_simp [idx_out t]; omega)
  case piece1 =>
    frame_out
    refine (congrFun (k_stores _ _ _ _ _ _).2.1 x).trans ?_
    exact k_tile m c t 6 _ (fun r j => (head_at _ _ _ (by decide) r j).trans (by blk_ext)) x _ (by blk_simp [idx_out t]; omega) (by blk_simp [idx_out t]; omega)
  case piece2 =>
    frame_out
    refine (congrFun (k_stores _ _ _ _ _ _).2.2.1 x).trans ?_
    exact k_tile m c t 5 _ (fun r j => (head_at _ _ _ (by decide) r j).trans (by blk_ext)) x _ (by blk_simp [idx_out t]; omega) (by blk_simp [idx_out t]; omega)
  case piece3 =>
    frame_out
    refine (congrFun (k_stores _ _ _ _ _ _).2.2.2.1 x).trans ?_
    exact k_tile m c t 4 _ (fun r j => (head_at _ _ _ (by decide) r j).trans (by blk_ext)) x _ (by blk_simp [idx_out t]; omega) (by blk_simp [idx_out t]; omega)
  case piece4 =>
    frame_out
    refine (congrFun (k_stores _ _ _ _ _ _).2.2.2.2.1 x).trans ?_
    exact k_tile m c t 3 _ (fun r j => (head_at _ _ _ (by decide) r j).trans (by blk_ext)) x _ (by blk_simp [idx_out t]; omega) (by blk_simp [idx_out t]; omega)
  case piece5 =>
    frame_out
    refine (congrFun (k_stores _ _ _ _ _ _).2.2.2.2.2.1 x).trans ?_
    exact k_tile m c t 2 _ (fun r j => (head_at _ _ _ (by decide) r j).trans (by blk_ext)) x _ (by blk_simp [idx_out t]; omega) (by blk_simp [idx_out t]; omega)
  case piece6 =>
    frame_out
    refine (congrFun (k_stores _ _ _ _ _ _).2.2.2.2.2.2.1 x).trans ?_
    exact k_tile m c t 1 _ (fun r j => (head_at _ _ _ (by decide) r j).trans (by blk_ext)) x _ (by blk_simp [idx_out t]; omega) (by blk_simp [idx_out t]; omega)
  case piece7 =>
    frame_out
    refine (congrFun (k_stores _ _ _ _ _ _).2.2.2.2.2.2.2 x).trans ?_
    exact k_tile m c t 0 _ (fun r j => (head_at _ _ _ (by decide) r j).trans (by blk_ext)) x _ (by blk_simp [idx_out t]; omega) (by blk_simp [idx_out t]; omega)

end Cert.Kernel5Ideal.AttnIn

end
-- ==== Proof.AttnIn.Claims.lean ====
/-
  The claims about the attention block's input (program `Kernel5`): the frames, and the equality of the two runs' eight
  results.
-/
module

public import proofs.«01_k».proof.Defs
public import proofs.«01_k».proof.Proof.AttnIn.FrameBits
public import proofs.«01_k».proof.Proof.AttnIn.Tiles
public import Idealize.ShloMosaic.Lib.Quiescent

@[expose] public section

set_option maxRecDepth 16384

noncomputable section

namespace Cert.Proof.AttnIn

open Idealize.ShloMosaic Idealize.ShloMosaic.TcCoe Idealize.SL.Sem

/-- THE FRAMES. -/
theorem frame_kernel : quiescent_Kernel5 := fun m g _ => Cert.Kernel5.Gen.frame m g

theorem frame_kernelIdeal : quiescent_Kernel5Ideal := fun m g _ => Cert.Kernel5Ideal.Gen.frame m g

theorem frame_reference : quiescent_Reference5Ideal := fun m g _ =>
  (θ_run _ _ _).mono (fun r h => ⟨fun c => (h c).2.2.2.2.2.2.2.2, sem_eq_zero_of_no_sems rfl _⟩) (Cert.Reference5Ideal.Value.run m g)

section kernel
open Cert.Kernel5Ideal Cert.Kernel5Ideal.Gen Cert.Kernel5Ideal.AttnIn Cert.Reference5Ideal.Read

set_option maxHeartbeats 1600000 in
/-- The eight arrays that a run of the call leaves, beside its arguments. -/
theorem blocks (m : (ℓ : Loc nD τ sig) → Buf (Elt Ideal) ℓ) (g : Dev nD → PrngReg) :
    θ_run defs (onTc (τ := τ) (main (F := Ideal))) ⟨m, fun _ => 0, g⟩ (fun r => ∀ c : Dev nD,
      r.2.mem ((c : Thread nD τ).loc main_v0_0) = (dats m 0 c).arrAt 20 cfg0.N
      ∧ r.2.mem ((c : Thread nD τ).loc main_v0_1) = (dats m 0 c).arrAt 21 cfg0.N
      ∧ r.2.mem ((c : Thread nD τ).loc main_v0_2) = (dats m 0 c).arrAt 22 cfg0.N
      ∧ r.2.mem ((c : Thread nD τ).loc main_v0_3) = (dats m 0 c).arrAt 23 cfg0.N
      ∧ r.2.mem ((c : Thread nD τ).loc main_v0_4) = (dats m 0 c).arrAt 24 cfg0.N
      ∧ r.2.mem ((c : Thread nD τ).loc main_v0_5) = (dats m 0 c).arrAt 25 cfg0.N
      ∧ r.2.mem ((c : Thread nD τ).loc main_v0_6) = (dats m 0 c).arrAt 26 cfg0.N
      ∧ r.2.mem ((c : Thread nD τ).loc main_v0_7) = (dats m 0 c).arrAt 27 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)) :=
  (θ_run defs _ _).mono (fun r h c => ⟨(h c).1 20, (h c).1 21, (h c).1 22, (h c).1 23, (h c).1 24, (h c).1 25, (h c).1 26, (h c).1 27,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c))),
    ((h c).1 6).trans (((dats m 0 c).arrAt_in 6 rfl _).trans ((A_eq m c 6).trans (V_main_arg6 m c))),
    ((h c).1 7).trans (((dats m 0 c).arrAt_in 7 rfl _).trans ((A_eq m c 7).trans (V_main_arg7 m c))),
    ((h c).1 8).trans (((dats m 0 c).arrAt_in 8 rfl _).trans ((A_eq m c 8).trans (V_main_arg8 m c))),
    ((h c).1 9).trans (((dats m 0 c).arrAt_in 9 rfl _).trans ((A_eq m c 9).trans (V_main_arg9 m c))),
    ((h c).1 10).trans (((dats m 0 c).arrAt_in 10 rfl _).trans ((A_eq m c 10).trans (V_main_arg10 m c))),
    ((h c).1 11).trans (((dats m 0 c).arrAt_in 11 rfl _).trans ((A_eq m c 11).trans (V_main_arg11 m c))),
    ((h c).1 12).trans (((dats m 0 c).arrAt_in 12 rfl _).trans ((A_eq m c 12).trans (V_main_arg12 m c))),
    ((h c).1 13).trans (((dats m 0 c).arrAt_in 13 rfl _).trans ((A_eq m c 13).trans (V_main_arg13 m c))),
    ((h c).1 14).trans (((dats m 0 c).arrAt_in 14 rfl _).trans ((A_eq m c 14).trans (V_main_arg14 m c))),
    ((h c).1 15).trans (((dats m 0 c).arrAt_in 15 rfl _).trans ((A_eq m c 15).trans (V_main_arg15 m c))),
    ((h c).1 16).trans (((dats m 0 c).arrAt_in 16 rfl _).trans ((A_eq m c 16).trans (V_main_arg16 m c))),
    ((h c).1 17).trans (((dats m 0 c).arrAt_in 17 rfl _).trans ((A_eq m c 17).trans (V_main_arg17 m c))),
    ((h c).1 18).trans (((dats m 0 c).arrAt_in 18 rfl _).trans ((A_eq m c 18).trans (V_main_arg18 m c))),
    ((h c).1 19).trans (((dats m 0 c).arrAt_in 19 rfl _).trans ((A_eq m c 19).trans (V_main_arg19 m c)))⟩) (run_main m g)

set_option maxHeartbeats 1600000 in
/-- The two runs end with equal results. -/
theorem equal : algebraic_Kernel5Ideal_Reference5Ideal := fun m g m' g' _ hag => by
  refine ⟨fun c => (dats m 0 c).arrAt 20 cfg0.N, fun c => (dats m 0 c).arrAt 21 cfg0.N, fun c => (dats m 0 c).arrAt 22 cfg0.N, fun c => (dats m 0 c).arrAt 23 cfg0.N, fun c => (dats m 0 c).arrAt 24 cfg0.N, fun c => (dats m 0 c).arrAt 25 cfg0.N, fun c => (dats m 0 c).arrAt 26 cfg0.N, fun c => (dats m 0 c).arrAt 27 cfg0.N, blocks m g, ?_⟩
  refine (θ_run _ _ _).mono (fun r hp c => ?_) (Cert.Reference5Ideal.Value.run m' g')
  obtain ⟨e0, e1, e2, e3, e4, e5, e6, e7, kept⟩ := hp c
  obtain ⟨h0, h1, h2, h3, h4, h5, h6, h7, h8, h9, h10, h11, h12, h13, h14, h15, h16, h17, h18, h19⟩ := hag c
  refine ⟨(e0.trans (val_main_v177_eq (StableHlo.launchContents m' c))).trans ?_, (e1.trans (val_main_v178_eq (StableHlo.launchContents m' c))).trans ?_, (e2.trans (val_main_v179_eq (StableHlo.launchContents m' c))).trans ?_, (e3.trans (val_main_v180_eq (StableHlo.launchContents m' c))).trans ?_, (e4.trans (val_main_v173_eq (StableHlo.launchContents m' c))).trans ?_, (e5.trans (val_main_v176_eq (StableHlo.launchContents m' c))).trans ?_, (e6.trans (val_main_v45_eq (StableHlo.launchContents m' c))).trans ?_, (e7.trans (val_main_v47_eq (StableHlo.launchContents m' c))).trans ?_, kept⟩
  · refine Eq.trans ?_ (final20 m c).symm
    show val_main_v177 (F := Ideal) (m' ((c : Thread Cert.Reference5Ideal.nD Cert.Reference5Ideal.τ).loc Cert.Reference5Ideal.main_arg0)) (m' ((c : Thread Cert.Reference5Ideal.nD Cert.Reference5Ideal.τ).loc Cert.Reference5Ideal.main_arg1)) (m' ((c : Thread Cert.Reference5Ideal.nD Cert.Reference5Ideal.τ).loc Cert.Reference5Ideal.main_arg2)) (m' ((c : Thread Cert.Reference5Ideal.nD Cert.Reference5Ideal.τ).loc Cert.Reference5Ideal.main_arg3)) (m' ((c : Thread Cert.Reference5Ideal.nD Cert.Reference5Ideal.τ).loc Cert.Reference5Ideal.main_arg4)) (m' ((c : Thread Cert.Reference5Ideal.nD Cert.Reference5Ideal.τ).loc Cert.Reference5Ideal.main_arg8)) (m' ((c : Thread Cert.Reference5Ideal.nD Cert.Reference5Ideal.τ).loc Cert.Reference5Ideal.main_arg10)) (m' ((c : Thread Cert.Reference5Ideal.nD Cert.Reference5Ideal.τ).loc Cert.Reference5Ideal.main_arg13)) (m' ((c : Thread Cert.Reference5Ideal.nD Cert.Reference5Ideal.τ).loc Cert.Reference5Ideal.main_arg17)) (m' ((c : Thread Cert.Reference5Ideal.nD Cert.Reference5Ideal.τ).loc Cert.Reference5Ideal.main_arg18)) (m' ((c : Thread Cert.Reference5Ideal.nD Cert.Reference5Ideal.τ).loc Cert.Reference5Ideal.main_arg19)) = _
    rw [h0, h1, h2, h3, h4, h8, h10, h13, h17, h18, h19]
  · refine Eq.trans ?_ (final21 m c).symm
    show val_main_v178 (F := Ideal) (m' ((c : Thread Cert.Reference5Ideal.nD Cert.Reference5Ideal.τ).loc Cert.Reference5Ideal.main_arg0)) (m' ((c : Thread Cert.Reference5Ideal.nD Cert.Reference5Ideal.τ).loc Cert.Reference5Ideal.main_arg1)) (m' ((c : Thread Cert.Reference5Ideal.nD Cert.Reference5Ideal.τ).loc Cert.Reference5Ideal.main_arg2)) (m' ((c : Thread Cert.Reference5Ideal.nD Cert.Reference5Ideal.τ).loc Cert.Reference5Ideal.main_arg3)) (m' ((c : Thread Cert.Reference5Ideal.nD Cert.Reference5Ideal.τ).loc Cert.Reference5Ideal.main_arg5)) (m' ((c : Thread Cert.Reference5Ideal.nD Cert.Reference5Ideal.τ).loc Cert.Reference5Ideal.main_arg6)) (m' ((c : Thread Cert.Reference5Ideal.nD Cert.Reference5Ideal.τ).loc Cert.Reference5Ideal.main_arg9)) (m' ((c : Thread Cert.Reference5Ideal.nD Cert.Reference5Ideal.τ).loc Cert.Reference5Ideal.main_arg11)) (m' ((c : Thread Cert.Reference5Ideal.nD Cert.Reference5Ideal.τ).loc Cert.Reference5Ideal.main_arg14)) (m' ((c : Thread Cert.Reference5Ideal.nD Cert.Reference5Ideal.τ).loc Cert.Reference5Ideal.main_arg17)) (m' ((c : Thread Cert.Reference5Ideal.nD Cert.Reference5Ideal.τ).loc Cert.Reference5Ideal.main_arg18)) (m' ((c : Thread Cert.Reference5Ideal.nD Cert.Reference5Ideal.τ).loc Cert.Reference5Ideal.main_arg19)) = _
    rw [h0, h1, h2, h3, h5, h6, h9, h11, h14, h17, h18, h19]
  · refine Eq.trans ?_ (final22 m c).symm
    show val_main_v179 (F := Ideal) (m' ((c : Thread Cert.Reference5Ideal.nD Cert.Reference5Ideal.τ).loc Cert.Reference5Ideal.main_arg0)) (m' ((c : Thread Cert.Reference5Ideal.nD Cert.Reference5Ideal.τ).loc Cert.Reference5Ideal.main_arg1)) (m' ((c : Thread Cert.Reference5Ideal.nD Cert.Reference5Ideal.τ).loc Cert.Reference5Ideal.main_arg2)) (m' ((c : Thread Cert.Reference5Ideal.nD Cert.Reference5Ideal.τ).loc Cert.Reference5Ideal.main_arg3)) (m' ((c : Thread Cert.Reference5Ideal.nD Cert.Reference5Ideal.τ).loc Cert.Reference5Ideal.main_arg5)) (m' ((c : Thread Cert.Reference5Ideal.nD Cert.Reference5Ideal.τ).loc Cert.Reference5Ideal.main_arg9)) (m' ((c : Thread Cert.Reference5Ideal.nD Cert.Reference5Ideal.τ).loc Cert.Reference5Ideal.main_arg12)) = _
    rw [h0, h1, h2, h3, h5, h9, h12]
  · refine Eq.trans ?_ (final23 m c).symm
    show val_main_v180 (F := Ideal) (m' ((c : Thread Cert.Reference5Ideal.nD Cert.Reference5Ideal.τ).loc Cert.Reference5Ideal.main_arg0)) (m' ((c : Thread Cert.Reference5Ideal.nD Cert.Reference5Ideal.τ).loc Cert.Reference5Ideal.main_arg1)) (m' ((c : Thread Cert.Reference5Ideal.nD Cert.Reference5Ideal.τ).loc Cert.Reference5Ideal.main_arg2)) (m' ((c : Thread Cert.Reference5Ideal.nD Cert.Reference5Ideal.τ).loc Cert.Reference5Ideal.main_arg3)) (m' ((c : Thread Cert.Reference5Ideal.nD Cert.Reference5Ideal.τ).loc Cert.Reference5Ideal.main_arg7)) (m' ((c : Thread Cert.Reference5Ideal.nD Cert.Reference5Ideal.τ).loc Cert.Reference5Ideal.main_arg15)) = _
    rw [h0, h1, h2, h3, h7, h15]
  · refine Eq.trans ?_ (final24 m c).symm
    show val_main_v173 (F := Ideal) (m' ((c : Thread Cert.Reference5Ideal.nD Cert.Reference5Ideal.τ).loc Cert.Reference5Ideal.main_arg0)) (m' ((c : Thread Cert.Reference5Ideal.nD Cert.Reference5Ideal.τ).loc Cert.Reference5Ideal.main_arg1)) (m' ((c : Thread Cert.Reference5Ideal.nD Cert.Reference5Ideal.τ).loc Cert.Reference5Ideal.main_arg2)) (m' ((c : Thread Cert.Reference5Ideal.nD Cert.Reference5Ideal.τ).loc Cert.Reference5Ideal.main_arg3)) (m' ((c : Thread Cert.Reference5Ideal.nD Cert.Reference5Ideal.τ).loc Cert.Reference5Ideal.main_arg7)) (m' ((c : Thread Cert.Reference5Ideal.nD Cert.Reference5Ideal.τ).loc Cert.Reference5Ideal.main_arg16)) = _
    rw [h0, h1, h2, h3, h7, h16]
  · refine Eq.trans ?_ (final25 m c).symm
    show val_main_v176 (F := Ideal) (m' ((c : Thread Cert.Reference5Ideal.nD Cert.Reference5Ideal.τ).loc Cert.Reference5Ideal.main_arg0)) (m' ((c : Thread Cert.Reference5Ideal.nD Cert.Reference5Ideal.τ).loc Cert.Reference5Ideal.main_arg1)) (m' ((c : Thread Cert.Reference5Ideal.nD Cert.Reference5Ideal.τ).loc Cert.Reference5Ideal.main_arg2)) (m' ((c : Thread Cert.Reference5Ideal.nD Cert.Reference5Ideal.τ).loc Cert.Reference5Ideal.main_arg3)) (m' ((c : Thread Cert.Reference5Ideal.nD Cert.Reference5Ideal.τ).loc Cert.Reference5Ideal.main_arg7)) = _
    rw [h0, h1, h2, h3, h7]
  · refine Eq.trans ?_ (final26 m c).symm
    show val_main_v45 (F := Ideal) (m' ((c : Thread Cert.Reference5Ideal.nD Cert.Reference5Ideal.τ).loc Cert.Reference5Ideal.main_arg0)) (m' ((c : Thread Cert.Reference5Ideal.nD Cert.Reference5Ideal.τ).loc Cert.Reference5Ideal.main_arg1)) (m' ((c : Thread Cert.Reference5Ideal.nD Cert.Reference5Ideal.τ).loc Cert.Reference5Ideal.main_arg2)) (m' ((c : Thread Cert.Reference5Ideal.nD Cert.Reference5Ideal.τ).loc Cert.Reference5Ideal.main_arg3)) (m' ((c : Thread Cert.Reference5Ideal.nD Cert.Reference5Ideal.τ).loc Cert.Reference5Ideal.main_arg5)) (m' ((c : Thread Cert.Reference5Ideal.nD Cert.Reference5Ideal.τ).loc Cert.Reference5Ideal.main_arg9)) = _
    rw [h0, h1, h2, h3, h5, h9]
  · refine Eq.trans ?_ (final27 m c).symm
    show val_main_v47 (F := Ideal) (m' ((c : Thread Cert.Reference5Ideal.nD Cert.Reference5Ideal.τ).loc Cert.Reference5Ideal.main_arg0)) (m' ((c : Thread Cert.Reference5Ideal.nD Cert.Reference5Ideal.τ).loc Cert.Reference5Ideal.main_arg1)) (m' ((c : Thread Cert.Reference5Ideal.nD Cert.Reference5Ideal.τ).loc Cert.Reference5Ideal.main_arg2)) (m' ((c : Thread Cert.Reference5Ideal.nD Cert.Reference5Ideal.τ).loc Cert.Reference5Ideal.main_arg3)) (m' ((c : Thread Cert.Reference5Ideal.nD Cert.Reference5Ideal.τ).loc Cert.Reference5Ideal.main_arg6)) = _
    rw [h0, h1, h2, h3, h6]

end kernel

end Cert.Proof.AttnIn

end
-- ==== Proof.CtxAttn.Head.lean ====
/-
  One head of the context's attention as the kernel takes it (program `Kernel6`), and what it stores: for every pair of
  heads, the one's columns in the lower half of 128 and the other's in the upper half. A neighbourhood head takes its
  queries out of a pair's by putting zero for the other half.
-/
module

public import proofs.«01_k».proof.Proof.Gen.Kernel6Ideal.Value
public import Idealize.ShloMosaic.Lib.Pipeline.ValueKit

@[expose] public section

set_option maxRecDepth 16384

noncomputable section

namespace Cert.Kernel6Ideal.CtxAttn

open Cert.Kernel6Ideal Cert.Kernel6Ideal.Gen Idealize.ShloMosaic Idealize.ShloMosaic.TcCoe Idealize.SL.Sem

/-- The exponentials of one head's scores, the scale `w`: every score less the greatest of its query. -/
def weights (w : BitVec 32) (q k : FVec Ideal S256x128 .bf16) : FVec Ideal S256x256 .f32 :=
  have s : FVec Ideal S256x256 .f32 := mulf (matmul dot_S256x128_S256x128_S256x256_1_1_0_0_n_n none q k (constant S256x256 .f32 0x00000000#32))
    (broadcast S256x256 (Scalar.ofBits .f32 w))
  exp (subf s (broadcastTo S256x256 (shapeCast S256x1 (multiReduction .maximumf [1] S256 s 0xFF800000#32 reduces_S256x256_S256 (.inl rfl) rfl)
    shapeCasts_S256_S256x1) broadcasts_S256x1_S256x256))

/-- One head: the weights' product with the values, over the weights' sum. -/
def head (w : BitVec 32) (v q k : FVec Ideal S256x128 .bf16) : FVec Ideal S256x128 .f32 :=
  divf (matmul dot_S256x256_S256x128_S256x128_1_0_0_1_n_n none (truncf .bf16 (weights w q k) bitsLt_bf16_f32) v (constant S256x128 .f32 0x00000000#32))
    (broadcastTo S256x128 (shapeCast S256x1 (multiReduction .add [1] S256 (weights w q k) 0x00000000#32 reduces_S256x256_S256 (.inl rfl) rfl)
      shapeCasts_S256_S256x1) broadcasts_S256x1_S256x128)

/-- The score of query `r` and key `i`: the product of the two rows, scaled. -/
def score (w : BitVec 32) (q k : FVec Ideal S256x128 .bf16) (r i : Fin 256) : EReal :=
  (∑ d : Fin 128, q (ix2 r d) * k (ix2 i d)) * Ideal.ofBits .f32 w

/-- Minus infinity, as the programs spell it. -/
theorem lowest : Ideal.ofBits .f32 0xFF800000#32 = (⊥ : EReal) := by simp [Ideal.ofBits, Ideal.ieee]

/-- A weight. -/
theorem weights_at (w : BitVec 32) (q k : FVec Ideal S256x128 .bf16) (r i : Fin 256) :
    weights w q k (ix2 r i) = Ideal.exp (score w q k r i - Finset.univ.fold max ⊥ (score w q k r)) := by
  pointwise [weights]
  unfold score
  rw [← lowest]

/-- One head at an element. -/
theorem head_at (w : BitVec 32) (v q k : FVec Ideal S256x128 .bf16) (r : Fin 256) (j : Fin 128) :
    head w v q k (ix2 r j) = Ideal.div (∑ i, weights w q k (ix2 r i) * v (ix2 i j)) (∑ i, weights w q k (ix2 r i)) := by
  pointwise [head]

/-- What is stored of two heads: the one's columns below the half, the other's above. -/
def pair (a b : FVec Ideal S256x128 .f32) : FVec Ideal S256x128 .bf16 :=
  truncf .bf16 (select k0_pay2 a b) bitsLt_bf16_f32

/-- The queries of a pair's lower head, zero in the upper half. -/
def lower (q : FVec Ideal S256x128 .bf16) : FVec Ideal S256x128 .bf16 :=
  select k0_pay2 q (broadcast S256x128 (Scalar.ofBits .bf16 0x0000#16))

/-- The queries of a pair's upper head, zero in the lower half. -/
def upper (q : FVec Ideal S256x128 .bf16) : FVec Ideal S256x128 .bf16 :=
  select (xori k0_pay2 (constantI S256x128 1 1#1)) q (broadcast S256x128 (Scalar.ofBits .bf16 0x0000#16))

/-- The word by which a column's half is told. -/
theorem half : ∀ n : Fin 128, Scalar.cmpi .slt (BitVec.ofNat 32 n.val) 64#32 = if n.val < 64 then 1#1 else 0#1 := by decide

/-- A stored element: the half its column lies in decides the head. -/
theorem pair_at (a b : FVec Ideal S256x128 .f32) (r : Fin 256) (j : Fin 128) :
    pair a b (ix2 r j) = if j.val < 64 then a (ix2 r j) else b (ix2 r j) := by
  pointwise [pair, k0_pay2]
  refine (congrArg (fun w => Scalar.select w _ _) (half j)).trans ?_
  split <;> rfl

/-- Zero, as the programs spell it at the half width. -/
theorem zero_half : Ideal.ofBits .bf16 0x0000#16 = (0 : EReal) := by simp [Ideal.ofBits, Ideal.ieee]

/-- An element of a lower head's queries. -/
theorem lower_at (q : FVec Ideal S256x128 .bf16) (r : Fin 256) (j : Fin 128) : lower q (ix2 r j) = if j.val < 64 then q (ix2 r j) else 0 := by
  have hw : k0_pay2 (ix2 r j) = if j.val < 64 then 1#1 else 0#1 := (show _ = Scalar.cmpi .slt (BitVec.ofNat 32 j.val) 64#32 by pointwise [k0_pay2]; rfl).trans (half j)
  show Scalar.select (k0_pay2 (ix2 r j)) (q (ix2 r j)) (Ideal.ofBits .bf16 0x0000#16) = _
  rw [hw, zero_half]
  split <;> rfl

/-- An element of an upper head's queries. -/
theorem upper_at (q : FVec Ideal S256x128 .bf16) (r : Fin 256) (j : Fin 128) : upper q (ix2 r j) = if j.val < 64 then 0 else q (ix2 r j) := by
  have hw : k0_pay2 (ix2 r j) = if j.val < 64 then 1#1 else 0#1 := (show _ = Scalar.cmpi .slt (BitVec.ofNat 32 j.val) 64#32 by pointwise [k0_pay2]; rfl).trans (half j)
  show Scalar.select (k0_pay2 (ix2 r j) ^^^ 1#1) (q (ix2 r j)) (Ideal.ofBits .bf16 0x0000#16) = _
  rw [hw, zero_half]
  split <;> rfl

/-- A lower head's score is over its own columns. -/
theorem score_lower (w : BitVec 32) (q k : FVec Ideal S256x128 .bf16) (r i : Fin 256) :
    score w (lower q) k r i = (∑ d : Fin 64, q (ix2 r ⟨d.val, by omega⟩) * k (ix2 i ⟨d.val, by omega⟩)) * Ideal.ofBits .f32 w := by
  unfold score
  refine congrArg (· * _) ((Fin.sum_univ_add (a := 64) (b := 64) _).trans ?_)
  rw [Finset.sum_eq_zero (s := Finset.univ (α := Fin 64)) (f := fun d : Fin 64 => lower q (ix2 r (Fin.natAdd 64 d)) * k (ix2 i (Fin.natAdd 64 d)))
    (fun d _ => by rw [lower_at, if_neg (by show ¬ 64 + d.val < 64; omega), zero_mul]), add_zero]
  exact Finset.sum_congr rfl fun d _ => by rw [lower_at, if_pos (by show d.val < 64; omega)]; rfl

/-- An upper head's score is over its own columns. -/
theorem score_upper (w : BitVec 32) (q k : FVec Ideal S256x128 .bf16) (r i : Fin 256) :
    score w (upper q) k r i = (∑ d : Fin 64, q (ix2 r ⟨64 + d.val, by omega⟩) * k (ix2 i ⟨64 + d.val, by omega⟩)) * Ideal.ofBits .f32 w := by
  unfold score
  refine congrArg (· * _) ((Fin.sum_univ_add (a := 64) (b := 64) _).trans ?_)
  rw [Finset.sum_eq_zero (s := Finset.univ (α := Fin 64)) (f := fun d : Fin 64 => upper q (ix2 r (Fin.castAdd 64 d)) * k (ix2 i (Fin.castAdd 64 d)))
    (fun d _ => by rw [upper_at, if_pos (by show d.val < 64; omega), zero_mul]), zero_add]
  exact Finset.sum_congr rfl fun d _ => by rw [upper_at, if_neg (by show ¬ 64 + d.val < 64; omega)]; rfl

/-- A pair of latent heads. -/
def latent (v q k q' k' : FVec Ideal S256x128 .bf16) : FVec Ideal S256x128 .bf16 :=
  pair (head 0x3DD105EC#32 v q k) (head 0x3DD105EC#32 v q' k')

/-- A pair of neighbourhood heads. -/
def near (q : FVec Ideal S256x128 .bf16) (k v : FVec Ideal S256x128 .f32) : FVec Ideal S256x128 .bf16 :=
  pair (head 0x3E000000#32 (truncf .bf16 v bitsLt_bf16_f32) (lower q) (truncf .bf16 k bitsLt_bf16_f32))
    (head 0x3E000000#32 (truncf .bf16 v bitsLt_bf16_f32) (upper q) (truncf .bf16 k bitsLt_bf16_f32))

variable (v q k q' k' : FVec Ideal S256x128 .bf16) (K V : FVec Ideal S256x128 .f32)

/-- The eight stores: pairs of heads, over their own columns. -/
theorem store0 : k0_pay3 v q k q' k' = latent v q k q' k' := rfl

theorem store1 : k0_pay4 k0_pay2 v q k q' k' = latent v q k q' k' := rfl

theorem store2 : k0_pay5 k0_pay2 v q k q' k' = latent v q k q' k' := rfl

theorem store3 : k0_pay6 k0_pay2 v q k q' k' = latent v q k q' k' := rfl

theorem store4 : k0_pay7 k0_pay2 q K V = near q K V := rfl

theorem store5 : k0_pay14 k0_pay2 (k0_pay10 k0_pay2 q K V) (k0_pay12 k0_pay2 q K V) (k0_pay13 k0_pay2 q K) = near q K V := rfl

theorem store6 : k0_pay21 k0_pay2 (k0_pay16 V) (k0_pay17 k0_pay2 q K V) (k0_pay19 k0_pay2 q K) (k0_pay20 k0_pay2 q K) = near q K V := rfl

theorem store7 : k0_pay1 k0_pay2 (k0_pay23 V) (k0_pay24 k0_pay2 q K V) (k0_pay25 k0_pay2 q K) = near q K V := rfl

end Cert.Kernel6Ideal.CtxAttn

end
-- ==== Proof.CtxAttn.Reading.lean ====
/-
  The reference of the context's attention (program `Reference6`), element by element: the decoder's rows are the
  argument's; the others hold two softmaxes over a sequence's own keys, the latent heads' in the lower half of the
  columns and the neighbourhood heads' in the upper half.
-/
module

public import proofs.«01_k».proof.Proof.Gen.Reference6Ideal.Run
public import proofs.«01_k».proof.Proof.Gen.Reference6Ideal.Read
public import Idealize.ShloMosaic.Lib.Pipeline.ValueKit

@[expose] public section

set_option maxRecDepth 16384

noncomputable section

namespace Cert.Reference6Ideal.Reading

open Cert.Reference6Ideal Cert.Reference6Ideal.Read Cert.Reference6Ideal.Gen Idealize.ShloMosaic

variable (x0 x1 : FVec Ideal S12288x1024 .bf16) (x2 x3 : FVec Ideal S12288x512 .bf16) (x4 x5 : FVec Ideal S12288x512 .f32)
  (x6 : FVec Ideal S12288x1024 .bf16) (b : Fin 16) (h : Fin 8) (i k : Fin 256) (d : Fin 64)

/-- Minus infinity, as the programs spell it. -/
theorem lowest : Ideal.ofBits .f32 0xFF800000#32 = (⊥ : EReal) := by simp [Ideal.ofBits, Ideal.ieee]

/-! The latent heads. -/

/-- A head's output: the values, weighed. -/
theorem out_at : val_main_v24 (F := Ideal) x0 x1 x2 (ix4 b i h d)
    = ∑ k : Fin 256, val_main_v22 (F := Ideal) x2 (ix4 b k h d) * val_main_v19 (F := Ideal) x0 x1 (ix4 b h i k) := by
  pointwise [val_main_v24, val_main_v23]

/-- The greatest score of a query. -/
theorem top_at : val_main_v9 (F := Ideal) x0 x1 (ix3 b h i) = Finset.univ.fold max ⊥ (fun k => val_main_v8 (F := Ideal) x0 x1 (ix4 b h i k)) := by
  rw [← lowest]
  pointwise [val_main_v9, val_main_cst_0]

/-- A score's exponential. -/
theorem exp_at : val_main_v15 (F := Ideal) x0 x1 (ix4 b h i k)
    = Ideal.exp (val_main_v8 (F := Ideal) x0 x1 (ix4 b h i k) - max ⊥ (val_main_v9 (F := Ideal) x0 x1 (ix3 b h i))) := by
  have e : idx_main_v12 (idx_main_v13 (ix4 b h i k)) = ix3 b h i := by blk_ext
  rw [val_main_v15_apply, val_main_v14_apply, val_main_v13_apply, val_main_v12_apply, val_main_v11_apply, val_main_v10_apply, val_main_cst_1_apply, e]
  generalize val_main_v9 (F := Ideal) x0 x1 (ix3 b h i) = z
  generalize val_main_v8 (F := Ideal) x0 x1 (ix4 b h i k) = y
  show Ideal.exp (y - max (Ideal.ofBits .f32 0xFF800000#32) z) = _
  rw [lowest]

/-- A weight: an exponential over their sum. -/
theorem prob_at : val_main_v19 (F := Ideal) x0 x1 (ix4 b h i k)
    = Ideal.div (val_main_v15 (F := Ideal) x0 x1 (ix4 b h i k)) (∑ k, val_main_v15 (F := Ideal) x0 x1 (ix4 b h i k)) := by
  pointwise [val_main_v19, val_main_v18, val_main_v17, val_main_v16, val_main_cst_2]

/-- A score. -/
theorem score_at : val_main_v8 (F := Ideal) x0 x1 (ix4 b h i k)
    = (∑ d : Fin 128, x0 (ix2 ⟨b.val * 256 + i.val, by omega⟩ ⟨h.val * 128 + d.val, by omega⟩)
        * x1 (ix2 ⟨b.val * 256 + k.val, by omega⟩ ⟨h.val * 128 + d.val, by omega⟩)) * Ideal.ofBits .f32 0x3DD105EC#32 := by
  pointwise [val_main_v8, val_main_v7, val_main_v6, val_main_v5, val_main_v4, val_main_v3, val_main_v2, val_main_v1, val_main_v0, val_main_cst]

/-- A value. -/
theorem val_at : val_main_v22 (F := Ideal) x2 (ix4 b k h d) = x2 (ix2 ⟨b.val * 256 + k.val, by omega⟩ ⟨h.val * 64 + d.val, by omega⟩) := by
  pointwise [val_main_v22, val_main_v21, val_main_v20]

/-! The neighbourhood heads. -/

/-- A head's output: the values, weighed. -/
theorem nout_at : val_main_v49 (F := Ideal) x3 x4 x5 (ix4 b i h d)
    = ∑ k : Fin 256, val_main_v47 (F := Ideal) x5 (ix4 b k h d) * val_main_v45 (F := Ideal) x3 x4 (ix4 b h i k) := by
  pointwise [val_main_v49, val_main_v48]

/-- The greatest score of a query. -/
theorem ntop_at : val_main_v35 (F := Ideal) x3 x4 (ix3 b h i) = Finset.univ.fold max ⊥ (fun k => val_main_v34 (F := Ideal) x3 x4 (ix4 b h i k)) := by
  rw [← lowest]
  pointwise [val_main_v35, val_main_cst_4]

/-- A score's exponential. -/
theorem nexp_at : val_main_v41 (F := Ideal) x3 x4 (ix4 b h i k)
    = Ideal.exp (val_main_v34 (F := Ideal) x3 x4 (ix4 b h i k) - max ⊥ (val_main_v35 (F := Ideal) x3 x4 (ix3 b h i))) := by
  have e : idx_main_v38 (idx_main_v39 (ix4 b h i k)) = ix3 b h i := by blk_ext
  rw [val_main_v41_apply, val_main_v40_apply, val_main_v39_apply, val_main_v38_apply, val_main_v37_apply, val_main_v36_apply, val_main_cst_5_apply, e]
  generalize val_main_v35 (F := Ideal) x3 x4 (ix3 b h i) = z
  generalize val_main_v34 (F := Ideal) x3 x4 (ix4 b h i k) = y
  show Ideal.exp (y - max (Ideal.ofBits .f32 0xFF800000#32) z) = _
  rw [lowest]

/-- A weight: an exponential over their sum. -/
theorem nprob_at : val_main_v45 (F := Ideal) x3 x4 (ix4 b h i k)
    = Ideal.div (val_main_v41 (F := Ideal) x3 x4 (ix4 b h i k)) (∑ k, val_main_v41 (F := Ideal) x3 x4 (ix4 b h i k)) := by
  pointwise [val_main_v45, val_main_v44, val_main_v43, val_main_v42, val_main_cst_6]

/-- A score. -/
theorem nscore_at : val_main_v34 (F := Ideal) x3 x4 (ix4 b h i k)
    = (∑ d : Fin 64, x3 (ix2 ⟨b.val * 256 + i.val, by omega⟩ ⟨h.val * 64 + d.val, by omega⟩)
        * x4 (ix2 ⟨b.val * 256 + k.val, by omega⟩ ⟨h.val * 64 + d.val, by omega⟩)) * Ideal.ofBits .f32 0x3E000000#32 := by
  pointwise [val_main_v34, val_main_v33, val_main_v32, val_main_v31, val_main_v30, val_main_v29, val_main_v28, val_main_v27, val_main_cst_3]

/-- A value. -/
theorem nval_at : val_main_v47 (F := Ideal) x5 (ix4 b k h d) = x5 (ix2 ⟨b.val * 256 + k.val, by omega⟩ ⟨h.val * 64 + d.val, by omega⟩) := by
  pointwise [val_main_v47, val_main_v46]

/-- The result at an element. -/
theorem res_at (R : Fin 12288) (C : Fin 1024) :
    val_main_v54 (F := Ideal) x0 x1 x2 x3 x4 x5 x6 (ix2 R C) = if h : R.val < 4096 then
      if hC : C.val < 512 then val_main_v24 (F := Ideal) x0 x1 x2 (ix4 ⟨R.val / 256, by omega⟩ ⟨R.val % 256, by omega⟩ ⟨C.val / 64, by omega⟩ ⟨C.val % 64, by omega⟩)
      else val_main_v49 (F := Ideal) x3 x4 x5 (ix4 ⟨R.val / 256, by omega⟩ ⟨R.val % 256, by omega⟩ ⟨(C.val - 512) / 64, by omega⟩ ⟨(C.val - 512) % 64, by omega⟩)
      else x6 (ix2 R C) := by
  pointwise [val_main_v54, val_main_v53, val_main_v52, val_main_v51, val_main_v50, val_main_v26, val_main_v25]
  by_cases hR : R.val < 4096
  · rw [dif_pos hR, dif_pos hR]
  · rw [dif_neg hR, dif_neg hR]
    exact congrArg x6 (by blk_ext)

end Cert.Reference6Ideal.Reading

end
-- ==== Proof.CtxAttn.Value.lean ====
/-
  The context's attention (program `Kernel6`): the array that the call leaves is the reference's, where the queries and
  the keys of the context's tokens are real numbers. A grid point is a sequence; its heads, put at the places where its
  blocks stand.
-/
module

public import proofs.«01_k».proof.Proof.CtxAttn.Head
public import proofs.«01_k».proof.Proof.CtxAttn.Reading
public import proofs.«01_k».proof.Proof.Attention.Softmax

@[expose] public section

set_option maxRecDepth 16384

noncomputable section

namespace Cert.Kernel6Ideal.CtxAttn

open Cert.Kernel6Ideal Cert.Kernel6Ideal.Gen Idealize.ShloMosaic Idealize.ShloMosaic.TcCoe Idealize.SL.Sem
open Idealize.ShloMosaic.Pipeline (Dat)
open Cert.Reference6Ideal.Read Cert.Reference6Ideal.Reading
open Cert.Kernel2Ideal.Attention (Real? softmax_two real_sum_mul)

/-- The two ways to take the softmax, over one list: the list with an empty one behind it. -/
theorem softmax_one (s v : Fin 256 → EReal) (hr : ∀ k, Real? (s k)) :
    Ideal.div (∑ k, Ideal.exp (s k - Finset.univ.fold max ⊥ s) * v k) (∑ k, Ideal.exp (s k - Finset.univ.fold max ⊥ s))
      = ∑ k, v k * Ideal.div (Ideal.exp (s k - max ⊥ (Finset.univ.fold max ⊥ s))) (∑ k, Ideal.exp (s k - max ⊥ (Finset.univ.fold max ⊥ s))) := by
  have h := softmax_two (a := 256) (b := 0) s (fun k => k.elim0) v (fun k => k.elim0) s v (fun _ => rfl) (fun k => k.elim0) (fun _ => rfl) (fun k => k.elim0) hr ⟨0, by decide⟩
  have e : max (Finset.univ.fold max ⊥ s) (Finset.univ.fold max ⊥ (fun k : Fin 0 => (k.elim0 : EReal))) = Finset.univ.fold max ⊥ s := by
    rw [Finset.univ_eq_empty (α := Fin 0), Finset.fold_empty]
    exact max_bot_right _
  rw [e, Finset.univ_eq_empty (α := Fin 0), Finset.sum_empty, Finset.sum_empty, add_zero, add_zero] at h
  exact h.trans (Finset.sum_congr rfl fun k _ => by rw [zero_add])

/-- The latent heads' scale is a real number. -/
theorem real_scale : Real? (Ideal.ofBits .f32 0x3DD105EC#32) := ⟨_, by simp [Ideal.ofBits, Ideal.ieee]; rfl⟩

/-- The neighbourhood heads' scale is a real number. -/
theorem real_nscale : Real? (Ideal.ofBits .f32 0x3E000000#32) := ⟨_, by simp [Ideal.ofBits, Ideal.ieee]; rfl⟩

/-- Products of real numbers are real. -/
theorem real_mul {x y : EReal} (hx : Real? x) (hy : Real? y) : Real? (x * y) := by
  obtain ⟨a, rfl⟩ := hx
  obtain ⟨b, rfl⟩ := hy
  exact ⟨a * b, (EReal.coe_mul a b).symm⟩

/-- Row `i` of sequence `b`. -/
abbrev row (b : Fin 16) (i : Fin 256) : Fin 12288 := ⟨b.val * 256 + i.val, by omega⟩

/-- Column `d` of latent head `h`. -/
abbrev col (h : Fin 8) (d : Fin 128) : Fin 1024 := ⟨h.val * 128 + d.val, by omega⟩

/-- Column `j` of the pair `p` of heads. -/
abbrev pcol (p : Fin 4) (j : Fin 128) : Fin 512 := ⟨p.val * 128 + j.val, by omega⟩

section Pieces

variable (x0 x1 : FVec Ideal S12288x1024 .bf16) (x2 x3 : FVec Ideal S12288x512 .bf16) (x4 x5 : FVec Ideal S12288x512 .f32)
  (x6 : FVec Ideal S12288x1024 .bf16) (b : Fin 16) (i r : Fin 256)

section Latent

variable (f0 : ∀ b i C, Real? (x0 (ix2 (row b i) C))) (f1 : ∀ b i C, Real? (x1 (ix2 (row b i) C)))
  (v q q' k k' : FVec Ideal S256x128 .bf16)

include f0 f1

/-- A latent head of the kernel's is the reference's. -/
theorem head_eq (h : Fin 8) (d : Fin 64) (j : Fin 128)
    (hq : ∀ d, q (ix2 r d) = x0 (ix2 (row b i) (col h d)))
    (hk : ∀ n d, k (ix2 n d) = x1 (ix2 (row b n) (col h d)))
    (hv : ∀ n, v (ix2 n j) = x2 (ix2 (row b n) ⟨h.val * 64 + d.val, by omega⟩)) :
    head 0x3DD105EC#32 v q k (ix2 r j) = val_main_v24 (F := Ideal) x0 x1 x2 (ix4 b i h d) := by
  have hs : ∀ n, val_main_v8 (F := Ideal) x0 x1 (ix4 b h i n) = score 0x3DD105EC#32 q k r n := fun n => by
    rw [score_at]; unfold score; simp only [hq, hk]
  have hr : ∀ n, Real? (score 0x3DD105EC#32 q k r n) := fun n => real_mul (real_sum_mul (fun d => q (ix2 r d)) (fun d => k (ix2 n d))
    (fun d => by rw [hq]; exact f0 _ _ _) (fun d => by rw [hk]; exact f1 _ _ _)) real_scale
  rw [head_at, out_at]
  simp only [weights_at, prob_at, exp_at, top_at, hs, val_at, ← hv]
  exact softmax_one _ (fun n => v (ix2 n j)) hr

/-- What is stored of a pair of latent heads is the reference's. -/
theorem latent_eq (p : Fin 4) (j : Fin 128)
    (hv : ∀ n, v (ix2 n j) = x2 (ix2 (row b n) (pcol p j)))
    (hq : ∀ d, q (ix2 r d) = x0 (ix2 (row b i) (col ⟨2 * p.val, by omega⟩ d)))
    (hk : ∀ n d, k (ix2 n d) = x1 (ix2 (row b n) (col ⟨2 * p.val, by omega⟩ d)))
    (hq' : ∀ d, q' (ix2 r d) = x0 (ix2 (row b i) (col ⟨2 * p.val + 1, by omega⟩ d)))
    (hk' : ∀ n d, k' (ix2 n d) = x1 (ix2 (row b n) (col ⟨2 * p.val + 1, by omega⟩ d))) :
    latent v q k q' k' (ix2 r j)
      = val_main_v54 (F := Ideal) x0 x1 x2 x3 x4 x5 x6 (ix2 (row b i) ⟨p.val * 128 + j.val, by omega⟩) := by
  unfold latent
  rw [pair_at, res_at, dif_pos (by show b.val * 256 + i.val < 4096; omega), dif_pos (by show p.val * 128 + j.val < 512; omega)]
  by_cases hj : j.val < 64
  · rw [if_pos hj]
    refine (head_eq x0 x1 x2 b i r f0 f1 v q k ⟨2 * p.val, by omega⟩ ⟨j.val, hj⟩ j hq hk (fun n => (hv n).trans (congrArg x2 (by blk_ext)))).trans ?_
    exact congrArg _ (by blk_ext)
  · rw [if_neg hj]
    refine (head_eq x0 x1 x2 b i r f0 f1 v q' k' ⟨2 * p.val + 1, by omega⟩ ⟨j.val - 64, by omega⟩ j hq' hk' (fun n => (hv n).trans (congrArg x2 (by blk_ext)))).trans ?_
    exact congrArg _ (by blk_ext)

end Latent

section Near

variable (f3 : ∀ b i C, Real? (x3 (ix2 (row b i) C))) (f4 : ∀ b i C, Real? (x4 (ix2 (row b i) C)))

include f3 f4

/-- A head whose scores are a neighbourhood head's is the reference's. -/
theorem nhead_eq (v q k : FVec Ideal S256x128 .bf16) (h : Fin 8) (d : Fin 64) (j : Fin 128)
    (hs : ∀ n, score 0x3E000000#32 q k r n = (∑ d : Fin 64, x3 (ix2 (row b i) ⟨h.val * 64 + d.val, by omega⟩)
        * x4 (ix2 (row b n) ⟨h.val * 64 + d.val, by omega⟩)) * Ideal.ofBits .f32 0x3E000000#32)
    (hv : ∀ n, v (ix2 n j) = x5 (ix2 (row b n) ⟨h.val * 64 + d.val, by omega⟩)) :
    head 0x3E000000#32 v q k (ix2 r j) = val_main_v49 (F := Ideal) x3 x4 x5 (ix4 b i h d) := by
  have hS : ∀ n, val_main_v34 (F := Ideal) x3 x4 (ix4 b h i n) = score 0x3E000000#32 q k r n := fun n => by
    rw [nscore_at, hs]
  have hr : ∀ n, Real? (score 0x3E000000#32 q k r n) := fun n => by
    rw [hs]
    exact real_mul (real_sum_mul _ _ (fun d => f3 _ _ _) (fun d => f4 _ _ _)) real_nscale
  rw [head_at, nout_at]
  simp only [weights_at, nprob_at, nexp_at, ntop_at, hS, nval_at, ← hv]
  exact softmax_one _ (fun n => v (ix2 n j)) hr

/-- What is stored of a pair of neighbourhood heads is the reference's. -/
theorem near_eq (q : FVec Ideal S256x128 .bf16) (k v : FVec Ideal S256x128 .f32) (p : Fin 4) (j : Fin 128)
    (hq : ∀ d, q (ix2 r d) = x3 (ix2 (row b i) (pcol p d)))
    (hk : ∀ n d, k (ix2 n d) = x4 (ix2 (row b n) (pcol p d)))
    (hv : ∀ n, v (ix2 n j) = x5 (ix2 (row b n) (pcol p j))) :
    near q k v (ix2 r j)
      = val_main_v54 (F := Ideal) x0 x1 x2 x3 x4 x5 x6 (ix2 (row b i) ⟨512 + (p.val * 128 + j.val), by omega⟩) := by
  unfold near
  rw [pair_at, res_at, dif_pos (by show b.val * 256 + i.val < 4096; omega), dif_neg (by show ¬ 512 + (p.val * 128 + j.val) < 512; omega)]
  by_cases hj : j.val < 64
  · rw [if_pos hj]
    refine (nhead_eq x3 x4 x5 b i r f3 f4 _ _ _ ⟨2 * p.val, by omega⟩ ⟨j.val, hj⟩ j (fun n => (score_lower _ _ _ _ _).trans ?_)
      (fun n => (hv n).trans (congrArg x5 (by blk_ext)))).trans ?_
    · refine congrArg (· * _) (Finset.sum_congr rfl fun d _ => ?_)
      exact congrArg₂ (· * ·) ((hq _).trans (congrArg x3 (by blk_ext))) ((hk _ _).trans (congrArg x4 (by blk_ext)))
    · exact congrArg _ (by blk_ext)
  · rw [if_neg hj]
    refine (nhead_eq x3 x4 x5 b i r f3 f4 _ _ _ ⟨2 * p.val + 1, by omega⟩ ⟨j.val - 64, by omega⟩ j (fun n => (score_upper _ _ _ _ _).trans ?_)
      (fun n => (hv n).trans (congrArg x5 (by blk_ext)))).trans ?_
    · refine congrArg (· * _) (Finset.sum_congr rfl fun d _ => ?_)
      exact congrArg₂ (· * ·) ((hq _).trans (congrArg x3 (by blk_ext))) ((hk _ _).trans (congrArg x4 (by blk_ext)))
    · exact congrArg _ (by blk_ext)

end Near

end Pieces

variable (m : (ℓ : Loc nD τ sig) → Buf (Elt Ideal) ℓ)

/-- Argument 0: the latent heads' queries. -/
abbrev arg0 (c : Dev nD) : FVec Ideal S12288x1024 .bf16 := m ((c : Thread nD τ).loc main_arg0)
/-- Argument 1: the latent heads' keys. -/
abbrev arg1 (c : Dev nD) : FVec Ideal S12288x1024 .bf16 := m ((c : Thread nD τ).loc main_arg1)
/-- Argument 2: the latent heads' values. -/
abbrev arg2 (c : Dev nD) : FVec Ideal S12288x512 .bf16 := m ((c : Thread nD τ).loc main_arg2)
/-- Argument 3: the neighbourhood heads' queries. -/
abbrev arg3 (c : Dev nD) : FVec Ideal S12288x512 .bf16 := m ((c : Thread nD τ).loc main_arg3)
/-- Argument 4: the neighbourhood heads' keys. -/
abbrev arg4 (c : Dev nD) : FVec Ideal S12288x512 .f32 := m ((c : Thread nD τ).loc main_arg4)
/-- Argument 5: the neighbourhood heads' values. -/
abbrev arg5 (c : Dev nD) : FVec Ideal S12288x512 .f32 := m ((c : Thread nD τ).loc main_arg5)
/-- Argument 6: the array whose part is written. -/
abbrev arg6 (c : Dev nD) : FVec Ideal S12288x1024 .bf16 := m ((c : Thread nD τ).loc main_arg6)

/-- The reference's result over these arguments. -/
abbrev ref (c : Dev nD) : FVec Ideal S12288x1024 .bf16 :=
  val_main_v54 (F := Ideal) (arg0 m c) (arg1 m c) (arg2 m c) (arg3 m c) (arg4 m c) (arg5 m c) (arg6 m c)

/-- The place of every window's block at point `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The result starts as argument 6. -/
theorem V_main_v0 (c : Dev nD) : V m c main_v0 = arg6 m c := by unfold V; after_results; try rfl

/-- There are 16 points. -/
theorem lt16 (t : Fin cfg0.N) : t.val < 16 := t.isLt

/-- The sequence of a grid point. -/
abbrev seq (t : Fin cfg0.N) : Fin 16 := ⟨t.val, lt16 t⟩

section Run

variable (c : Dev nD) (f0 : ∀ b i C, Real? (arg0 m c (ix2 (row b i) C))) (f1 : ∀ b i C, Real? (arg1 m c (ix2 (row b i) C)))
  (f3 : ∀ b i C, Real? (arg3 m c (ix2 (row b i) C))) (f4 : ∀ b i C, Real? (arg4 m c (ix2 (row b i) C)))

include f0 f1 f3 f4

/-- The array after the last point: the context's rows are the reference's, the rest is argument 6. -/
theorem covered : (dats m 0 c).arrAt 6 (cfgs 0).N = fun i => if (i 0 : ℕ) < 4096 then ref m c i else V m c main_v0 i := by
  refine (dats m 0 c).arrAt_eq_of_coversWhere 6 _ (fun β => β 0 < 16) (by decide +kernel) (fun t hf y => ?_)
    (fun j => by blk_simp [Pipeline.Window.cell_apply]; omega)
  blk_simp
  rw [after0_6]; unfold Gen.outsAt0; frame_out
  have ht := lt16 t
  have stored := latent_eq (arg0 m c) (arg1 m c) (arg2 m c) (arg3 m c) (arg4 m c) (arg5 m c) (arg6 m c) (f0 := f0) (f1 := f1)
  have nstored := near_eq (arg0 m c) (arg1 m c) (arg2 m c) (arg3 m c) (arg4 m c) (arg5 m c) (arg6 m c) (f3 := f3) (f4 := f4)
  canon_tiles x h
  all_goals obtain ⟨r, j, rfl⟩ : ∃ (r : Fin 256) (j : Fin 128), x = ix2 r j := ⟨x 0, x 1, by blk_ext⟩
  all_goals replace h0 : (y 0).val = r.val := h0
  case' piece0 =>
    replace h1 : (y 1).val = 896 + j.val := h1
    refine ((congrFun (store7 _ _ _) _).trans (nstored (seq t) r r _ _ _ ⟨3, by decide⟩ j ?_ ?_ ?_)).trans ?_
  case' piece1 =>
    replace h1 : (y 1).val = 768 + j.val := h1
    refine ((congrFun (store6 _ _ _) _).trans (nstored (seq t) r r _ _ _ ⟨2, by decide⟩ j ?_ ?_ ?_)).trans ?_
  case' piece2 =>
    replace h1 : (y 1).val = 640 + j.val := h1
    refine ((congrFun (store5 _ _ _) _).trans (nstored (seq t) r r _ _ _ ⟨1, by decide⟩ j ?_ ?_ ?_)).trans ?_
  case' piece3 =>
    replace h1 : (y 1).val = 512 + j.val := h1
    refine ((congrFun (store4 _ _ _) _).trans (nstored (seq t) r r _ _ _ ⟨0, by decide⟩ j ?_ ?_ ?_)).trans ?_
  case' piece4 =>
    replace h1 : (y 1).val = 384 + j.val := h1
    refine ((congrFun (store3 _ _ _ _ _) _).trans (stored (seq t) r r _ _ _ _ _ ⟨3, by decide⟩ j ?_ ?_ ?_ ?_ ?_)).trans ?_
  case' piece5 =>
    replace h1 : (y 1).val = 256 + j.val := h1
    refine ((congrFun (store2 _ _ _ _ _) _).trans (stored (seq t) r r _ _ _ _ _ ⟨2, by decide⟩ j ?_ ?_ ?_ ?_ ?_)).trans ?_
  case' piece6 =>
    replace h1 : (y 1).val = 128 + j.val := h1
    refine ((congrFun (store1 _ _ _ _ _) _).trans (stored (seq t) r r _ _ _ _ _ ⟨1, by decide⟩ j ?_ ?_ ?_ ?_ ?_)).trans ?_
  case' piece7 =>
    replace h1 : (y 1).val = j.val := h1
    refine ((congrFun (store0 _ _ _ _ _) _).trans (stored (seq t) r r _ _ _ _ _ ⟨0, by decide⟩ j ?_ ?_ ?_ ?_ ?_)).trans ?_
  all_goals first | (intro n d; blk_point [iblk, V, idx t]; done) | (intro n; blk_point [iblk, V, idx t]; done) | exact congrArg (ref m c) (by blk_ext [idx t])

/-- The call leaves the reference's result. -/
theorem final : (dats m 0 c).arrAt 6 (cfgs 0).N = ref m c := by
  rw [covered m c f0 f1 f3 f4]
  funext y
  obtain ⟨R, C, rfl⟩ : ∃ (R : Fin 12288) (C : Fin 1024), y = ix2 R C := ⟨y 0, y 1, by blk_ext⟩
  show (if R.val < 4096 then _ else _) = _
  split
  · rfl
  · rw [V_main_v0]
    exact ((res_at _ _ _ _ _ _ _ R C).trans (dif_neg ‹_›)).symm

end Run

end Cert.Kernel6Ideal.CtxAttn

end
-- ==== Proof.CtxAttn.Finite.lean ====
/-
  The precondition read back: every query and every key of the context's tokens is a real number.
-/
module

public import proofs.«01_k».proof.Pre_heads_finite
public import proofs.«01_k».proof.Proof.Gen.Pre_heads_finite
public import proofs.«01_k».proof.Proof.Attention.Finite
public import Idealize.ShloMosaic.Lib.Pointwise
public import Idealize.ShloMosaic.Lib.Pipeline.Value

@[expose] public section

set_option maxRecDepth 16384

noncomputable section

namespace Cert.Pre_heads_finite.Finite

open Cert.Pre_heads_finite Cert.Pre_heads_finite.Gen Idealize.ShloMosaic
open Cert.Kernel2Ideal.Attention (Real?)
open Cert.Pre_scores_finite.Finite (real_of_word)

variable (q k : FVec Ideal S12288x1024 .bf16) (v nq : FVec Ideal S12288x512 .bf16) (nk nv : FVec Ideal S12288x512 .f32)
  (o : FVec Ideal S12288x1024 .bf16)

/-- Where the precondition holds, the latent heads' queries are real numbers. -/
theorem queries (h : fn (F := Ideal) q k v nq nk nv o = fun _ => 1#1) (R : Fin 4096) (C : Fin 1024) : Real? (q (ix2 ⟨R.val, by omega⟩ C)) := by
  have h0 := congrFun h (ix2 (⟨R.val, by omega⟩ : Fin 12288) C)
  unfold fn fn_part1 at h0
  pointwise at h0
  exact real_of_word h0

/-- Where the precondition holds, the latent heads' keys are real numbers. -/
theorem keys (h : fn (F := Ideal) q k v nq nk nv o = fun _ => 1#1) (R : Fin 4096) (C : Fin 1024) : Real? (k (ix2 ⟨R.val, by omega⟩ C)) := by
  have h0 := congrFun h (ix2 (⟨4096 + R.val, by omega⟩ : Fin 12288) C)
  unfold fn fn_part1 at h0
  pointwise at h0
  exact real_of_word h0

/-- The third part of the precondition's rows. -/
theorem third (h : fn (F := Ideal) q k v nq nk nv o = fun _ => 1#1) (R : Fin 4096) (C : Fin 1024) :
    concatenate S4096x1024 1 [⟨S4096x512, cmpf .olt (Host.absf (extf .f32 (extractStridedSlice S4096x512 ![0, 0] nq Facts.slices_S12288x512_S4096x512_0_0) Facts.bitsLt_bf16_f32))
        (broadcastInDim S4096x512 ![] Facts.bcast_S_S4096x512 (constant S_ .f32 0x7F800000#32))⟩,
      ⟨S4096x512, cmpf .olt (Host.absf (extractStridedSlice S4096x512 ![0, 0] nk Facts.slices_S12288x512_S4096x512_0_0))
        (broadcastInDim S4096x512 ![] Facts.bcast_S_S4096x512 (constant S_ .f32 0x7F800000#32))⟩]
      Facts.concatenates_S4096x512_S4096x512_S4096x1024_d1 (ix2 R C) = 1#1 := by
  have h0 := congrFun h (ix2 (⟨8192 + R.val, by omega⟩ : Fin 12288) C)
  refine Eq.trans (Eq.symm ?_) h0
  dsimp only [fn, fn_part1]
  refine concatenate_apply_piece (t := S12288x1024) 0 _ _ _ 2 ?_ S4096x1024 _ ?_ rfl 8192 ?_ (ix2 R C) ?_ ?_
  · exact Nat.lt_succ_self 2
  · rfl
  · rfl
  · exact fun b hb => match b, hb with
      | ⟨0, _⟩, hb => absurd rfl hb
      | ⟨1, _⟩, _ => rfl
  · rfl

/-- Where the precondition holds, the neighbourhood heads' queries are real numbers. -/
theorem near_queries (h : fn (F := Ideal) q k v nq nk nv o = fun _ => 1#1) (R : Fin 4096) (C : Fin 512) : Real? (nq (ix2 ⟨R.val, by omega⟩ C)) := by
  have h0 := third q k v nq nk nv o h R ⟨C.val, by omega⟩
  pointwise at h0
  exact real_of_word h0

/-- Where the precondition holds, the neighbourhood heads' keys are real numbers. -/
theorem near_keys (h : fn (F := Ideal) q k v nq nk nv o = fun _ => 1#1) (R : Fin 4096) (C : Fin 512) : Real? (nk (ix2 ⟨R.val, by omega⟩ C)) := by
  have h0 := third q k v nq nk nv o h R ⟨512 + C.val, by omega⟩
  pointwise at h0
  exact real_of_word h0

end Cert.Pre_heads_finite.Finite

end
-- ==== Proof.CtxAttn.Claims.lean ====
/-
  The claims about the context's attention (program `Kernel6`): the frames, and the equality of the two runs' results
  where the queries and the keys of the context's tokens are real numbers.
-/
module

public import proofs.«01_k».proof.Defs
public import proofs.«01_k».proof.Proof.Gen.Kernel6.Frame
public import proofs.«01_k».proof.Proof.Gen.Kernel6Ideal.Frame
public import proofs.«01_k».proof.Proof.Gen.Reference6Ideal.Run
public import proofs.«01_k».proof.Proof.CtxAttn.Value
public import proofs.«01_k».proof.Proof.CtxAttn.Finite
public import Idealize.ShloMosaic.Lib.Quiescent

@[expose] public section

set_option maxRecDepth 16384

noncomputable section

namespace Cert.Proof.CtxAttn

open Idealize.ShloMosaic Idealize.ShloMosaic.TcCoe Idealize.SL.Sem

/-- THE FRAMES. -/
theorem frame_kernel : quiescent_Kernel6 := fun m g _ => Cert.Kernel6.Gen.frame m g

theorem frame_kernelIdeal : quiescent_Kernel6Ideal := fun m g _ => Cert.Kernel6Ideal.Gen.frame m g

theorem frame_reference : quiescent_Reference6Ideal := fun m g _ =>
  (θ_run _ _ _).mono (fun r h => ⟨fun c => (h c).2, sem_eq_zero_of_no_sems rfl _⟩) (Cert.Reference6Ideal.Value.run m g)

theorem frame_kernelIdeal_finite : quiescent_Kernel6Ideal_pre_heads_finite := fun m g _ => Cert.Kernel6Ideal.Gen.frame m g

theorem frame_reference_finite : quiescent_Reference6Ideal_pre_heads_finite := fun m g _ =>
  (θ_run _ _ _).mono (fun r h => ⟨fun c => (h c).2, sem_eq_zero_of_no_sems rfl _⟩) (Cert.Reference6Ideal.Value.run m g)

/-- The two runs end with equal results. -/
theorem equal : algebraic_Kernel6Ideal_Reference6Ideal_pre_heads_finite := fun m g m' g' h hag => by
  refine ⟨fun c => (Cert.Kernel6Ideal.Gen.dats m 0 c).arrAt 6 Cert.Kernel6Ideal.cfg0.N, Cert.Kernel6Ideal.Value.run_blocks m g, ?_⟩
  refine (θ_run _ _ _).mono (fun r hp c => ⟨(hp c).1.trans ?_, (hp c).2⟩) (Cert.Reference6Ideal.Value.run m' g')
  obtain ⟨h0, h1, h2, h3, h4, h5, h6⟩ := hag c
  rw [Cert.Reference6Ideal.Read.val_main_v54_eq, h0, h1, h2, h3, h4, h5, h6]
  exact (Cert.Kernel6Ideal.CtxAttn.final m c
    (fun b i C => Cert.Pre_heads_finite.Finite.queries _ _ _ _ _ _ _ (h c) ⟨b.val * 256 + i.val, by omega⟩ C)
    (fun b i C => Cert.Pre_heads_finite.Finite.keys _ _ _ _ _ _ _ (h c) ⟨b.val * 256 + i.val, by omega⟩ C)
    (fun b i C => Cert.Pre_heads_finite.Finite.near_queries _ _ _ _ _ _ _ (h c) ⟨b.val * 256 + i.val, by omega⟩ C)
    (fun b i C => Cert.Pre_heads_finite.Finite.near_keys _ _ _ _ _ _ _ (h c) ⟨b.val * 256 + i.val, by omega⟩ C)).symm

end Cert.Proof.CtxAttn

end
-- ==== Proof.Expand.Value.lean ====
/-
  The cached context's keys and values (program `Kernel7`): a grid point takes 512 tokens' latents up to the keys and the
  values of all heads, adds the shared rotary key to every head's keys and normalises each head over its own mean square.
  The two arrays that the call leaves are the reference's.
-/
module

public import proofs.«01_k».proof.Proof.Gen.Kernel7Ideal.Value
public import proofs.«01_k».proof.Proof.Gen.Reference7Ideal.Read
public import Idealize.ShloMosaic.Lib.Pipeline.ValueKit

@[expose] public section

set_option maxRecDepth 16384

noncomputable section

namespace Cert.Kernel7Ideal.Expand

open Cert.Kernel7Ideal Cert.Kernel7Ideal.Gen Idealize.ShloMosaic Idealize.ShloMosaic.TcCoe Idealize.SL.Sem
open Idealize.ShloMosaic.Pipeline (Dat)
open Cert.Reference7Ideal.Read

/-- The token of row `r` of block `t`. -/
abbrev tok {t : ℕ} (ht : t < 4) (r : Fin 512) : Fin 2048 := ⟨t * 512 + r.val, by omega⟩

/-- 128 columns of the heads' 1024, from column `o` on. -/
abbrev head (v : FVec Ideal S512x1024 .f32) (o : ℕ) (h : S512x1024.Slices ![0, o] S512x128) : FVec Ideal S512x128 .f32 :=
  extractStridedSlice S512x128 ![0, o] v h

/-- A column of the 128. -/
theorem head_at (v : FVec Ideal S512x1024 .f32) (o : ℕ) (h : S512x1024.Slices ![0, o] S512x128) (ho : o + 128 ≤ 1024) (r : Fin 512) (j : Fin 128) :
    head v o h (ix2 r j) = v (ix2 r ⟨o + j.val, by omega⟩) := by
  pointwise [head]

/-- One head's columns with the shared key added, normalised and scaled. -/
def key (a s : FVec Ideal S512x128 .f32) (g : FVec Ideal S1x128 .f32) : FVec Ideal S512x128 .bf16 :=
  have u : FVec Ideal S512x128 .f32 := addf a s
  truncf .bf16 (mulf (mulf u (broadcastTo S512x128 (rsqrt (addf
      (mulf (shapeCast S512x1 (multiReduction .add [1] S512 (mulf u u) 0x00000000#32 reduces_S512x128_S512 (.inl rfl) rfl) shapeCasts_S512_S512x1)
        (broadcast S512x1 (Scalar.ofBits .f32 0x3C2AAAAB#32)))
      (broadcast S512x1 (Scalar.ofBits .f32 0x358637BD#32)))) broadcasts_S512x1_S512x128))
    (broadcastTo S512x128 g broadcasts_S1x128_S512x128)) bitsLt_bf16_f32

section stores
variable (x s : FVec Ideal S512x128 .f32) (w : FVec Ideal S128x1024 .bf16) (v : FVec Ideal S512x1024 .f32) (g : FVec Ideal S1x128 .f32)

/-- The eight stores of the keys. -/
theorem store7 : k0_pay1 s v g = key (head v 896 slices_S512x1024_o0_896_S512x128) s g := rfl

theorem store6 : k0_pay15 s v g = key (head v 768 slices_S512x1024_o0_768_S512x128) s g := rfl

theorem store5 : k0_pay14 s v g = key (head v 640 slices_S512x1024_o0_640_S512x128) s g := rfl

theorem store4 : k0_pay13 g (k0_pay11 s v) (k0_pay12 s v) = key (head v 512 slices_S512x1024_o0_512_S512x128) s g := rfl

theorem store3 : k0_pay10 s v g = key (head v 384 slices_S512x1024_o0_384_S512x128) s g := rfl

theorem store2 : k0_pay9 s v g = key (head v 256 slices_S512x1024_o0_256_S512x128) s g := rfl

theorem store1 : k0_pay8 g (k0_pay5 x s w) (k0_pay6 x s w) k0_pay7 = key (head (k0_pay2 x w) 128 slices_S512x1024_o0_128_S512x128) s g := rfl

theorem store0 : k0_pay4 x s w g = key (head (k0_pay2 x w) 0 slices_S512x1024_o0_0_S512x128) s g := rfl

end stores

section rows
variable {t : ℕ} (ht : t < 4) (x : FVec Ideal S512x128 .f32) (x0 : FVec Ideal S2048x128 .f32)
  (hx : ∀ r j, x (ix2 r j) = x0 (ix2 (tok ht r) j))
include hx

/-- The keys of all heads, without the shared part. -/
theorem up_at (w : FVec Ideal S128x1024 .bf16) (r : Fin 512) (j : Fin 1024) :
    k0_pay2 (F := Ideal) x w (ix2 r j) = val_main_v1 (F := Ideal) x0 w (ix2 (tok ht r) j) := by
  pointwise [k0_pay2, val_main_v1, val_main_v0]
  simp only [hx]
  blk_ext

/-- The values of all heads. -/
theorem v_at (w : FVec Ideal S128x512 .bf16) (r : Fin 512) (j : Fin 512) :
    k0_pay3 (F := Ideal) x w (ix2 r j) = val_main_v23 (F := Ideal) x0 w (ix2 (tok ht r) j) := by
  pointwise [k0_pay3, val_main_v23, val_main_v20, val_main_v19]
  simp only [hx]
  blk_ext

end rows

/-- A head of the keys. -/
theorem key_at {t : ℕ} (ht : t < 4) (hd : Fin 8) (a s : FVec Ideal S512x128 .f32) (x0 x1 : FVec Ideal S2048x128 .f32)
    (w : FVec Ideal S128x1024 .bf16) (g : FVec Ideal S1x128 .f32)
    (ha : ∀ r j, a (ix2 r j) = val_main_v1 (F := Ideal) x0 w (ix2 (tok ht r) ⟨hd.val * 128 + j.val, by omega⟩))
    (hs : ∀ r j, s (ix2 r j) = x1 (ix2 (tok ht r) j)) (r : Fin 512) (j : Fin 128) :
    key a s g (ix2 r j) = val_main_v22 (F := Ideal) x0 x1 w g (ix2 (tok ht r) ⟨hd.val * 128 + j.val, by omega⟩) := by
  pointwise [key, val_main_v22, val_main_v21, val_main_v18, val_main_v17, val_main_v16, val_main_v15, val_main_v14, val_main_v13,
    val_main_v12, val_main_v11, val_main_v10, val_main_v9, val_main_v8, val_main_v7, val_main_v6, val_main_v5, val_main_v4,
    val_main_v3, val_main_v2, val_main_cst, val_main_cst_0, val_main_cst_1]
  simp only [ha, hs]
  blk_ext

variable (m : (ℓ : Loc nD τ sig) → Buf (Elt Ideal) ℓ)

/-- Argument 0: the cached latents. -/
abbrev arg0 (c : Dev nD) : FVec Ideal S2048x128 .f32 := m ((c : Thread nD τ).loc main_arg0)
/-- Argument 1: the cached rotary keys. -/
abbrev arg1 (c : Dev nD) : FVec Ideal S2048x128 .f32 := m ((c : Thread nD τ).loc main_arg1)
/-- Argument 2: the keys' weight. -/
abbrev arg2 (c : Dev nD) : FVec Ideal S128x1024 .bf16 := m ((c : Thread nD τ).loc main_arg2)
/-- Argument 3: the values' weight. -/
abbrev arg3 (c : Dev nD) : FVec Ideal S128x512 .bf16 := m ((c : Thread nD τ).loc main_arg3)
/-- Argument 4: the key heads' gain. -/
abbrev arg4 (c : Dev nD) : FVec Ideal S1x128 .f32 := m ((c : Thread nD τ).loc main_arg4)

/-- The place of every window's block at point `t`. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ win0_6.index t = ![t.val, 0] :=
  (by decide +kernel : ∀ t : Fin grid0.N, _)

/-- There are 4 points. -/
theorem lt4 (t : Fin cfg0.N) : t.val < 4 := t.isLt

/-- A weight's block is the whole weight. -/
theorem weights (c : Dev nD) (t : Fin cfg0.N) : iblk m c 2 t = arg2 m c ∧ iblk m c 3 t = arg3 m c ∧ iblk m c 4 t = arg4 m c := by
  refine ⟨?_, ?_, ?_⟩ <;> (funext y; blk_point [iblk, V, idx t])

/-- A block of the latents. -/
theorem latents (c : Dev nD) (t : Fin cfg0.N) (r : Fin 512) (j : Fin 128) : iblk m c 0 t (ix2 r j) = arg0 m c (ix2 (tok (lt4 t) r) j) := by
  blk_point [iblk, V, idx t]

/-- A block of the rotary keys. -/
theorem shared (c : Dev nD) (t : Fin cfg0.N) (r : Fin 512) (j : Fin 128) : iblk m c 1 t (ix2 r j) = arg1 m c (ix2 (tok (lt4 t) r) j) := by
  blk_point [iblk, V, idx t]

/-- A block's keys, one head. -/
theorem tile (c : Dev nD) (t : Fin cfg0.N) (hd : Fin 8) (o : ℕ) (h : S512x1024.Slices ![0, o] S512x128) (ho : o = hd.val * 128)
    (x : S512x128.Idx) (i : S2048x1024.Idx) (h0 : (i 0 : ℕ) = t.val * 512 + x 0) (h1 : (i 1 : ℕ) = hd.val * 128 + x 1) :
    key (head (k0_pay2 (F := Ideal) (iblk m c 0 t) (arg2 m c)) o h) (iblk m c 1 t) (arg4 m c) x
      = val_main_v22 (F := Ideal) (arg0 m c) (arg1 m c) (arg2 m c) (arg4 m c) i := by
  obtain ⟨r, j, rfl⟩ : ∃ r j, x = ix2 r j := ⟨x 0, x 1, by blk_ext⟩
  have h0 : (i 0 : ℕ) = t.val * 512 + r.val := h0
  have e : i = ix2 (tok (lt4 t) r) ⟨hd.val * 128 + j.val, by clear h0 h1; omega⟩ := by
    have h1 : (i 1 : ℕ) = hd.val * 128 + j.val := h1
    blk_ext
  rw [e]
  subst ho
  exact key_at (lt4 t) hd _ _ (arg0 m c) (arg1 m c) (arg2 m c) (arg4 m c)
    (fun r j => (head_at _ _ h (by omega) r j).trans (up_at (lt4 t) _ (arg0 m c) (latents m c t) (arg2 m c) r _)) (shared m c t) r j

/-- The values. -/
theorem final6 (c : Dev nD) : (dats m 0 c).arrAt 6 cfg0.N = val_main_v23 (F := Ideal) (arg0 m c) (arg3 m c) := by
  refine (dats m 0 c).arrAt_eq_of_covers 6 _ (by decide +kernel) fun t _ y => ?_
  obtain ⟨h2, h3, h4⟩ := weights m c t
  blk_simp
  rw [after0_6]
  unfold out0_6
  frame_out
  rw [h3]
  obtain ⟨r, j, rfl⟩ : ∃ r j, y = ix2 r j := ⟨y 0, y 1, by blk_ext⟩
  refine (v_at (lt4 t) _ (arg0 m c) (latents m c t) (arg3 m c) r j).trans ?_
  blk_ext [idx t]

/-- The keys. -/
theorem final5 (c : Dev nD) : (dats m 0 c).arrAt 5 cfg0.N = val_main_v22 (F := Ideal) (arg0 m c) (arg1 m c) (arg2 m c) (arg4 m c) := by
  refine (dats m 0 c).arrAt_eq_of_covers 5 _ (by decide +kernel) fun t _ y => ?_
  obtain ⟨h2, h3, h4⟩ := weights m c t
  blk_simp
  rw [after0_5]
  unfold out0_5 k0_pay16
  rw [h2, h4]
  clear h2 h3 h4
  canon_tiles x h
  case piece0 =>
    frame_out
    exact (congrFun (store7 _ _ _) x).trans (tile m c t 7 _ _ rfl x _ (by blk_simp [idx t]; omega) (by blk_simp [idx t]; omega))
  case piece1 =>
    frame_out
    exact (congrFun (store6 _ _ _) x).trans (tile m c t 6 _ _ rfl x _ (by blk_simp [idx t]; omega) (by blk_simp [idx t]; omega))
  case piece2 =>
    frame_out
    exact (congrFun (store5 _ _ _) x).trans (tile m c t 5 _ _ rfl x _ (by blk_simp [idx t]; omega) (by blk_simp [idx t]; omega))
  case piece3 =>
    frame_out
    exact (congrFun (store4 _ _ _) x).trans (tile m c t 4 _ _ rfl x _ (by blk_simp [idx t]; omega) (by blk_simp [idx t]; omega))
  case piece4 =>
    frame_out
    exact (congrFun (store3 _ _ _) x).trans (tile m c t 3 _ _ rfl x _ (by blk_simp [idx t]; omega) (by blk_simp [idx t]; omega))
  case piece5 =>
    frame_out
    exact (congrFun (store2 _ _ _) x).trans (tile m c t 2 _ _ rfl x _ (by blk_simp [idx t]; omega) (by blk_simp [idx t]; omega))
  case piece6 =>
    frame_out
    exact (congrFun (store1 _ _ _ _) x).trans (tile m c t 1 _ _ rfl x _ (by blk_simp [idx t]; omega) (by blk_simp [idx t]; omega))
  case piece7 =>
    frame_out
    exact (congrFun (store0 _ _ _ _) x).trans (tile m c t 0 _ _ rfl x _ (by blk_simp [idx t]; omega) (by blk_simp [idx t]; omega))

end Cert.Kernel7Ideal.Expand

end
-- ==== Proof.Expand.Claims.lean ====
/-
  The claims about the cached context's keys and values (program `Kernel7`): the frames, and the equality of the two runs'
  two results.
-/
module

public import proofs.«01_k».proof.Defs
public import proofs.«01_k».proof.Proof.Gen.Kernel7.Frame
public import proofs.«01_k».proof.Proof.Gen.Kernel7Ideal.Frame
public import proofs.«01_k».proof.Proof.Gen.Reference7Ideal.Run
public import proofs.«01_k».proof.Proof.Expand.Value
public import Idealize.ShloMosaic.Lib.Quiescent

@[expose] public section

set_option maxRecDepth 16384

noncomputable section

namespace Cert.Proof.Expand

open Idealize.ShloMosaic Idealize.ShloMosaic.TcCoe Idealize.SL.Sem

/-- THE FRAMES. -/
theorem frame_kernel : quiescent_Kernel7 := fun m g _ => Cert.Kernel7.Gen.frame m g

theorem frame_kernelIdeal : quiescent_Kernel7Ideal := fun m g _ => Cert.Kernel7Ideal.Gen.frame m g

theorem frame_reference : quiescent_Reference7Ideal := fun m g _ =>
  (θ_run _ _ _).mono (fun r h => ⟨fun c => (h c).2.2, sem_eq_zero_of_no_sems rfl _⟩) (Cert.Reference7Ideal.Value.run m g)

/-- The two runs end with equal results. -/
theorem equal : algebraic_Kernel7Ideal_Reference7Ideal := fun m g m' g' _ hag => by
  refine ⟨fun c => (Cert.Kernel7Ideal.Gen.dats m 0 c).arrAt 5 Cert.Kernel7Ideal.cfg0.N,
    fun c => (Cert.Kernel7Ideal.Gen.dats m 0 c).arrAt 6 Cert.Kernel7Ideal.cfg0.N, Cert.Kernel7Ideal.Value.run_blocks m g, ?_⟩
  refine (θ_run _ _ _).mono (fun r hp c => ⟨(hp c).1.trans ?_, (hp c).2.1.trans ?_, (hp c).2.2⟩) (Cert.Reference7Ideal.Value.run m' g')
  · obtain ⟨h0, h1, h2, h3, h4⟩ := hag c
    rw [Cert.Reference7Ideal.Read.val_main_v22_eq, h0, h1, h2, h4]
    exact (Cert.Kernel7Ideal.Expand.final5 m c).symm
  · obtain ⟨h0, h1, h2, h3, h4⟩ := hag c
    rw [Cert.Reference7Ideal.Read.val_main_v23_eq, h0, h3]
    exact (Cert.Kernel7Ideal.Expand.final6 m c).symm

end Cert.Proof.Expand

end
-- ==== Proof.Combine.Body.lean ====
module

public import proofs.«01_k».proof.Proof.Gen.Kernel8Ideal.Frame
public import proofs.«01_k».proof.Proof.Gen.Kernel8Ideal.Skeleton
public import Idealize.ShloMosaic.Lib.Pipeline.Routed
public import Idealize.ShloMosaic.Lib.Batch
public import Idealize.ShloMosaic.Lib.Ring
public import Idealize.ShloMosaic.Lib.Tactic

@[expose] public section

noncomputable section

namespace Cert.Kernel8Ideal.Rows

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

abbrev Bf (c : Dev nD) {sp : Space} {S : Shape} {e : EltTy} (M : Memref sig .tc sp S e) : Type := Buf (Elt F) (M.view.loc (c : Thread nD τ))

/-! ## The places the body reads -/

theorem trips_eq : k0_t1_loop.trips = 256 := by decide
theorem trips2_eq : k0_t2_loop.trips = 512 := by decide
abbrev T : ℕ := k0_t1_loop.trips

abbrev i0 : S1x1x1.Idx := Shape.Idx.first (s := S1x1x1) (numel1_S1x1x1.symm ▸ Nat.one_pos)

/-- Token `t`'s two places, as trip `t` loads them. -/
abbrev wa (M : Memref sig .tc .smem S1x1x512 .i32) {c : Dev nD} (f : Bf (F := F) c M) (t : Fin k0_t1_loop.trips) : BitVec 32 :=
  M.view.readAt (Elt F) (Rect.unit (s := S1x1x512) (k0_off1 t) S1x1x1.size (k0_off1_inb t)).toLoadRect f i0
abbrev wb (M : Memref sig .tc .smem S1x1x512 .i32) {c : Dev nD} (f : Bf (F := F) c M) (t : Fin k0_t1_loop.trips) : BitVec 32 :=
  M.view.readAt (Elt F) (Rect.unit (s := S1x1x512) (k0_off4 t) S1x1x1.size (k0_off4_inb t)).toLoadRect f i0

/-- Every place is a row. -/
structure WordsOK (a b : Fin k0_t1_loop.trips → BitVec 32) : Prop where
  fst : ∀ t, (a t).toNat < 32768
  snd : ∀ t, (b t).toNat < 32768

theorem chk_a (w : BitVec 32) (h : w.toNat < 32768) : k0_chk1 w := by
  intro a; fin_cases a
  · show w.toNat + 1 ≤ 32768; omega
  · show 0 + 1024 ≤ 1024; omega
theorem chk_b (w : BitVec 32) (h : w.toNat < 32768) : k0_chk2 w := by
  intro a; fin_cases a
  · show w.toNat + 1 ≤ 32768; omega
  · show 0 + 1024 ≤ 1024; omega

/-! ## The two ends of a copy -/

/-- Row `t` of either half of the scratch. -/
def dA (t : Fin k0_t1_loop.trips) : Memref sig .tc .vmem S1x1024 .f32 :=
  (((Memref.whole cc0_scratch0).slice (Rect.unit (s := S2x256x1024) ![0, 0, 0] S1x256x1024.size inb_S2x256x1024_S1x256x1024_0_0_0) (fun _ => rfl)).squeeze S256x1024 squeezes_S1x256x1024_S256x1024).slice
    (Rect.unit (s := S256x1024) (k0_off2 t) S1x1024.size (k0_off2_inb t)) (fun _ => rfl)
def dB (t : Fin k0_t1_loop.trips) : Memref sig .tc .vmem S1x1024 .f32 :=
  (((Memref.whole cc0_scratch0).slice (Rect.unit (s := S2x256x1024) ![1, 0, 0] S1x256x1024.size inb_S2x256x1024_S1x256x1024_1_0_0) (fun _ => rfl)).squeeze S256x1024 squeezes_S1x256x1024_S256x1024).slice
    (Rect.unit (s := S256x1024) (k0_off5 t) S1x1024.size (k0_off5_inb t)) (fun _ => rfl)
/-- The row a place names. -/
def sA (w : BitVec 32) (h : k0_chk1 w) : Memref sig .tc .hbm S1x1024 .f32 :=
  (Memref.whole main_arg4).slice (Rect.unit (s := S32768x1024) (k0_off3 w) S1x1024.size (k0_off3_inb w h)) (fun _ => rfl)
def sB (w : BitVec 32) (h : k0_chk2 w) : Memref sig .tc .hbm S1x1024 .f32 :=
  (Memref.whole main_arg4).slice (Rect.unit (s := S32768x1024) (k0_off6 w) S1x1024.size (k0_off6_inb w h)) (fun _ => rfl)

/-- One row's credit. -/
abbrev NN : ℕ := 128

section Deliveries

variable (c : Dev nD) {a b : Fin k0_t1_loop.trips → BitVec 32} (hok : WordsOK a b)
  (fv : Bf (F := F) c (Memref.whole cc0_scratch0)) (fs : Bf (F := F) c (Memref.whole main_arg4))

abbrev fvA (t : Fin k0_t1_loop.trips) : Buf (Elt F) ((dA t).view.loc (c : Thread nD τ)) := fv
abbrev fvB (t : Fin k0_t1_loop.trips) : Buf (Elt F) ((dB t).view.loc (c : Thread nD τ)) := fv
abbrev fsA (t : Fin k0_t1_loop.trips) : Buf (Elt F) ((sA (a t) (chk_a _ (hok.fst t))).view.loc (c : Thread nD τ)) := fs
abbrev fsB (t : Fin k0_t1_loop.trips) : Buf (Elt F) ((sB (b t) (chk_b _ (hok.snd t))).view.loc (c : Thread nD τ)) := fs

abbrev landA (t : Fin k0_t1_loop.trips) : Buf (Elt F) ((dA t).view.loc (c : Thread nD τ)) :=
  (dA t).view.writes (Elt F) (fvA c fv t) [⟨Rect.whole S1x1024, ReadAs.same.apply ((sA (a t) (chk_a _ (hok.fst t))).view.read (Elt F) (fsA c hok fs t))⟩]
abbrev landB (t : Fin k0_t1_loop.trips) : Buf (Elt F) ((dB t).view.loc (c : Thread nD τ)) :=
  (dB t).view.writes (Elt F) (fvB c fv t) [⟨Rect.whole S1x1024, ReadAs.same.apply ((sB (b t) (chk_b _ (hok.snd t))).view.read (Elt F) (fsB c hok fs t))⟩]

/-- A copy's row as it lands, as it was, and the row read, under the copy's own share. -/
abbrev gotA (t : Fin k0_t1_loop.trips) : sProp 𝕄 :=
  iprop((dA t).view.loc (c : Thread nD τ) ↦[(dA t).view.set]{fullShare} landA c hok fv fs t)
abbrev gotB (t : Fin k0_t1_loop.trips) : sProp 𝕄 :=
  iprop((dB t).view.loc (c : Thread nD τ) ↦[(dB t).view.set]{fullShare} landB c hok fv fs t)
abbrev hadA (t : Fin k0_t1_loop.trips) : sProp 𝕄 :=
  iprop((dA t).view.loc (c : Thread nD τ) ↦[(dA t).view.set]{fullShare} fvA c fv t)
abbrev hadB (t : Fin k0_t1_loop.trips) : sProp 𝕄 :=
  iprop((dB t).view.loc (c : Thread nD τ) ↦[(dB t).view.set]{fullShare} fvB c fv t)
abbrev srcA (t : Fin k0_t1_loop.trips) : sProp 𝕄 :=
  iprop((sA (a t) (chk_a _ (hok.fst t))).view.loc (c : Thread nD τ) ↦[(sA (a t) (chk_a _ (hok.fst t))).view.set]{Transfers.shareTokN fullShare (2 * t.val)} fsA c hok fs t)
abbrev srcB (t : Fin k0_t1_loop.trips) : sProp 𝕄 :=
  iprop((sB (b t) (chk_b _ (hok.snd t))).view.loc (c : Thread nD τ) ↦[(sB (b t) (chk_b _ (hok.snd t))).view.set]{Transfers.shareTokN fullShare (2 * t.val + 1)} fsB c hok fs t)

abbrev outA (i : ℕ) : sProp 𝕄 :=
  iprop((if h : i < T then gotA c hok fv fs ⟨i, h⟩ else (BIBase.emp : sProp 𝕄)) ∗ (if h : i < T then srcA c hok fs ⟨i, h⟩ else (BIBase.emp : sProp 𝕄)))
abbrev outB (i : ℕ) : sProp 𝕄 :=
  iprop((if h : i < T then gotB c hok fv fs ⟨i, h⟩ else (BIBase.emp : sProp 𝕄)) ∗ (if h : i < T then srcB c hok fs ⟨i, h⟩ else (BIBase.emp : sProp 𝕄)))
abbrev D : Fin (2 * T) → sProp 𝕄 := Ring.interleaved T (outA c hok fv fs) (outB c hok fv fs)

instance outA_storable (i : ℕ) : BI.Storable (upEmb : UEmb _ 𝕄) (outA c hok fv fs i) := by
  unfold outA; split <;> infer_instance
instance outB_storable (i : ℕ) : BI.Storable (upEmb : UEmb _ 𝕄) (outB c hok fv fs i) := by
  unfold outB; split <;> infer_instance

/-- The copies on the one cell: `j` started, `u` of their credit taken. -/
abbrev batch (j u : ℕ) : sProp 𝕄 :=
  Transfers.Batch countersEmb (c : Thread nD τ) (.dma cc0_scratch1.sem) () NN (D c hok fv fs) j u

end Deliveries

/-! ## Starting the copies -/

section Issue

variable (c : Dev nD) (M : Memref sig .tc .smem S1x1x512 .i32) (f : Bf (F := F) c M)
  (hok : WordsOK (wa M f) (wb M f)) (fv : Bf (F := F) c (Memref.whole cc0_scratch0)) (fs : Bf (F := F) c (Memref.whole main_arg4))

def issueAt (k : ℕ) (_ : Unit) : sProp 𝕄 :=
  iprop(batch c hok fv fs (2 * k) 0
    ∗ bigSep (Ring.rangeSet T k T) (hadA c fv) ∗ bigSep (Ring.rangeSet T k T) (hadB c fv)
    ∗ bigSep (Ring.rangeSet T k T) (srcA c hok fs) ∗ bigSep (Ring.rangeSet T k T) (srcB c hok fs)
    ∗ M.view.loc (c : Thread nD τ) ↦[M.view.set]{fullShare} f)

theorem issue_step [∀ e, Nonempty (Elt F e)] (i : grid0.Coords) (hM : M.IsWhole)
    (M2 : Memref sig .tc .vmem S256x1024 .f32) (h2 : M2.IsWhole) (M3 : Memref sig .tc .vmem S1x1x1024 .f32) (h3 : M3.IsWhole)
    (M4 : Memref sig .tc .vmem S256x128 .f32) (h4 : M4.IsWhole) (M6 : Memref sig .tc .vmem S256x1024 .f32) (h6 : M6.IsWhole)
    (k : Fin k0_t1_loop.trips) (acc : Unit) :
    issueAt c M f hok fv fs k acc
      ⊢ wp frame (wpE (defs₀ (F := F)) Variants.none c none) Set.univ
          (k0_t1_body i M hM M2 h2 M3 h3 M4 h4 (Memref.whole main_arg4) (Memref.isWhole_whole _) M6 h6 (Memref.whole cc0_scratch0) (Memref.isWhole_whole _) cc0_scratch1 k acc)
          (issueAt c M f hok fv fs (k.val + 1)) := by
  have hk := k.isLt
  have ht0 : 2 * k.val < 2 * T := by unfold T; omega
  have ht1 : 2 * k.val + 1 < 2 * T := by unfold T; omega
  have hca : k0_chk1 (wa M f k) := chk_a _ (hok.fst k)
  have hcb : k0_chk2 (wb M f k) := chk_b _ (hok.snd k)
  unfold issueAt
  rw [Ring.bigSep_rangeSet_head (Φ := hadA c fv) hk hk, Ring.bigSep_rangeSet_head (Φ := hadB c fv) hk hk,
    Ring.bigSep_rangeSet_head (Φ := srcA c hok fs) hk hk, Ring.bigSep_rangeSet_head (Φ := srcB c hok fs) hk hk,
    show 2 * (k.val + 1) = 2 * k.val + 1 + 1 by omega]
  unfold hadA hadB srcA srcB
  iintro ⟨HB, ⟨HA, HAs⟩, ⟨HV, HVs⟩, ⟨HS, HSs⟩, ⟨HR, HRs⟩, H0⟩
  dsimp only [k0_t1_body]
  sl_exec (disch := first | exact hca | exact hcb | exact ht0 | exact ht1 | omega)
  sl_step
  isplitl [HB]; · iexact HB
  isplitl [HAs]; · iexact HAs
  isplitl [HVs]; · iexact HVs
  isplitl [HSs]; · iexact HSs
  isplitl [HRs]; · iexact HRs
  iexact H0

end Issue

/-! ## Draining the cell -/

section Drain

variable (c : Dev nD) {a b : Fin k0_t1_loop.trips → BitVec 32} (hok : WordsOK a b)
  (fv : Bf (F := F) c (Memref.whole cc0_scratch0)) (fs : Bf (F := F) c (Memref.whole main_arg4))

def drainAt (k : ℕ) (_ : Unit) : sProp 𝕄 :=
  iprop((∃ W, owes (c : Thread nD τ) 0 W)
    ∗ (if k < 2 * T then batch c hok fv fs (2 * T) (k * NN)
       else iprop(semVal ((c : Thread nD τ), SemLoc.dma cc0_scratch1.sem) 0 ∗ bigSep Finset.univ (D c hok fv fs))))

theorem drain_step [∀ e, Nonempty (Elt F e)] (i : grid0.Coords) (M : Memref sig .tc .smem S1x1x512 .i32) (hM : M.IsWhole)
    (M2 : Memref sig .tc .vmem S256x1024 .f32) (h2 : M2.IsWhole) (M3 : Memref sig .tc .vmem S1x1x1024 .f32) (h3 : M3.IsWhole)
    (M4 : Memref sig .tc .vmem S256x128 .f32) (h4 : M4.IsWhole) (M6 : Memref sig .tc .vmem S256x1024 .f32) (h6 : M6.IsWhole)
    (k : Fin k0_t2_loop.trips) (acc : Unit) :
    drainAt c hok fv fs k acc
      ⊢ wp frame (wpE (defs₀ (F := F)) Variants.none c none) Set.univ
          (k0_t2_body i M hM M2 h2 M3 h3 M4 h4 (Memref.whole main_arg4) (Memref.isWhole_whole _) M6 h6 (Memref.whole cc0_scratch0) (Memref.isWhole_whole _) cc0_scratch1 k acc)
          (drainAt c hok fv fs (k.val + 1)) := by
  have hk : k.val < 512 := trips2_eq ▸ k.isLt
  have hT : T = 256 := trips_eq
  unfold drainAt
  rw [if_pos (show k.val < 2 * T by omega)]
  rcases Nat.lt_or_ge (k.val + 1) (2 * T) with h1 | h1
  · simp only [if_pos h1]
    iintro ⟨⟨%W, HO⟩, HB⟩
    dsimp only [k0_t2_body]
    sl_exec
    sl_step
    isplitl [HO]; · iexists _; iexact HO
    rw [show (k.val + 1) * NN = k.val * NN + NN from Nat.succ_mul _ _]
    iexact HB
  · have hl : k.val + 1 = 2 * T := by omega
    simp only [if_neg (Nat.not_lt.mpr h1)]
    iintro ⟨⟨%W, HO⟩, HB⟩
    dsimp only [k0_t2_body]
    sl_exec
    sl_step
    isplitl [HO]; · iexists _; iexact HO
    isplitl [HB]; · iexact HB
    iexact HB_all

end Drain

end Cert.Kernel8Ideal.Rows

end
-- ==== Proof.Combine.Rows.lean ====
module

public import proofs.«01_k».proof.Proof.Combine.Body
public import Idealize.ShloMosaic.Lib.ValueLayout

@[expose] public section

noncomputable section

namespace Cert.Kernel8Ideal.Rows

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)
open Idealize.ShloMosaic.ValueIdx

variable {F : FTy → Type} [FloatOps F]

local notation "𝕄" => MT nD τ sig Unit (Elt F) ℕ (UC sig nD τ) ℕ

/-! ## Where the offsets are -/

theorem off2_0 : ∀ t : Fin k0_t1_loop.trips, k0_off2 t 0 = t.val := by decide +kernel
theorem off2_1 : ∀ t : Fin k0_t1_loop.trips, k0_off2 t 1 = 0 := by decide +kernel
theorem off5_0 : ∀ t : Fin k0_t1_loop.trips, k0_off5 t 0 = t.val := by decide +kernel
theorem off5_1 : ∀ t : Fin k0_t1_loop.trips, k0_off5 t 1 = 0 := by decide +kernel

abbrev tr (n : Fin 256) : Fin k0_t1_loop.trips := ⟨n.val, n.isLt.trans_eq trips_eq.symm⟩
abbrev rt (t : Fin k0_t1_loop.trips) : Fin 256 := ⟨t.val, t.isLt.trans_eq trips_eq⟩

theorem dA_emb (t : Fin k0_t1_loop.trips) (z : S1x1024.Idx) : (dA t).view.emb z = ix3 (n0 := 2) (n1 := 256) (n2 := 1024) 0 (rt t) (z 1) := by
  have hz : (z 0).val < 1 := (z 0).isLt
  have e : (Rect.unit (s := S256x1024) (k0_off2 t) S1x1024.size (k0_off2_inb t)).emb z = ix2 (n0 := 256) (n1 := 1024) (rt t) (z 1) := by
    funext a; apply Fin.ext; rw [Rect.emb_apply]; fin_cases a
    · show k0_off2 t 0 + 1 * (z 0).val = t.val; rw [off2_0]; omega
    · show k0_off2 t 1 + 1 * (z 1).val = (z 1).val; rw [off2_1]; omega
  show (Rect.unit (s := S2x256x1024) ![0, 0, 0] S1x256x1024.size inb_S2x256x1024_S1x256x1024_0_0_0).emb
    (Shape.reshapeEquiv _ ((Rect.unit (s := S256x1024) (k0_off2 t) S1x1024.size (k0_off2_inb t)).emb z)) = _
  rw [e]
  erw [reshapeEquiv_ix2_1ab]
  funext a; apply Fin.ext; rw [Rect.emb_apply]; fin_cases a
  · rfl
  · show 0 + 1 * t.val = t.val; omega
  · show 0 + 1 * (z 1).val = (z 1).val; omega
theorem dB_emb (t : Fin k0_t1_loop.trips) (z : S1x1024.Idx) : (dB t).view.emb z = ix3 (n0 := 2) (n1 := 256) (n2 := 1024) 1 (rt t) (z 1) := by
  have hz : (z 0).val < 1 := (z 0).isLt
  have e : (Rect.unit (s := S256x1024) (k0_off5 t) S1x1024.size (k0_off5_inb t)).emb z = ix2 (n0 := 256) (n1 := 1024) (rt t) (z 1) := by
    funext a; apply Fin.ext; rw [Rect.emb_apply]; fin_cases a
    · show k0_off5 t 0 + 1 * (z 0).val = t.val; rw [off5_0]; omega
    · show k0_off5 t 1 + 1 * (z 1).val = (z 1).val; rw [off5_1]; omega
  show (Rect.unit (s := S2x256x1024) ![1, 0, 0] S1x256x1024.size inb_S2x256x1024_S1x256x1024_1_0_0).emb
    (Shape.reshapeEquiv _ ((Rect.unit (s := S256x1024) (k0_off5 t) S1x1024.size (k0_off5_inb t)).emb z)) = _
  rw [e]
  erw [reshapeEquiv_ix2_1ab]
  funext a; apply Fin.ext; rw [Rect.emb_apply]; fin_cases a
  · rfl
  · show 0 + 1 * t.val = t.val; omega
  · show 0 + 1 * (z 1).val = (z 1).val; omega
theorem sA_emb (w : BitVec 32) (h : w.toNat < 32768) (z : S1x1024.Idx) :
    (sA w (chk_a w h)).view.emb z = ix2 (n0 := 32768) (n1 := 1024) ⟨w.toNat, h⟩ (z 1) := by
  have hz : (z 0).val < 1 := (z 0).isLt
  show (Rect.unit (s := S32768x1024) (k0_off3 w) S1x1024.size (k0_off3_inb w (chk_a w h))).emb z = _
  funext a; apply Fin.ext; rw [Rect.emb_apply]; fin_cases a
  · show w.toNat + 1 * (z 0).val = w.toNat; omega
  · show 0 + 1 * (z 1).val = (z 1).val; omega
theorem sB_emb (w : BitVec 32) (h : w.toNat < 32768) (z : S1x1024.Idx) :
    (sB w (chk_b w h)).view.emb z = ix2 (n0 := 32768) (n1 := 1024) ⟨w.toNat, h⟩ (z 1) := by
  have hz : (z 0).val < 1 := (z 0).isLt
  show (Rect.unit (s := S32768x1024) (k0_off6 w) S1x1024.size (k0_off6_inb w (chk_b w h))).emb z = _
  funext a; apply Fin.ext; rw [Rect.emb_apply]; fin_cases a
  · show w.toNat + 1 * (z 0).val = w.toNat; omega
  · show 0 + 1 * (z 1).val = (z 1).val; omega

/-! ## The scratch by rows -/

abbrev setA (c : Dev nD) (t : Fin k0_t1_loop.trips) : Finset (Idx ((Memref.whole cc0_scratch0 : Memref sig .tc .vmem S2x256x1024 .f32).view.loc (c : Thread nD τ))) := (dA t).view.set
abbrev setB (c : Dev nD) (t : Fin k0_t1_loop.trips) : Finset (Idx ((Memref.whole cc0_scratch0 : Memref sig .tc .vmem S2x256x1024 .f32).view.loc (c : Thread nD τ))) := (dB t).view.set

theorem mem_setA (c : Dev nD) (t : Fin k0_t1_loop.trips) (y : S2x256x1024.Idx) : y ∈ setA c t ↔ (y 0).val = 0 ∧ (y 1).val = t.val := by
  constructor
  · intro h
    obtain ⟨z, -, hz⟩ := Finset.mem_map.mp h
    have hy := hz.symm.trans (dA_emb t z)
    subst hy; exact ⟨rfl, rfl⟩
  · rintro ⟨h0, h1⟩
    refine Finset.mem_map.mpr ⟨ix2 (n0 := 1) (n1 := 1024) 0 (y 2), Finset.mem_univ _, ?_⟩
    refine (dA_emb t _).trans ?_
    funext a; apply Fin.ext; fin_cases a
    · exact h0.symm
    · exact h1.symm
    · rfl
theorem mem_setB (c : Dev nD) (t : Fin k0_t1_loop.trips) (y : S2x256x1024.Idx) : y ∈ setB c t ↔ (y 0).val = 1 ∧ (y 1).val = t.val := by
  constructor
  · intro h
    obtain ⟨z, -, hz⟩ := Finset.mem_map.mp h
    have hy := hz.symm.trans (dB_emb t z)
    subst hy; exact ⟨rfl, rfl⟩
  · rintro ⟨h0, h1⟩
    refine Finset.mem_map.mpr ⟨ix2 (n0 := 1) (n1 := 1024) 0 (y 2), Finset.mem_univ _, ?_⟩
    refine (dB_emb t _).trans ?_
    funext a; apply Fin.ext; fin_cases a
    · exact h0.symm
    · exact h1.symm
    · rfl

abbrev RS : Finset (Fin k0_t1_loop.trips) := Ring.rangeSet T 0 T

theorem disjA (c : Dev nD) : ∀ t ∈ RS, ∀ t' ∈ RS, t ≠ t' → Disjoint (setA c t) (setA c t') := by
  intro t _ t' _ hne
  rw [Finset.disjoint_left]; intro y hy hy'
  rw [mem_setA] at hy hy'
  exact hne (Fin.ext (hy.2.symm.trans hy'.2))
theorem disjB (c : Dev nD) : ∀ t ∈ RS, ∀ t' ∈ RS, t ≠ t' → Disjoint (setB c t) (setB c t') := by
  intro t _ t' _ hne
  rw [Finset.disjoint_left]; intro y hy hy'
  rw [mem_setB] at hy hy'
  exact hne (Fin.ext (hy.2.symm.trans hy'.2))
theorem rest_eq (c : Dev nD) : Finset.univ \ RS.biUnion (setA c) = RS.biUnion (setB c) := by
  refine Finset.ext fun (y : S2x256x1024.Idx) => ?_
  have h0 : (y 0).val < 2 := (y 0).isLt
  have h1 : (y 1).val < 256 := (y 1).isLt
  simp only [Finset.mem_sdiff, Finset.mem_univ, true_and, Finset.mem_biUnion]
  simp only [mem_setA c _ y, mem_setB c _ y]
  rw [show RS = Finset.univ from Ring.rangeSet_univ]
  simp only [Finset.mem_univ, true_and]
  constructor
  · intro h
    refine ⟨tr ⟨(y 1).val, h1⟩, ?_, rfl⟩
    by_contra hne
    exact h ⟨tr ⟨(y 1).val, h1⟩, by omega, rfl⟩
  · rintro ⟨t, ht, -⟩ ⟨t', ht', -⟩; omega

theorem scr_split (c : Dev nD) (g : Bf (F := F) c (Memref.whole cc0_scratch0)) :
    ((Memref.whole cc0_scratch0 : Memref sig .tc .vmem S2x256x1024 .f32).view.loc (c : Thread nD τ) ↦{fullShare} g : sProp 𝕄)
      = iprop((bigSep RS fun t => (dA t).view.loc (c : Thread nD τ) ↦[(dA t).view.set]{fullShare} fvA c g t)
          ∗ (bigSep RS fun t => (dB t).view.loc (c : Thread nD τ) ↦[(dB t).view.set]{fullShare} fvB c g t)) := by
  have hs : ((Memref.whole cc0_scratch0 : Memref sig .tc .vmem S2x256x1024 .f32).view.loc (c : Thread nD τ) ↦[Finset.univ]{fullShare} g : sProp 𝕄)
      ⊣⊢ iprop(((Memref.whole cc0_scratch0 : Memref sig .tc .vmem S2x256x1024 .f32).view.loc (c : Thread nD τ) ↦[RS.biUnion (setA c)]{fullShare} g)
        ∗ (Memref.whole cc0_scratch0 : Memref sig .tc .vmem S2x256x1024 .f32).view.loc (c : Thread nD τ) ↦[Finset.univ \ RS.biUnion (setA c)]{fullShare} g) :=
    pointsTo_split_subset (Finset.subset_univ _)
  refine (BI.equiv_iff.mp ⟨hs.1, hs.2⟩).trans ?_
  rw [rest_eq c]
  have eA : ((Memref.whole cc0_scratch0 : Memref sig .tc .vmem S2x256x1024 .f32).view.loc (c : Thread nD τ) ↦[RS.biUnion (setA c)]{fullShare} g : sProp 𝕄)
      = bigSep RS fun t => (Memref.whole cc0_scratch0 : Memref sig .tc .vmem S2x256x1024 .f32).view.loc (c : Thread nD τ) ↦[setA c t]{fullShare} g :=
    pointsTo_biUnion RS (setA c) (disjA c)
  have eB : ((Memref.whole cc0_scratch0 : Memref sig .tc .vmem S2x256x1024 .f32).view.loc (c : Thread nD τ) ↦[RS.biUnion (setB c)]{fullShare} g : sProp 𝕄)
      = bigSep RS fun t => (Memref.whole cc0_scratch0 : Memref sig .tc .vmem S2x256x1024 .f32).view.loc (c : Thread nD τ) ↦[setB c t]{fullShare} g :=
    pointsTo_biUnion RS (setB c) (disjB c)
  exact congrArg₂ (fun P Q : sProp 𝕄 => iprop(P ∗ Q)) eA eB

section Landed

variable (c : Dev nD) {a b : Fin k0_t1_loop.trips → BitVec 32} (hok : WordsOK a b)
  (fv : Bf (F := F) c (Memref.whole cc0_scratch0)) (fs : Bf (F := F) c (Memref.whole main_arg4))

/-- The scratch with every row landed: token `t`'s two rows. -/
def buf : Bf (F := F) c (Memref.whole cc0_scratch0) := fun y =>
  if (y 0).val = 0 then fs (ix2 (n0 := 32768) (n1 := 1024) ⟨(a (tr (y 1))).toNat, hok.fst _⟩ (y 2))
  else fs (ix2 (n0 := 32768) (n1 := 1024) ⟨(b (tr (y 1))).toNat, hok.snd _⟩ (y 2))

theorem buf_A (n : Fin 256) (z : Fin 1024) :
    buf c hok fs (ix3 (n0 := 2) (n1 := 256) (n2 := 1024) 0 n z) = fs (ix2 (n0 := 32768) (n1 := 1024) ⟨(a (tr n)).toNat, hok.fst _⟩ z) := if_pos rfl
theorem buf_B (n : Fin 256) (z : Fin 1024) :
    buf c hok fs (ix3 (n0 := 2) (n1 := 256) (n2 := 1024) 1 n z) = fs (ix2 (n0 := 32768) (n1 := 1024) ⟨(b (tr n)).toNat, hok.snd _⟩ z) := if_neg Nat.one_ne_zero

theorem read_A (t : Fin k0_t1_loop.trips) (z : S1x1024.Idx) : (sA (a t) (chk_a _ (hok.fst t))).view.read (Elt F) (fsA c hok fs t) z = fs (ix2 (n0 := 32768) (n1 := 1024) ⟨(a t).toNat, hok.fst t⟩ (z 1)) :=
  congrArg fs (sA_emb (a t) (hok.fst t) z)
theorem full_A (t : Fin k0_t1_loop.trips) (z : S1x1024.Idx) : fvA c (buf c hok fs) t ((dA t).view.emb z) = fs (ix2 (n0 := 32768) (n1 := 1024) ⟨(a t).toNat, hok.fst t⟩ (z 1)) :=
  (congrArg (buf c hok fs) (dA_emb t z)).trans (buf_A c hok fs (rt t) (z 1))
theorem land_A (t : Fin k0_t1_loop.trips) (z : S1x1024.Idx) : (dA t).view.read (Elt F) (landA c hok fv fs t) z = (sA (a t) (chk_a _ (hok.fst t))).view.read (Elt F) (fsA c hok fs t) z := by
  have h := View.read_writes_cons_emb (Val := Elt F) (dA t).view (fvA c fv t) (Rect.whole S1x1024)
    (ReadAs.same.apply ((sA (a t) (chk_a _ (hok.fst t))).view.read (Elt F) (fsA c hok fs t))) [] z
  rw [Rect.emb_whole_apply] at h
  exact h
theorem landA_eq (t : Fin k0_t1_loop.trips) : ∀ i ∈ (dA t).view.set, landA c hok fv fs t i = fvA c (buf c hok fs) t i := by
  intro i hi
  obtain ⟨z, -, rfl⟩ := Finset.mem_map.mp hi
  have h1 : (dA t).view.read (Elt F) (landA c hok fv fs t) z = (dA t).view.read (Elt F) (fvA c (buf c hok fs) t) z :=
    (land_A c hok fv fs t z).trans ((read_A c hok fs t z).trans (full_A c hok fs t z).symm)
  rw [View.read_apply, View.read_apply] at h1
  exact eq_of_heq ((cast_heq _ _).symm.trans ((heq_of_eq h1).trans (cast_heq _ _)))
theorem read_B (t : Fin k0_t1_loop.trips) (z : S1x1024.Idx) : (sB (b t) (chk_b _ (hok.snd t))).view.read (Elt F) (fsB c hok fs t) z = fs (ix2 (n0 := 32768) (n1 := 1024) ⟨(b t).toNat, hok.snd t⟩ (z 1)) :=
  congrArg fs (sB_emb (b t) (hok.snd t) z)
theorem full_B (t : Fin k0_t1_loop.trips) (z : S1x1024.Idx) : fvB c (buf c hok fs) t ((dB t).view.emb z) = fs (ix2 (n0 := 32768) (n1 := 1024) ⟨(b t).toNat, hok.snd t⟩ (z 1)) :=
  (congrArg (buf c hok fs) (dB_emb t z)).trans (buf_B c hok fs (rt t) (z 1))
theorem land_B (t : Fin k0_t1_loop.trips) (z : S1x1024.Idx) : (dB t).view.read (Elt F) (landB c hok fv fs t) z = (sB (b t) (chk_b _ (hok.snd t))).view.read (Elt F) (fsB c hok fs t) z := by
  have h := View.read_writes_cons_emb (Val := Elt F) (dB t).view (fvB c fv t) (Rect.whole S1x1024)
    (ReadAs.same.apply ((sB (b t) (chk_b _ (hok.snd t))).view.read (Elt F) (fsB c hok fs t))) [] z
  rw [Rect.emb_whole_apply] at h
  exact h
theorem landB_eq (t : Fin k0_t1_loop.trips) : ∀ i ∈ (dB t).view.set, landB c hok fv fs t i = fvB c (buf c hok fs) t i := by
  intro i hi
  obtain ⟨z, -, rfl⟩ := Finset.mem_map.mp hi
  have h1 : (dB t).view.read (Elt F) (landB c hok fv fs t) z = (dB t).view.read (Elt F) (fvB c (buf c hok fs) t) z :=
    (land_B c hok fv fs t z).trans ((read_B c hok fs t z).trans (full_B c hok fs t z).symm)
  rw [View.read_apply, View.read_apply] at h1
  exact eq_of_heq ((cast_heq _ _).symm.trans ((heq_of_eq h1).trans (cast_heq _ _)))

theorem got_join :
    iprop(bigSep RS (gotA c hok fv fs) ∗ bigSep RS (gotB c hok fv fs))
      = ((Memref.whole cc0_scratch0 : Memref sig .tc .vmem S2x256x1024 .f32).view.loc (c : Thread nD τ) ↦{fullShare} buf c hok fs : sProp 𝕄) := by
  rw [scr_split c (buf c hok fs)]
  have eA : ∀ t ∈ RS, gotA c hok fv fs t = ((dA t).view.loc (c : Thread nD τ) ↦[(dA t).view.set]{fullShare} fvA c (buf c hok fs) t : sProp 𝕄) :=
    fun t _ => pointsTo_congr (landA_eq c hok fv fs t)
  have eB : ∀ t ∈ RS, gotB c hok fv fs t = ((dB t).view.loc (c : Thread nD τ) ↦[(dB t).view.set]{fullShare} fvB c (buf c hok fs) t : sProp 𝕄) :=
    fun t _ => pointsTo_congr (landB_eq c hok fv fs t)
  rw [BI.bigSep_congr eA, BI.bigSep_congr eB]

/-! ## The rows read, each under a share of its own -/

abbrev ys (q : PosShare TreeShare) : sProp 𝕄 :=
  iprop((Memref.whole main_arg4 : Memref sig .tc .hbm S32768x1024 .f32).view.loc (c : Thread nD τ) ↦{q} fs)
abbrev offA (t : Fin k0_t1_loop.trips) : sProp 𝕄 :=
  iprop((Memref.whole main_arg4 : Memref sig .tc .hbm S32768x1024 .f32).view.loc (c : Thread nD τ)
    ↦[Finset.univ \ (sA (a t) (chk_a _ (hok.fst t))).view.set]{Transfers.shareTokN fullShare (2 * t.val)} fs)
abbrev offB (t : Fin k0_t1_loop.trips) : sProp 𝕄 :=
  iprop((Memref.whole main_arg4 : Memref sig .tc .hbm S32768x1024 .f32).view.loc (c : Thread nD τ)
    ↦[Finset.univ \ (sB (b t) (chk_b _ (hok.snd t))).view.set]{Transfers.shareTokN fullShare (2 * t.val + 1)} fs)

theorem tokA (t : Fin k0_t1_loop.trips) : ys c fs (Transfers.shareTokN fullShare (2 * t.val)) = iprop(srcA c hok fs t ∗ offA c hok fs t) := by
  have hs : ((Memref.whole main_arg4 : Memref sig .tc .hbm S32768x1024 .f32).view.loc (c : Thread nD τ) ↦[Finset.univ]{Transfers.shareTokN fullShare (2 * t.val)} fs : sProp 𝕄)
      ⊣⊢ iprop(((Memref.whole main_arg4 : Memref sig .tc .hbm S32768x1024 .f32).view.loc (c : Thread nD τ) ↦[(sA (a t) (chk_a _ (hok.fst t))).view.set]{Transfers.shareTokN fullShare (2 * t.val)} fs)
        ∗ offA c hok fs t) := pointsTo_split_subset (Finset.subset_univ _)
  exact BI.equiv_iff.mp ⟨hs.1, hs.2⟩
theorem tokB (t : Fin k0_t1_loop.trips) : ys c fs (Transfers.shareTokN fullShare (2 * t.val + 1)) = iprop(srcB c hok fs t ∗ offB c hok fs t) := by
  have hs : ((Memref.whole main_arg4 : Memref sig .tc .hbm S32768x1024 .f32).view.loc (c : Thread nD τ) ↦[Finset.univ]{Transfers.shareTokN fullShare (2 * t.val + 1)} fs : sProp 𝕄)
      ⊣⊢ iprop(((Memref.whole main_arg4 : Memref sig .tc .hbm S32768x1024 .f32).view.loc (c : Thread nD τ) ↦[(sB (b t) (chk_b _ (hok.snd t))).view.set]{Transfers.shareTokN fullShare (2 * t.val + 1)} fs)
        ∗ offB c hok fs t) := pointsTo_split_subset (Finset.subset_univ _)
  exact BI.equiv_iff.mp ⟨hs.1, hs.2⟩

theorem ys_split :
    ys c fs fullShare
      = iprop(ys c fs (Transfers.shareDrop fullShare (2 * T))
          ∗ (bigSep RS (srcA c hok fs) ∗ bigSep RS (offA c hok fs)) ∗ (bigSep RS (srcB c hok fs) ∗ bigSep RS (offB c hok fs))) := by
  have h := Transfers.pointsTo_toks_range (Ix := Unit) (Name := ℕ) (U := UC sig nD τ) (Lvl := ℕ)
    (ℓ := (Memref.whole main_arg4 : Memref sig .tc .hbm S32768x1024 .f32).view.loc (c : Thread nD τ)) (S := Finset.univ) (f := fs) fullShare (2 * T)
  refine (BI.equiv_iff.mp ⟨h.1, h.2⟩).trans ?_
  have eA : bigSep (Finset.range T) (fun k => ys c fs (Transfers.shareTokN fullShare (2 * k))) = bigSep RS (fun t => ys c fs (Transfers.shareTokN fullShare (2 * t.val))) :=
    (Ring.bigSep_rangeSet_eq_range (NB := T) (lo := 0) (hi := T) le_rfl (Φ := fun t => ys c fs (Transfers.shareTokN fullShare (2 * t.val))) _
      (fun k hk => by simp only [Nat.zero_add])).symm
  have eB : bigSep (Finset.range T) (fun k => ys c fs (Transfers.shareTokN fullShare (2 * k + 1))) = bigSep RS (fun t => ys c fs (Transfers.shareTokN fullShare (2 * t.val + 1))) :=
    (Ring.bigSep_rangeSet_eq_range (NB := T) (lo := 0) (hi := T) le_rfl (Φ := fun t => ys c fs (Transfers.shareTokN fullShare (2 * t.val + 1))) _
      (fun k hk => by simp only [Nat.zero_add])).symm
  rw [BI.bigSep_congr (fun t _ => tokA c hok fs t), BI.bigSep_sep'] at eA
  rw [BI.bigSep_congr (fun t _ => tokB c hok fs t), BI.bigSep_sep'] at eB
  rw [Ring.bigSep_range_deinterleave]
  exact congrArg₂ (fun P Q : sProp 𝕄 => iprop(ys c fs (Transfers.shareDrop fullShare (2 * T)) ∗ P ∗ Q)) eA eB

theorem fam_eq (Φ : Fin T → sProp 𝕄) :
    bigSep (Finset.range T) (fun i => if h : i < T then Φ ⟨i, h⟩ else (BIBase.emp : sProp 𝕄)) = bigSep RS Φ := by
  refine (Ring.bigSep_rangeSet_eq_range (NB := T) (lo := 0) (hi := T) le_rfl (Φ := Φ) _ (fun k hk => ?_)).symm
  have hk' : k < T := by omega
  rw [dif_pos hk']; congr 1; exact Fin.ext (Nat.zero_add k).symm

/-- Every delivery: the rows landed, and the rows read back. -/
theorem deliveries_split :
    bigSep Finset.univ (D c hok fv fs)
      = iprop((bigSep RS (gotA c hok fv fs) ∗ bigSep RS (srcA c hok fs)) ∗ (bigSep RS (gotB c hok fv fs) ∗ bigSep RS (srcB c hok fs))) := by
  unfold D
  rw [Ring.bigSep_interleaved]
  unfold outA outB
  rw [BI.bigSep_sep', BI.bigSep_sep', fam_eq (F := F) (gotA c hok fv fs), fam_eq (F := F) (srcA c hok fs), fam_eq (F := F) (gotB c hok fv fs), fam_eq (F := F) (srcB c hok fs)]

end Landed

end Cert.Kernel8Ideal.Rows

end
-- ==== Proof.Combine.Run.lean ====
module

public import proofs.«01_k».proof.Proof.Combine.Rows

@[expose] public section

noncomputable section

namespace Cert.Kernel8Ideal.Rows

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)
open Idealize.ShloMosaic.ValueIdx

variable {F : FTy → Type} [FloatOps F]

local notation "𝕄" => MT nD τ sig Unit (Elt F) ℕ (UC sig nD τ) ℕ

variable (c : Dev nD) (M : Memref sig .tc .smem S1x1x512 .i32) (f : Bf (F := F) c M)
  (hok : WordsOK (wa M f) (wb M f)) (fv : Bf (F := F) c (Memref.whole cc0_scratch0)) (fs : Bf (F := F) c (Memref.whole main_arg4))

abbrev cell0 : sProp 𝕄 := semVal ((c : Thread nD τ), SemLoc.dma cc0_scratch1.sem) 0
abbrev scr (g : Bf (F := F) c (Memref.whole cc0_scratch0)) : sProp 𝕄 :=
  iprop((Memref.whole cc0_scratch0 : Memref sig .tc .vmem S2x256x1024 .f32).view.loc (c : Thread nD τ) ↦{fullShare} g)
abbrev held {sp : Space} {S : Shape} {e : EltTy} (M : Memref sig .tc sp S e) (f : Bf (F := F) c M) : sProp 𝕄 :=
  iprop(M.view.loc (c : Thread nD τ) ↦[M.view.set]{fullShare} f)

/-- What the body stores, of what it loads. -/
abbrev stored (M2 : Memref sig .tc .vmem S256x1024 .f32) (f2 : Bf (F := F) c M2) (M3 : Memref sig .tc .vmem S1x1x1024 .f32) (f3 : Bf (F := F) c M3)
    (M4 : Memref sig .tc .vmem S256x128 .f32) (f4 : Bf (F := F) c M4) (g : Bf (F := F) c (Memref.whole cc0_scratch0)) : FVec F S256x1024 .f32 :=
  k0_pay1 (M4.view.readAt (Elt F) (Rect.unit (s := S256x128) ![0, 0] S256x128.size inb_S256x128_S256x128_0_0).toLoadRect f4)
    (M2.view.readAt (Elt F) (Rect.unit (s := S256x1024) ![0, 0] S256x1024.size inb_S256x1024_S256x1024_0_0).toLoadRect f2)
    (M3.view.readAt (Elt F) (Rect.unit (s := S1x1x1024) ![0, 0, 0] S1x1x1024.size inb_S1x1x1024_S1x1x1024_0_0_0).toLoadRect f3)
    ((Memref.whole cc0_scratch0 : Memref sig .tc .vmem S2x256x1024 .f32).view.readAt (Elt F) (Rect.unit (s := S2x256x1024) ![0, 0, 0] S1x256x1024.size inb_S2x256x1024_S1x256x1024_0_0_0).toLoadRect g)
    ((Memref.whole cc0_scratch0 : Memref sig .tc .vmem S2x256x1024 .f32).view.readAt (Elt F) (Rect.unit (s := S2x256x1024) ![1, 0, 0] S1x256x1024.size inb_S2x256x1024_S1x256x1024_1_0_0).toLoadRect g)

set_option maxRecDepth 16384 in
set_option maxHeartbeats 8000000 in
theorem kernelRun [∀ e, Nonempty (Elt F e)] (i : grid0.Coords) (hM : M.IsWhole)
    (M2 : Memref sig .tc .vmem S256x1024 .f32) (h2 : M2.IsWhole) (M3 : Memref sig .tc .vmem S1x1x1024 .f32) (h3 : M3.IsWhole)
    (M4 : Memref sig .tc .vmem S256x128 .f32) (h4 : M4.IsWhole) (M6 : Memref sig .tc .vmem S256x1024 .f32) (h6 : M6.IsWhole)
    (f2 : Bf (F := F) c M2) (f3 : Bf (F := F) c M3) (f4 : Bf (F := F) c M4) (f6 : Bf (F := F) c M6)
    (W : Waits sig Unit) (Q : PUnit → sProp 𝕄) :
    iprop(held c M f ∗ held c M2 f2 ∗ held c M3 f3 ∗ held c M4 f4 ∗ held c M6 f6 ∗ ys c fs fullShare ∗ scr c fv ∗ cell0 c ∗ owes (c : Thread nD τ) 0 W
      ∗ (iprop(held c M f ∗ held c M2 f2 ∗ held c M3 f3 ∗ held c M4 f4
          ∗ held c M6 (M6.view.writes (Elt F) f6 [⟨Rect.unit (s := S256x1024) ![0, 0] S256x1024.size inb_S256x1024_S256x1024_0_0, stored c M2 f2 M3 f3 M4 f4 (buf c hok fs)⟩])
          ∗ ys c fs fullShare ∗ scr c (buf c hok fs) ∗ cell0 c ∗ ∃ W, owes (c : Thread nD τ) 0 W) -∗ Q ⟨⟩))
      ⊢ wp frame (wpE (defs₀ (F := F)) Variants.none c none) Set.univ
        (cc0_moe_combine i M hM M2 h2 M3 h3 M4 h4 (Memref.whole main_arg4) (Memref.isWhole_whole _) M6 h6 (Memref.whole cc0_scratch0) (Memref.isWhole_whole _) cc0_scratch1) Q := by
  rw [show scr c fv = iprop(bigSep RS (hadA c fv) ∗ bigSep RS (hadB c fv)) from scr_split c fv, ys_split c hok fs]
  iintro ⟨H0, H2, H3, H4, H6, ⟨Hd, ⟨HSA, HOA⟩, ⟨HSB, HOB⟩⟩, ⟨HA, HB⟩, Hc, HO, Hk⟩
  simp only [cc0_moe_combine_eq_skeleton]; unfold cc0_moe_combine_skel
  imod (Transfers.batch_alloc' (Lvl := ℕ) countersEmb (c : Thread nD τ) () NN (D c hok fv fs) (sm := .dma cc0_scratch1.sem) (E := Set.univ)) $$ Hc with HBt
  sl_for (issueAt c M f hok fv fs) $$ [HBt HA HB HSA HSB H0]
  · intro k acc; exact issue_step c M f hok fv fs i hM M2 h2 M3 h3 M4 h4 M6 h6 k acc
  · iapply (show iprop(batch c hok fv fs 0 0 ∗ bigSep RS (hadA c fv) ∗ bigSep RS (hadB c fv) ∗ bigSep RS (srcA c hok fs) ∗ bigSep RS (srcB c hok fs) ∗ held c M f)
        ⊢ issueAt c M f hok fv fs 0 () from by unfold issueAt; exact .rfl)
    isplitl [HBt]; · iexact HBt
    isplitl [HA]; · iexact HA
    isplitl [HB]; · iexact HB
    isplitl [HSA]; · iexact HSA
    isplitl [HSB]; · iexact HSB
    iexact H0
  iintro %acc HL
  ihave HL' := (show issueAt c M f hok fv fs k0_t1_loop.trips acc ⊢ iprop(batch c hok fv fs (2 * T) 0 ∗ held c M f) from by
    unfold issueAt
    iintro ⟨A, -, -, -, -, B⟩; isplitl [A] <;> iassumption) $$ HL
  icases HL' with ⟨HBt, H0⟩
  sl_for (drainAt c hok fv fs) $$ [HBt HO]
  · intro k acc; exact drain_step c hok fv fs i M hM M2 h2 M3 h3 M4 h4 M6 h6 k acc
  · iapply (show iprop((∃ W, owes (c : Thread nD τ) 0 W) ∗ batch c hok fv fs (2 * T) 0) ⊢ drainAt c hok fv fs 0 () from by
      unfold drainAt; rw [if_pos (by rw [show T = 256 from trips_eq]; omega), Nat.zero_mul])
    isplitl [HO]; · iexists _; iexact HO
    iexact HBt
  iintro %acc2 HL2
  ihave HL2' := (show drainAt c hok fv fs k0_t2_loop.trips acc2
      ⊢ iprop((∃ W, owes (c : Thread nD τ) 0 W) ∗ cell0 c
        ∗ (bigSep RS (gotA c hok fv fs) ∗ bigSep RS (srcA c hok fs)) ∗ (bigSep RS (gotB c hok fv fs) ∗ bigSep RS (srcB c hok fs))) from by
    unfold drainAt; rw [if_neg (by rw [trips2_eq, show T = 256 from trips_eq]; omega), deliveries_split c hok fv fs]) $$ HL2
  icases HL2' with ⟨⟨%W', HO⟩, Hc, ⟨HA, HSA⟩, ⟨HB, HSB⟩⟩
  ihave Hscr := (show iprop(bigSep RS (gotA c hok fv fs) ∗ bigSep RS (gotB c hok fv fs)) ⊢ scr c (buf c hok fs) from Entails.of_eq (got_join c hok fv fs)) $$ [HA HB]
  · isplitl [HA] <;> iassumption
  sl_exec
  sl_step
  iapply Hk
  isplitl [H0]; · iexact H0
  isplitl [H2]; · iexact H2
  isplitl [H3]; · iexact H3
  isplitl [H4]; · iexact H4
  isplitl [H6]; · iexact H6
  isplitl [Hd HSA HOA HSB HOB]
  · isplitl [Hd]; · iexact Hd
    isplitl [HSA HOA]
    · isplitl [HSA]; · iexact HSA
      iexact HOA
    isplitl [HSB]; · iexact HSB
    iexact HOB
  isplitl [Hscr]; · iexact Hscr
  isplitl [Hc]; · iexact Hc
  iexists _; iexact HO

end Cert.Kernel8Ideal.Rows

end
-- ==== Proof.Combine.Launch.lean ====
module

public import proofs.«01_k».proof.Proof.Combine.Run

@[expose] public section

noncomputable section

namespace Cert.Kernel8Ideal.Rows

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC Dat BodyObligation Ends RoutedPost routed_singleton)
open Idealize.ShloMosaic.ValueIdx

variable {F : FTy → Type} [FloatOps F]

local notation "𝕄" => MT nD τ sig Unit (Elt F) ℕ (UC sig nD τ) ℕ

variable (m : (ℓ : Loc nD τ sig) → Buf (Elt F) ℓ) (ρ : Dev nD → PrngReg)

/-! ## The places of a block -/

theorem off1_0 : ∀ t : Fin k0_t1_loop.trips, k0_off1 t 0 = 0 := by decide +kernel
theorem off1_1 : ∀ t : Fin k0_t1_loop.trips, k0_off1 t 1 = 0 := by decide +kernel
theorem off1_2 : ∀ t : Fin k0_t1_loop.trips, k0_off1 t 2 = t.val := by decide +kernel
theorem off4_0 : ∀ t : Fin k0_t1_loop.trips, k0_off4 t 0 = 0 := by decide +kernel
theorem off4_1 : ∀ t : Fin k0_t1_loop.trips, k0_off4 t 1 = 0 := by decide +kernel
theorem off4_2 : ∀ t : Fin k0_t1_loop.trips, k0_off4 t 2 = 256 + t.val := by decide +kernel

abbrev jA (n : Fin k0_t1_loop.trips) : S1x1x512.Idx := ix3 (n0 := 1) (n1 := 1) (n2 := 512) 0 0 ⟨n.val, by have := n.isLt.trans_eq trips_eq; omega⟩
abbrev jB (n : Fin k0_t1_loop.trips) : S1x1x512.Idx := ix3 (n0 := 1) (n1 := 1) (n2 := 512) 0 0 ⟨256 + n.val, by have := n.isLt.trans_eq trips_eq; omega⟩

theorem idx_A (n : Fin k0_t1_loop.trips) : (Rect.unit (s := S1x1x512) (k0_off1 n) S1x1x1.size (k0_off1_inb n)).emb i0 = jA n := by
  funext a; apply Fin.ext; rw [Rect.emb_apply]; fin_cases a
  · show k0_off1 n 0 + 1 * 0 = 0; rw [off1_0]
  · show k0_off1 n 1 + 1 * 0 = 0; rw [off1_1]
  · show k0_off1 n 2 + 1 * 0 = n.val; rw [off1_2]; omega
theorem idx_B (n : Fin k0_t1_loop.trips) : (Rect.unit (s := S1x1x512) (k0_off4 n) S1x1x1.size (k0_off4_inb n)).emb i0 = jB n := by
  funext a; apply Fin.ext; rw [Rect.emb_apply]; fin_cases a
  · show k0_off4 n 0 + 1 * 0 = 0; rw [off4_0]
  · show k0_off4 n 1 + 1 * 0 = 0; rw [off4_1]
  · show k0_off4 n 2 + 1 * 0 = 256 + n.val; rw [off4_2]; omega

theorem wa_eq (M : Memref sig .tc .smem S1x1x512 .i32) {c : Dev nD} (f : Bf (F := F) c M) : wa M f = fun n => M.view.read (Elt F) f (jA n) :=
  funext fun n => congrArg (M.view.read (Elt F) f) (idx_A n)
theorem wb_eq (M : Memref sig .tc .smem S1x1x512 .i32) {c : Dev nD} (f : Bf (F := F) c M) : wb M f = fun n => M.view.read (Elt F) f (jB n) :=
  funext fun n => congrArg (M.view.read (Elt F) f) (idx_B n)

/-- Block `t`'s places. -/
def pa (c : Dev nD) (t : Fin cfg0.N) (n : Fin k0_t1_loop.trips) : BitVec 32 := iblk m c 0 t (jA n)
def pb (c : Dev nD) (t : Fin cfg0.N) (n : Fin k0_t1_loop.trips) : BitVec 32 := iblk m c 0 t (jB n)

def AllOK : Prop := ∀ (c : Dev nD) (t : Fin cfg0.N), WordsOK (pa m c t) (pb m c t)

/-- Places below 32768 are what the body asks for. -/
theorem ok_of_range (hr : ∀ (c : Dev nD) (i : S48x1x512.Idx), (show BitVec 32 from m ((c : Thread nD τ).loc main_arg0) i).toNat < 32768) : AllOK m :=
  fun c t => ⟨fun n => hr c (((cfg0.win 0).blk t).view.emb (jA n)), fun n => hr c (((cfg0.win 0).blk t).view.emb (jB n))⟩

/-! ## What the body leaves -/

/-- The rows a list of places names. -/
def rowsAt (c : Dev nD) (a : Fin k0_t1_loop.trips → BitVec 32) (h : ∀ n, (a n).toNat < 32768) (fs : Bf (F := F) c (Memref.whole main_arg4)) : FVec F S1x256x1024 .f32 :=
  fun j => fs (ix2 (n0 := 32768) (n1 := 1024) ⟨(a (tr (j 1))).toNat, h _⟩ (j 2))

theorem rowsAt_congr (c : Dev nD) {a a' : Fin k0_t1_loop.trips → BitVec 32} (e : a = a') (h : ∀ n, (a n).toNat < 32768) (h' : ∀ n, (a' n).toNat < 32768)
    (fs : Bf (F := F) c (Memref.whole main_arg4)) : rowsAt c a h fs = rowsAt c a' h' fs := by subst e; rfl

def outAt (hok : AllOK m) (c : Dev nD) (t : Fin cfg0.N) : FVec F S256x1024 .f32 :=
  k0_pay1 (iblk m c 3 t) (iblk m c 1 t) (iblk m c 2 t) (rowsAt c (pa m c t) (hok c t).fst (V m c main_arg4)) (rowsAt c (pb m c t) (hok c t).snd (V m c main_arg4))

theorem plane_A (c : Dev nD) {a b : Fin k0_t1_loop.trips → BitVec 32} (hok : WordsOK a b) (fs : Bf (F := F) c (Memref.whole main_arg4)) :
    (Memref.whole cc0_scratch0 : Memref sig .tc .vmem S2x256x1024 .f32).view.readAt (Elt F) (Rect.unit (s := S2x256x1024) ![0, 0, 0] S1x256x1024.size inb_S2x256x1024_S1x256x1024_0_0_0).toLoadRect (buf c hok fs)
      = rowsAt c a hok.fst fs := by
  funext j
  refine Eq.trans ?_ (buf_A c hok fs (j 1) (j 2))
  refine congrArg (buf c hok fs) ?_
  have hj : (j 0).val < 1 := (j 0).isLt
  show (Rect.unit (s := S2x256x1024) ![0, 0, 0] S1x256x1024.size inb_S2x256x1024_S1x256x1024_0_0_0).emb j = _
  funext a; apply Fin.ext; rw [Rect.emb_apply]; fin_cases a
  · show 0 + 1 * (j 0).val = 0; omega
  · show 0 + 1 * (j 1).val = (j 1).val; omega
  · show 0 + 1 * (j 2).val = (j 2).val; omega
theorem plane_B (c : Dev nD) {a b : Fin k0_t1_loop.trips → BitVec 32} (hok : WordsOK a b) (fs : Bf (F := F) c (Memref.whole main_arg4)) :
    (Memref.whole cc0_scratch0 : Memref sig .tc .vmem S2x256x1024 .f32).view.readAt (Elt F) (Rect.unit (s := S2x256x1024) ![1, 0, 0] S1x256x1024.size inb_S2x256x1024_S1x256x1024_1_0_0).toLoadRect (buf c hok fs)
      = rowsAt c b hok.snd fs := by
  funext j
  refine Eq.trans ?_ (buf_B c hok fs (j 1) (j 2))
  refine congrArg (buf c hok fs) ?_
  have hj : (j 0).val < 1 := (j 0).isLt
  show (Rect.unit (s := S2x256x1024) ![1, 0, 0] S1x256x1024.size inb_S2x256x1024_S1x256x1024_1_0_0).emb j = _
  funext a; apply Fin.ext; rw [Rect.emb_apply]; fin_cases a
  · show 1 + 1 * (j 0).val = 1; omega
  · show 0 + 1 * (j 1).val = (j 1).val; omega
  · show 0 + 1 * (j 2).val = (j 2).val; omega

theorem whole2 {S : Shape} (inb : ∀ a, (fun _ => 0 : Fin S.rank → ℕ) a + S.size a ≤ S.size a) (j : S.Idx) : (Rect.unit (s := S) (fun _ => 0) S.size inb).emb j = j := by
  funext a; apply Fin.ext; rw [Rect.emb_apply]
  show 0 + 1 * (j a).val = (j a).val; omega

theorem emb_x (j : S256x1024.Idx) : (Rect.unit (s := S256x1024) ![0, 0] S256x1024.size inb_S256x1024_S256x1024_0_0).emb j = j := by
  funext a; apply Fin.ext; rw [Rect.emb_apply]; fin_cases a
  · show 0 + 1 * (j 0).val = (j 0).val; omega
  · show 0 + 1 * (j 1).val = (j 1).val; omega
theorem emb_m (j : S256x128.Idx) : (Rect.unit (s := S256x128) ![0, 0] S256x128.size inb_S256x128_S256x128_0_0).emb j = j := by
  funext a; apply Fin.ext; rw [Rect.emb_apply]; fin_cases a
  · show 0 + 1 * (j 0).val = (j 0).val; omega
  · show 0 + 1 * (j 1).val = (j 1).val; omega
theorem emb_g (j : S1x1x1024.Idx) : (Rect.unit (s := S1x1x1024) ![0, 0, 0] S1x1x1024.size inb_S1x1x1024_S1x1x1024_0_0_0).emb j = j := by
  funext a; apply Fin.ext; rw [Rect.emb_apply]; fin_cases a
  · show 0 + 1 * (j 0).val = (j 0).val; omega
  · show 0 + 1 * (j 1).val = (j 1).val; omega
  · show 0 + 1 * (j 2).val = (j 2).val; omega

theorem stored_eq (c : Dev nD) {a b : Fin k0_t1_loop.trips → BitVec 32} (hok : WordsOK a b) (fs : Bf (F := F) c (Memref.whole main_arg4))
    (M2 : Memref sig .tc .vmem S256x1024 .f32) (f2 : Bf (F := F) c M2) (M3 : Memref sig .tc .vmem S1x1x1024 .f32) (f3 : Bf (F := F) c M3)
    (M4 : Memref sig .tc .vmem S256x128 .f32) (f4 : Bf (F := F) c M4) :
    stored c M2 f2 M3 f3 M4 f4 (buf c hok fs)
      = k0_pay1 (M4.view.read (Elt F) f4) (M2.view.read (Elt F) f2) (M3.view.read (Elt F) f3) (rowsAt c a hok.fst fs) (rowsAt c b hok.snd fs) := by
  have e4 : M4.view.readAt (Elt F) (Rect.unit (s := S256x128) ![0, 0] S256x128.size inb_S256x128_S256x128_0_0).toLoadRect f4 = M4.view.read (Elt F) f4 :=
    funext fun j => congrArg (M4.view.read (Elt F) f4) (emb_m j)
  have e2 : M2.view.readAt (Elt F) (Rect.unit (s := S256x1024) ![0, 0] S256x1024.size inb_S256x1024_S256x1024_0_0).toLoadRect f2 = M2.view.read (Elt F) f2 :=
    funext fun j => congrArg (M2.view.read (Elt F) f2) (emb_x j)
  have e3 : M3.view.readAt (Elt F) (Rect.unit (s := S1x1x1024) ![0, 0, 0] S1x1x1024.size inb_S1x1x1024_S1x1x1024_0_0_0).toLoadRect f3 = M3.view.read (Elt F) f3 :=
    funext fun j => congrArg (M3.view.read (Elt F) f3) (emb_g j)
  show k0_pay1 _ _ _ _ _ = _
  rw [e4, e2, e3, plane_A, plane_B]

theorem out_read (c : Dev nD) (M6 : Memref sig .tc .vmem S256x1024 .f32) (f6 : Bf (F := F) c M6) (p : FVec F S256x1024 .f32) :
    M6.view.read (Elt F) (M6.view.writes (Elt F) f6 [⟨Rect.unit (s := S256x1024) ![0, 0] S256x1024.size inb_S256x1024_S256x1024_0_0, p⟩]) = p := by
  funext j
  have h := View.read_writes_cons_emb (Val := Elt F) M6.view f6 (Rect.unit (s := S256x1024) ![0, 0] S256x1024.size inb_S256x1024_S256x1024_0_0) p [] j
  rw [emb_x] at h
  exact h

/-! ## The proof data -/

abbrev osem : Unit → SemLoc sig := fun _ => .dma cc0_scratch1.sem
abbrev R1 : Finset (Ref sig .tc) := {main_arg4}

def dats (hok : AllOK m) (_ : Fin 1) (c : Dev nD) : Dat τ (Elt F) Unit ℕ (UC sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m hok c t
  Φ _ := Ends spec0 osem R1 c (V m c)
  q _ := fullShare
  owed _ := 0

theorem ownSems_eq (c : Dev nD) :
    (Pipeline.ownSems0 (Ix := Unit) (Name := ℕ) (U := UC sig nD τ) (Lvl := ℕ) (Val := Elt F) (τ := τ) osem c : sProp 𝕄)
      = semVal ((c : Thread nD τ), osem ()) 0 :=
  Pipeline.ownSems0_eq_of_list c osem [()] (by decide) (by decide)

theorem ends_eq (c : Dev nD) :
    (Ends spec0 osem R1 c (V m c) : sProp 𝕄)
      = iprop(ys c (V m c main_arg4) fullShare ∗ cell0 c ∗ (∃ f : Bf (F := F) c (Memref.whole cc0_scratch0), scr c f) ∗ ∃ r, prngReg c r) := by
  unfold Ends; rw [routed_singleton, ownSems_eq, scopedRest0_eq]

theorem A_eq (hok : AllOK m) (c : Dev nD) (w : Fin cfg0.W) : (dats m hok 0 c).A w = V m c (Pipeline.arrRef spec0 w) := by dsimp only [dats]
theorem after_0 (hok : AllOK m) (c : Dev nD) (t : Fin cfg0.N) : (dats m hok 0 c).after 0 t = iblk m c 0 t := by dsimp only [dats]
theorem after_1 (hok : AllOK m) (c : Dev nD) (t : Fin cfg0.N) : (dats m hok 0 c).after 1 t = iblk m c 1 t := by dsimp only [dats]
theorem after_2 (hok : AllOK m) (c : Dev nD) (t : Fin cfg0.N) : (dats m hok 0 c).after 2 t = iblk m c 2 t := by dsimp only [dats]
theorem after_3 (hok : AllOK m) (c : Dev nD) (t : Fin cfg0.N) : (dats m hok 0 c).after 3 t = iblk m c 3 t := by dsimp only [dats]
theorem after_4 (hok : AllOK m) (c : Dev nD) (t : Fin cfg0.N) : (dats m hok 0 c).after 4 t = outAt m hok c t := by dsimp only [dats]

theorem before_0 (hok : AllOK m) (c : Dev nD) (t : Fin cfg0.N) (d) : (dats m hok 0 c).before 0 t d = iblk m c 0 t :=
  ((dats m hok 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (hok : AllOK m) (c : Dev nD) (t : Fin cfg0.N) (d) : (dats m hok 0 c).before 1 t d = iblk m c 1 t :=
  ((dats m hok 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (hok : AllOK m) (c : Dev nD) (t : Fin cfg0.N) (d) : (dats m hok 0 c).before 2 t d = iblk m c 2 t :=
  ((dats m hok 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (hok : AllOK m) (c : Dev nD) (t : Fin cfg0.N) (d) : (dats m hok 0 c).before 3 t d = iblk m c 3 t :=
  ((dats m hok 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-! ## The body obligation -/

def bodyPre (hok : AllOK m) (c : Dev nD) (t : Fin cfg0.N) : sProp 𝕄 :=
  iprop((dats m hok 0 c).Φ t.castSucc ∗ (dats m hok 0 c).owesAt () t.castSucc
    ∗ (∃ d, owns (c : Thread nD τ) (st0_0 t) fullShare ((dats m hok 0 c).before 0 t d))
    ∗ (∃ d, owns (c : Thread nD τ) (st0_1 t) fullShare ((dats m hok 0 c).before 1 t d))
    ∗ (∃ d, owns (c : Thread nD τ) (st0_2 t) fullShare ((dats m hok 0 c).before 2 t d))
    ∗ (∃ d, owns (c : Thread nD τ) (st0_3 t) fullShare ((dats m hok 0 c).before 3 t d))
    ∗ (∃ d, owns (c : Thread nD τ) (st0_4 t) fullShare ((dats m hok 0 c).before 4 t d)))
def bodyPost (hok : AllOK m) (c : Dev nD) (t : Fin cfg0.N) : sProp 𝕄 :=
  iprop((dats m hok 0 c).Φ t.succ ∗ (dats m hok 0 c).owesAt () t.succ
    ∗ owns (c : Thread nD τ) (st0_0 t) fullShare ((dats m hok 0 c).after 0 t)
    ∗ owns (c : Thread nD τ) (st0_1 t) fullShare ((dats m hok 0 c).after 1 t)
    ∗ owns (c : Thread nD τ) (st0_2 t) fullShare ((dats m hok 0 c).after 2 t)
    ∗ owns (c : Thread nD τ) (st0_3 t) fullShare ((dats m hok 0 c).after 3 t)
    ∗ owns (c : Thread nD τ) (st0_4 t) fullShare ((dats m hok 0 c).after 4 t))

set_option maxRecDepth 16384 in
theorem sound_body [∀ e, Nonempty (Elt F e)] (hok : AllOK m) (c : Dev nD) (t : Fin cfg0.N) :
    bodyPre m hok c t ⊢ wp frame (wpE (defs₀ (F := F)) Variants.none c none) Set.univ (bodyAt0 t) (fun _ => bodyPost m hok c t) := by
  unfold bodyPre bodyPost bodyAt0
  simp only [before_0, before_1, before_2, before_3]
  rw [show (dats m hok 0 c).Φ t.succ = Ends spec0 osem R1 c (V m c) from rfl, show (dats m hok 0 c).Φ t.castSucc = Ends spec0 osem R1 c (V m c) from rfl,
    after_0, after_1, after_2, after_3, after_4, ends_eq]
  unfold Dat.owesAt Pipeline.owesWithin
  rw [show (dats m hok 0 c).owed t.castSucc = 0 from rfl, show (dats m hok 0 c).owed t.succ = 0 from rfl]
  unfold owns
  iintro ⟨⟨Hy, Hc, ⟨%fv, Hv⟩, Hp⟩, ⟨%W, %hW, HO⟩, ⟨%d0, %f0, %hf0, H0⟩, ⟨%d1, %f1, %hf1, H1⟩, ⟨%d2, %f2, %hf2, H2⟩, ⟨%d3, %f3, %hf3, H3⟩, ⟨%d4, %f4, %hf4, H4⟩⟩
  have ea : wa (st0_0 t) f0 = pa m c t := (wa_eq (st0_0 t) f0).trans (funext fun n => congrFun hf0 (jA n))
  have eb : wb (st0_0 t) f0 = pb m c t := (wb_eq (st0_0 t) f0).trans (funext fun n => congrFun hf0 (jB n))
  have hw : WordsOK (wa (st0_0 t) f0) (wb (st0_0 t) f0) := by rw [ea, eb]; exact hok c t
  have hout : stored c (st0_1 t) f1 (st0_2 t) f2 (st0_3 t) f3 (buf c hw (V m c main_arg4)) = outAt m hok c t := by
    refine (stored_eq c hw (V m c main_arg4) (st0_1 t) f1 (st0_2 t) f2 (st0_3 t) f3).trans ?_
    unfold outAt
    have e1 : rowsAt c (wa (st0_0 t) f0) hw.fst (V m c main_arg4) = rowsAt c (pa m c t) (hok c t).fst (V m c main_arg4) := rowsAt_congr c ea _ _ _
    have e2 : rowsAt c (wb (st0_0 t) f0) hw.snd (V m c main_arg4) = rowsAt c (pb m c t) (hok c t).snd (V m c main_arg4) := rowsAt_congr c eb _ _ _
    rw [e1, e2]
    exact congr (congr (congrArg (fun x y z => k0_pay1 x y z _ _) hf3) hf1) hf2 ▸ rfl
  iapply (kernelRun c (st0_0 t) f0 hw fv (V m c main_arg4) (grid0.coords t) _ (st0_1 t) _ (st0_2 t) _ (st0_3 t) _ (st0_4 t) _ f1 f2 f3 f4 W)
  isplitl [H0]; · iexact H0
  isplitl [H1]; · iexact H1
  isplitl [H2]; · iexact H2
  isplitl [H3]; · iexact H3
  isplitl [H4]; · iexact H4
  isplitl [Hy]; · iexact Hy
  isplitl [Hv]; · iexact Hv
  isplitl [Hc]; · iexact Hc
  isplitl [HO]; · iexact HO
  iintro ⟨H0, H1, H2, H3, H4, Hy, Hv, Hc, ⟨%W', HO⟩⟩
  isplitl [Hy Hc Hv Hp]
  · isplitl [Hy]; · iexact Hy
    isplitl [Hc]; · iexact Hc
    isplitl [Hv]; · iexists _; iexact Hv
    iexact Hp
  isplitl [HO]
  · iexists W'; isplitr; · ipureintro; exact fun _ _ => Or.inl trivial
    iexact HO
  isplitl [H0]
  · iexists _; isplitr; swap; (· iexact H0); ipureintro; exact hf0
  isplitl [H1]
  · iexists _; isplitr; swap; (· iexact H1); ipureintro; exact hf1
  isplitl [H2]
  · iexists _; isplitr; swap; (· iexact H2); ipureintro; exact hf2
  isplitl [H3]
  · iexists _; isplitr; swap; (· iexact H3); ipureintro; exact hf3
  iexists _; isplitr; swap; (· iexact H4); ipureintro; exact (out_read c (st0_4 t) f4 _).trans hout

theorem defs₀_row (t : Fin cfg0.N) :
    defs₀ (F := F) .tc cfg0.body (cfg0.bodyArgs t (cfg0.slots t)) = bodyAt0 t := by
  unfold defs₀; rw [Defs.onTc_tc]

theorem body_obligation [∀ e, Nonempty (Elt F e)] (hok : AllOK m) (c : Dev nD) : BodyObligation (dats (F := F) m hok 0 c) (defs₀ (F := F)) Variants.none () Set.univ := fun t => by
  rw [bigSep_W0, bigSep_W0, defs₀_row]
  exact triple_restated (sound_body m hok c t) rfl .rfl fun _ => .rfl

/-! ## The launch -/

theorem ownSemFacts : Pipeline.OwnSemFacts spec0 osem := by decide

theorem run_main_quiescent [∀ e, Nonempty (Elt F e)] (hok : AllOK m) :
    θ_run defs (onTc (τ := τ) (main (F := F))) (s₀ m ρ) (fun r => RoutedPost cfgs (dats m hok) 0 R1 (V m) (V m) r ∧ r.2.sem = fun _ => 0) :=
  Pipeline.θ_run_frame_routed cfgs (dats m hok) 0 launch0 ownSemFacts defs₀ Variants.none m ρ main
    (hbody := fun c => (body_obligation m hok c).loose) (hshare := fun c => (dats m hok 0 c).share_full fun _ => rfl)
    (howed := fun _ _ => rfl) (V := V m)
    (hmain := Pipeline.hmain_region cfgs 0 defs₀ Variants.none m main fun c => (main_chain c).trans rfl)
    (hA := fun _ _ => rfl) (R := R1) (hR := by decide) (Y := V m) (hin := fun _ => .rfl) (hout := fun _ => .rfl) (Q' := _)

theorem frame [∀ e, Nonempty (Elt F e)] (hok : AllOK m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ ⟨h, hz⟩ => ⟨fun c => ⟨((h c).1 0).trans (((dats m hok 0 c).arrAt_in 0 rfl _).trans (A_eq m hok c 0)),
      ((h c).1 1).trans (((dats m hok 0 c).arrAt_in 1 rfl _).trans (A_eq m hok c 1)),
      ((h c).1 2).trans (((dats m hok 0 c).arrAt_in 2 rfl _).trans (A_eq m hok c 2)),
      ((h c).1 3).trans (((dats m hok 0 c).arrAt_in 3 rfl _).trans (A_eq m hok c 3)),
      (h c).2.1 main_arg4 (by decide)⟩, hz⟩) (run_main_quiescent m ρ hok)

end Cert.Kernel8Ideal.Rows

end
-- ==== Proof.Combine.Reference.lean ====
/-
  The reference of the combining call at an element: the rows that the two places of a token name.
-/
module

public import proofs.«01_k».proof.Proof.Gen.Reference8Ideal.Read
public import Idealize.ShloMosaic.Lib.Pointwise
public import Idealize.ShloMosaic.Lib.WordCmp
public import Idealize.ShloMosaic.Lib.Routing.Ops

@[expose] public section

set_option maxRecDepth 16384

noncomputable section

namespace Cert.Reference8Ideal.Rows

open Cert.Reference8Ideal Cert.Reference8Ideal.Gen Cert.Reference8Ideal.Read Idealize.ShloMosaic

/-- Where token `n`'s two places stand: in the first and in the second half of its block. -/
abbrev atA (n : Fin 12288) : S48x1x512.Idx := ix3 (n0 := 48) (n1 := 1) (n2 := 512) ⟨n.val / 256, by omega⟩ 0 ⟨n.val % 256, by omega⟩
abbrev atB (n : Fin 12288) : S48x1x512.Idx := ix3 (n0 := 48) (n1 := 1) (n2 := 512) ⟨n.val / 256, by omega⟩ 0 ⟨256 + n.val % 256, by omega⟩

variable (p : IVec S48x1x512 32) (ys : FVec Ideal S32768x1024 .f32)

theorem word_A (n : Fin 12288) : val_main_v13 (F := Ideal) p (ix1 n) = p (atA n) := by
  rw [val_main_v13_apply, val_main_v12_apply, val_main_v2_apply, val_main_v1_apply, val_main_v0_apply]
  refine congrArg p (funext fun a => Fin.ext ?_)
  have hn := n.isLt
  fin_cases a
  · simp; omega
  · rfl
  · simp; omega
theorem word_B (n : Fin 12288) : val_main_v25 (F := Ideal) p (ix1 n) = p (atB n) := by
  rw [val_main_v25_apply, val_main_v24_apply, val_main_v2_apply, val_main_v1_apply, val_main_v0_apply]
  refine congrArg p (funext fun a => Fin.ext ?_)
  have hn := n.isLt
  fin_cases a
  · simp; omega
  · rfl
  · simp; omega

/-- A place below 32768 is not moved by the reference's reading of negative places. -/
theorem kept (w : BitVec 32) (h : w.toNat < 32768) : Scalar.select (IntOp.cmpi .slt w 0#32) (IntOp.addi w 32768#32) w = w := by
  rw [WordCmp.cmpi_slt_zero, decide_eq_false (by omega)]; rfl

theorem place_A (n : Fin 12288) (h : (p (atA n)).toNat < 32768) : val_main_v19 (F := Ideal) p (ix2 n (0 : Fin 1)) = p (atA n) := by
  rw [val_main_v19_apply]
  have e : idx_main_v19 (ix2 n (0 : Fin 1)) = ix1 n := by funext a; apply Fin.ext; fin_cases a; rfl
  rw [e, val_main_v18_apply, val_main_v17_apply, val_main_v15_apply, word_A]
  exact kept _ h
theorem place_B (n : Fin 12288) (h : (p (atB n)).toNat < 32768) : val_main_v31 (F := Ideal) p (ix2 n (0 : Fin 1)) = p (atB n) := by
  rw [val_main_v31_apply]
  have e : idx_main_v31 (ix2 n (0 : Fin 1)) = ix1 n := by funext a; apply Fin.ext; fin_cases a; rfl
  rw [e, val_main_v30_apply, val_main_v29_apply, val_main_v27_apply, word_B]
  exact kept _ h

theorem row_A (n : Fin 12288) (d : Fin 1024) (h : (p (atA n)).toNat < 32768) :
    val_main_v20 (F := Ideal) p ys (ix2 n d) = ys (ix2 (⟨(p (atA n)).toNat, h⟩ : Fin 32768) d) :=
  Routing.gather_row gather_S32768x1024_S12288x1_S12288x1024_1_0_n_n_0_1_11024 rfl rfl rfl rfl rfl ys (val_main_v19 (F := Ideal) p) n d ⟨(p (atA n)).toNat, h⟩
    ((place_A p n h).trans (BitVec.eq_of_toNat_eq (by rw [BitVec.toNat_ofNat]; exact (Nat.mod_eq_of_lt (p (atA n)).isLt).symm))) (by decide)
theorem row_B (n : Fin 12288) (d : Fin 1024) (h : (p (atB n)).toNat < 32768) :
    val_main_v32 (F := Ideal) p ys (ix2 n d) = ys (ix2 (⟨(p (atB n)).toNat, h⟩ : Fin 32768) d) :=
  Routing.gather_row gather_S32768x1024_S12288x1_S12288x1024_1_0_n_n_0_1_11024 rfl rfl rfl rfl rfl ys (val_main_v31 (F := Ideal) p) n d ⟨(p (atB n)).toNat, h⟩
    ((place_B p n h).trans (BitVec.eq_of_toNat_eq (by rw [BitVec.toNat_ofNat]; exact (Nat.mod_eq_of_lt (p (atB n)).isLt).symm))) (by decide)

end Cert.Reference8Ideal.Rows

end
-- ==== Proof.Combine.Value.lean ====
/-
  The combining call `x + gate * (w0 * ys[p0] + w1 * ys[p1])` (program `Kernel8`): the array that the call leaves,
  element by element, is the reference's expression of the same arguments.

  A grid point takes 256 tokens, their 512 places and the one modulation row that its tokens share: row 0 for the first
  16 points (the context tokens), row `1 + (t - 16) / 8` for the others (2048 tokens, 8 points, a request).
-/
module

public import proofs.«01_k».proof.Proof.Combine.Launch
public import proofs.«01_k».proof.Proof.Combine.Reference
public import proofs.«01_k».proof.Proof.Gen.Reference8Ideal.Run
public import Idealize.ShloMosaic.Lib.Pipeline.ValueKit

@[expose] public section

set_option maxRecDepth 16384

noncomputable section

namespace Cert.Kernel8Ideal.Rows

open Cert.Kernel8Ideal Cert.Kernel8Ideal.Gen Idealize.ShloMosaic Idealize.ShloMosaic.TcCoe Idealize.SL.Sem
open Idealize.ShloMosaic.Pipeline (Dat)

/-- The reference's expression over any two arrays of rows. -/
abbrev combined (x : FVec Ideal S12288x1024 .f32) (g : FVec Ideal S8x1x1024 .f32) (w : FVec Ideal S12288x128 .f32)
    (r0 r1 : FVec Ideal S12288x1024 .f32) : FVec Ideal S12288x1024 .f32 :=
  addf x (mulf (concatenate Cert.Reference8Ideal.S12288x1024 0
      [⟨Cert.Reference8Ideal.S4096x1024, (broadcastInDim Cert.Reference8Ideal.S4096x1024 ![0, 1] Cert.Reference8Ideal.Gen.bcast_S1x1024_S4096x1024_0_1
          (extractStridedSlice Cert.Reference8Ideal.S1x1024 ![0, 0] (shapeCast _ g Cert.Reference8Ideal.Gen.shapeCasts_S8x1x1024_S8x1024) Cert.Reference8Ideal.Gen.slices_S8x1024_S1x1024_0_0))⟩,
       ⟨Cert.Reference8Ideal.S8192x1024, (shapeCast _ (broadcastInDim Cert.Reference8Ideal.S4x2048x1024 ![0, 1, 2] Cert.Reference8Ideal.Gen.bcast_S4x1x1024_S4x2048x1024_0_1_2
          (broadcastInDim Cert.Reference8Ideal.S4x1x1024 ![0, 2] Cert.Reference8Ideal.Gen.bcast_S4x1024_S4x1x1024_0_2
            (extractStridedSlice Cert.Reference8Ideal.S4x1024 ![1, 0] (shapeCast _ g Cert.Reference8Ideal.Gen.shapeCasts_S8x1x1024_S8x1024) Cert.Reference8Ideal.Gen.slices_S8x1024_S4x1024_1_0))) Cert.Reference8Ideal.Gen.shapeCasts_S4x2048x1024_S8192x1024)⟩]
      Cert.Reference8Ideal.Gen.concatenates_S4096x1024_S8192x1024_S12288x1024_d0)
    (addf
      (mulf (broadcastInDim Cert.Reference8Ideal.S12288x1024 ![0, 1] Cert.Reference8Ideal.Gen.bcast_S12288x1_S12288x1024_0_1
        (extractStridedSlice Cert.Reference8Ideal.S12288x1 ![0, 4] w Cert.Reference8Ideal.Gen.slices_S12288x128_S12288x1_0_4)) r0)
      (mulf (broadcastInDim Cert.Reference8Ideal.S12288x1024 ![0, 1] Cert.Reference8Ideal.Gen.bcast_S12288x1_S12288x1024_0_1
        (extractStridedSlice Cert.Reference8Ideal.S12288x1 ![0, 5] w Cert.Reference8Ideal.Gen.slices_S12288x128_S12288x1_0_5)) r1)))

/-- The reference's result, as its run leaves it. -/
abbrev ref (p : IVec S48x1x512 32) (x : FVec Ideal S12288x1024 .f32) (g : FVec Ideal S8x1x1024 .f32) (w : FVec Ideal S12288x128 .f32)
    (ys : FVec Ideal S32768x1024 .f32) : FVec Ideal S12288x1024 .f32 :=
  combined x g w (Cert.Reference8Ideal.Read.val_main_v20 (F := Ideal) p ys) (Cert.Reference8Ideal.Read.val_main_v32 (F := Ideal) p ys)

variable (m : (ℓ : Loc nD τ sig) → Buf (Elt Ideal) ℓ)

/-- The block that each window is on at point `t`. -/
theorem idx : ∀ t : Fin cfg0.N, win0_0.index t = ![t.val, 0, 0] ∧ win0_1.index t = ![t.val, 0]
    ∧ win0_2.index t = ![if t.val < 16 then 0 else 1 + (t.val - 16) / 8, 0, 0] ∧ win0_3.index t = ![t.val, 0] ∧ win0_4.index t = ![t.val, 0] :=
  (by decide +kernel : ∀ t : Fin grid0.N, _)

/-- What point `t` computes at a place of its block, over any rows. -/
theorem point (c : Dev nD) (t : Fin cfg0.N) (r0 r1 : FVec Ideal S1x256x1024 .f32) (y : S256x1024.Idx) (q0 q1 : FVec Ideal S12288x1024 .f32)
    (h0 : r0 (ix3 (n0 := 1) (n1 := 256) (n2 := 1024) 0 (y 0) (y 1)) = q0 (((cfg0.win 4).blk t).view.emb y))
    (h1 : r1 (ix3 (n0 := 1) (n1 := 256) (n2 := 1024) 0 (y 0) (y 1)) = q1 (((cfg0.win 4).blk t).view.emb y)) :
    k0_pay1 (iblk m c 3 t) (iblk m c 1 t) (iblk m c 2 t) r0 r1 y
      = combined (m ((c : Thread nD τ).loc main_arg1)) (m ((c : Thread nD τ).loc main_arg2)) (m ((c : Thread nD τ).loc main_arg3)) q0 q1
          (((cfg0.win 4).blk t).view.emb y) := by
  pointwise [k0_pay1, combined]
  blk_point [iblk, V, idx t]
  all_goals first | exact h0 | exact h1 | skip
  all_goals
    rename_i h hc
    blk_simp [idx t] at h
    split <;> omega

/-- The token that place `y` of point `t`'s block stands for. -/
abbrev tok (t : Fin cfg0.N) (y : S256x1024.Idx) : Fin 12288 := ⟨t.val * 256 + (y 0).val, by
  have h0 : (y 0).val < 256 := (y 0).isLt
  have ht : t.val < 48 := t.isLt
  omega⟩

theorem emb_out (t : Fin cfg0.N) (y : S256x1024.Idx) : ((cfg0.win 4).blk t).view.emb y = ix2 (n0 := 12288) (n1 := 1024) (tok t y) (y 1) := by
  blk_ext [idx t]

/-- Token by token, the block's places are the array's. -/
theorem pa_eq (c : Dev nD) (t : Fin cfg0.N) (y : S256x1024.Idx) :
    pa m c t (tr (y 0)) = m ((c : Thread nD τ).loc main_arg0) (Cert.Reference8Ideal.Rows.atA (tok t y)) := by
  unfold pa
  blk_point [iblk, V, idx t]
  · show _ = (t.val * 256 + (y 0).val) / 256; omega
  · show _ = (t.val * 256 + (y 0).val) % 256; omega
theorem pb_eq (c : Dev nD) (t : Fin cfg0.N) (y : S256x1024.Idx) :
    pb m c t (tr (y 0)) = m ((c : Thread nD τ).loc main_arg0) (Cert.Reference8Ideal.Rows.atB (tok t y)) := by
  unfold pb
  blk_point [iblk, V, idx t]
  · show _ = (t.val * 256 + (y 0).val) / 256; omega
  · show _ = 256 + (t.val * 256 + (y 0).val) % 256; omega

/-- Every place is the number of a row. -/
def InRange : Prop := ∀ (c : Dev nD) (i : S48x1x512.Idx), (show BitVec 32 from m ((c : Thread nD τ).loc main_arg0) i).toNat < 32768

theorem rows_A (hok : AllOK m) (hr : InRange m) (c : Dev nD) (t : Fin cfg0.N) (y : S256x1024.Idx) :
    rowsAt c (pa m c t) (hok c t).fst (V m c main_arg4) (ix3 (n0 := 1) (n1 := 256) (n2 := 1024) 0 (y 0) (y 1))
      = Cert.Reference8Ideal.Read.val_main_v20 (F := Ideal) (m ((c : Thread nD τ).loc main_arg0)) (m ((c : Thread nD τ).loc main_arg4)) (((cfg0.win 4).blk t).view.emb y) := by
  rw [emb_out]
  refine Eq.trans ?_ (Cert.Reference8Ideal.Rows.row_A (m ((c : Thread nD τ).loc main_arg0)) (m ((c : Thread nD τ).loc main_arg4)) (tok t y) (y 1) (hr c _)).symm
  exact congrArg (m ((c : Thread nD τ).loc main_arg4)) (congrArg (fun n : Fin 32768 => ix2 (n0 := 32768) (n1 := 1024) n (y 1)) (Fin.ext (congrArg BitVec.toNat (pa_eq m c t y))))
theorem rows_B (hok : AllOK m) (hr : InRange m) (c : Dev nD) (t : Fin cfg0.N) (y : S256x1024.Idx) :
    rowsAt c (pb m c t) (hok c t).snd (V m c main_arg4) (ix3 (n0 := 1) (n1 := 256) (n2 := 1024) 0 (y 0) (y 1))
      = Cert.Reference8Ideal.Read.val_main_v32 (F := Ideal) (m ((c : Thread nD τ).loc main_arg0)) (m ((c : Thread nD τ).loc main_arg4)) (((cfg0.win 4).blk t).view.emb y) := by
  rw [emb_out]
  refine Eq.trans ?_ (Cert.Reference8Ideal.Rows.row_B (m ((c : Thread nD τ).loc main_arg0)) (m ((c : Thread nD τ).loc main_arg4)) (tok t y) (y 1) (hr c _)).symm
  exact congrArg (m ((c : Thread nD τ).loc main_arg4)) (congrArg (fun n : Fin 32768 => ix2 (n0 := 32768) (n1 := 1024) n (y 1)) (Fin.ext (congrArg BitVec.toNat (pb_eq m c t y))))

/-- The array after the run. -/
theorem final (hok : AllOK m) (hr : InRange m) (c : Dev nD) : (dats m hok 0 c).arrAt 4 (cfgs 0).N
    = ref (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m hok 0 c).arrAt_eq_of_covers 4 _ (by decide +kernel) fun t _ y => ?_
  blk_simp
  rw [after_4]
  unfold outAt
  exact point m c t _ _ y _ _ (rows_A m hok hr c t y) (rows_B m hok hr c t y)

/-- The run with the result named. -/
theorem run_named (ρ : Dev nD → PrngReg) (hok : AllOK m) : θ_run defs (onTc (τ := τ) (main (F := Ideal))) ⟨m, fun _ => 0, ρ⟩ fun r => ∀ c : Dev nD,
      r.2.mem ((c : Thread nD τ).loc main_v0) = (dats m hok 0 c).arrAt 4 (cfgs 0).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ ⟨h, hz⟩ c => ⟨(h c).1 4, ((h c).1 0).trans (((dats m hok 0 c).arrAt_in 0 rfl _).trans (A_eq m hok c 0)),
      ((h c).1 1).trans (((dats m hok 0 c).arrAt_in 1 rfl _).trans (A_eq m hok c 1)),
      ((h c).1 2).trans (((dats m hok 0 c).arrAt_in 2 rfl _).trans (A_eq m hok c 2)),
      ((h c).1 3).trans (((dats m hok 0 c).arrAt_in 3 rfl _).trans (A_eq m hok c 3)),
      (h c).2.1 main_arg4 (by decide)⟩) (run_main_quiescent m ρ hok)

end Cert.Kernel8Ideal.Rows

end
-- ==== Proof.Combine.Range.lean ====
/-
  The precondition read back: every place is below 32768.
-/
module

public import proofs.«01_k».proof.Pre_names_rows
public import proofs.«01_k».proof.Proof.Gen.Pre_names_rows
public import Idealize.ShloMosaic.Lib.Pointwise
public import Idealize.ShloMosaic.Lib.WordCmp

@[expose] public section

set_option maxRecDepth 16384

noncomputable section

namespace Cert.Pre_names_rows.Range

open Cert.Pre_names_rows Cert.Pre_names_rows.Gen Idealize.ShloMosaic

variable {F : FTy → Type} [FloatOps F]

/-- Where the precondition holds, every place is the number of a row. -/
theorem lt_of_pre (p : IVec S48x1x512 32) (x : FVec F S12288x1024 .f32) (g : FVec F S8x1x1024 .f32) (w : FVec F S12288x128 .f32) (ys : FVec F S32768x1024 .f32)
    (h : fn (F := F) p x g w ys = fun _ => 1#1) (i : S48x1x512.Idx) : (p i).toNat < 32768 := by
  have h0 := congrFun h i
  unfold fn at h0
  pointwise at h0
  rw [show (32768#32 : BitVec 32) = BitVec.ofNat 32 32768 from rfl, WordCmp.andi_sge_zero_slt_ofNat (by decide), WordCmp.ofBool_decide_eq_one_iff] at h0
  exact h0

end Cert.Pre_names_rows.Range

end
-- ==== Proof.Combine.Claims.lean ====
/-
  The claims about the combining call: the frames of the kernel at both readings and of the reference, and the equality
  of their results over the reals.
-/
module

public import proofs.«01_k».proof.Defs
public import proofs.«01_k».proof.Proof.Combine.Bits.Launch
public import proofs.«01_k».proof.Proof.Combine.Value
public import proofs.«01_k».proof.Proof.Combine.Range
public import proofs.«01_k».proof.Proof.Gen.Reference8Ideal.Run
public import Idealize.ShloMosaic.Adequacy
public import Idealize.ShloMosaic.Lib.Quiescent

@[expose] public section

set_option maxRecDepth 16384

noncomputable section

namespace Cert.Proof.Combine

open Idealize.ShloMosaic Idealize.ShloMosaic.TcCoe Idealize.SL.Sem

theorem range_ideal (m : (ℓ : Loc Cert.Kernel8Ideal.nD Cert.Kernel8Ideal.τ Cert.Kernel8Ideal.sig) → Buf (Elt Ideal) ℓ) (h : Pre_Kernel8Ideal m) :
    Cert.Kernel8Ideal.Rows.InRange m := fun c i => Cert.Pre_names_rows.Range.lt_of_pre _ _ _ _ _ (h c) i

/-- THE FRAMES. -/
theorem frame_kernel : quiescent_Kernel8 := fun m g h =>
  Cert.Kernel8.Rows.frame m g (Cert.Kernel8.Rows.ok_of_range m fun c i => Cert.Pre_names_rows.Range.lt_of_pre _ _ _ _ _ (h c) i)

theorem frame_kernelIdeal : quiescent_Kernel8Ideal := fun m g h =>
  Cert.Kernel8Ideal.Rows.frame m g (Cert.Kernel8Ideal.Rows.ok_of_range m (range_ideal m h))

theorem frame_reference : quiescent_Reference8Ideal := fun m g _ =>
  (θ_run _ _ _).mono (fun r h => ⟨fun c => (h c).2, sem_eq_zero_of_no_sems rfl _⟩) (Cert.Reference8Ideal.Value.run m g)

/-- The two runs end with equal results. -/
theorem equal : algebraic_Kernel8Ideal_Reference8Ideal := fun m g m' g' h hag => by
  have hr := range_ideal m h
  have hO := Cert.Kernel8Ideal.Rows.ok_of_range m hr
  refine ⟨fun c => (Cert.Kernel8Ideal.Rows.dats m hO 0 c).arrAt 4 (Cert.Kernel8Ideal.cfgs 0).N, Cert.Kernel8Ideal.Rows.run_named m g hO, ?_⟩
  refine (θ_run _ _ _).mono (fun r hp c => ⟨(hp c).1.trans ?_, (hp c).2⟩) (Cert.Reference8Ideal.Value.run m' g')
  obtain ⟨h0, h1, h2, h3, h4⟩ := hag c
  rw [h0, h1, h2, h3, h4]
  exact (Cert.Kernel8Ideal.Rows.final m hO hr c).symm

end Cert.Proof.Combine

end
-- ==== Proof.lean ====
/-
  The proof of `Cert.Claim`: the claims about the eight calls, each from the module that proves it.

  `Kernel` is the expert call, `Kernel2` the latent attention, `Kernel3` the gated residual projection, `Kernel4` the
  normalised and modulated projection, `Kernel5` the input of the attention block, `Kernel6` the context's attention,
  `Kernel7` the cached context's keys and values and `Kernel8` the combining of the experts' rows. No rewrite was made for the idealizations, so `preserves` says nothing.
-/
module

public import proofs.«01_k».proof.Defs
public import proofs.«01_k».proof.Proof.Experts.Claims
public import proofs.«01_k».proof.Proof.Attention.Claims
public import proofs.«01_k».proof.Proof.OutProj.Claims
public import proofs.«01_k».proof.Proof.InProj.Claims
public import proofs.«01_k».proof.Proof.AttnIn.Claims
public import proofs.«01_k».proof.Proof.CtxAttn.Claims
public import proofs.«01_k».proof.Proof.Expand.Claims
public import proofs.«01_k».proof.Proof.Combine.Claims
public import proofs.«01_k».proof.Proof.Gen.Pre_names_experts
public import proofs.«01_k».proof.Proof.Gen.Pre_scores_finite
public import proofs.«01_k».proof.Proof.Gen.Pre_heads_finite
public import proofs.«01_k».proof.Proof.Gen.Pre_names_rows

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Pre_names_experts.Gen.facts, Cert.Pre_scores_finite.Gen.facts, Cert.Pre_heads_finite.Gen.facts, Cert.Pre_names_rows.Gen.facts,
    Experts.frame_kernel, Experts.frame_kernelIdeal, Experts.frame_reference,
    Attention.frame_kernel, Attention.frame_kernelIdeal, Attention.frame_kernelIdeal_finite, Attention.frame_reference, Attention.frame_reference_finite,
    OutProj.frame_kernel, OutProj.frame_kernelIdeal, OutProj.frame_reference,
    InProj.frame_kernel, InProj.frame_kernelIdeal, InProj.frame_reference,
    AttnIn.frame_kernel, AttnIn.frame_kernelIdeal, AttnIn.frame_reference,
    CtxAttn.frame_kernel, CtxAttn.frame_kernelIdeal, CtxAttn.frame_kernelIdeal_finite, CtxAttn.frame_reference, CtxAttn.frame_reference_finite,
    Expand.frame_kernel, Expand.frame_kernelIdeal, Expand.frame_reference,
    Combine.frame_kernel, Combine.frame_kernelIdeal, Combine.frame_reference,
    trivial, Experts.equal, trivial, Attention.equal, trivial, OutProj.equal, trivial, InProj.equal, trivial, AttnIn.equal,
    trivial, CtxAttn.equal, trivial, Expand.equal, trivial, Combine.equal⟩

end Cert.Proof

end
